-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18)
      ∧ r.2.mem ((c.tc : Thread Cert.Tail.nD Cert.Tail.τ).loc Cert.Tail.main_arg19) = m ((c.tc : Thread Cert.Tail.nD Cert.Tail.τ).loc Cert.Tail.main_arg19)
      ∧ r.2.mem ((c.tc : Thread Cert.Tail.nD Cert.Tail.τ).loc Cert.Tail.main_arg20) = m ((c.tc : Thread Cert.Tail.nD Cert.Tail.τ).loc Cert.Tail.main_arg20)
      ∧ r.2.mem ((c.tc : Thread Cert.Tail.nD Cert.Tail.τ).loc Cert.Tail.main_arg21) = m ((c.tc : Thread Cert.Tail.nD Cert.Tail.τ).loc Cert.Tail.main_arg21)
      ∧ r.2.mem ((c.tc : Thread Cert.Tail.nD Cert.Tail.τ).loc Cert.Tail.main_arg22) = m ((c.tc : Thread Cert.Tail.nD Cert.Tail.τ).loc Cert.Tail.main_arg22)
      ∧ r.2.mem ((c.tc : Thread Cert.Tail.nD Cert.Tail.τ).loc Cert.Tail.main_arg23) = m ((c.tc : Thread Cert.Tail.nD Cert.Tail.τ).loc Cert.Tail.main_arg23)
      ∧ r.2.mem ((c.tc : Thread Cert.Tail.nD Cert.Tail.τ).loc Cert.Tail.main_arg24) = m ((c.tc : Thread Cert.Tail.nD Cert.Tail.τ).loc Cert.Tail.main_arg24))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
      ∧ r.2.mem ((c.tc : Thread Cert.TailIdeal.nD Cert.TailIdeal.τ).loc Cert.TailIdeal.main_arg19) = m ((c.tc : Thread Cert.TailIdeal.nD Cert.TailIdeal.τ).loc Cert.TailIdeal.main_arg19)
      ∧ r.2.mem ((c.tc : Thread Cert.TailIdeal.nD Cert.TailIdeal.τ).loc Cert.TailIdeal.main_arg20) = m ((c.tc : Thread Cert.TailIdeal.nD Cert.TailIdeal.τ).loc Cert.TailIdeal.main_arg20)
      ∧ r.2.mem ((c.tc : Thread Cert.TailIdeal.nD Cert.TailIdeal.τ).loc Cert.TailIdeal.main_arg21) = m ((c.tc : Thread Cert.TailIdeal.nD Cert.TailIdeal.τ).loc Cert.TailIdeal.main_arg21)
      ∧ r.2.mem ((c.tc : Thread Cert.TailIdeal.nD Cert.TailIdeal.τ).loc Cert.TailIdeal.main_arg22) = m ((c.tc : Thread Cert.TailIdeal.nD Cert.TailIdeal.τ).loc Cert.TailIdeal.main_arg22)
      ∧ r.2.mem ((c.tc : Thread Cert.TailIdeal.nD Cert.TailIdeal.τ).loc Cert.TailIdeal.main_arg23) = m ((c.tc : Thread Cert.TailIdeal.nD Cert.TailIdeal.τ).loc Cert.TailIdeal.main_arg23)
      ∧ r.2.mem ((c.tc : Thread Cert.TailIdeal.nD Cert.TailIdeal.τ).loc Cert.TailIdeal.main_arg24) = m ((c.tc : Thread Cert.TailIdeal.nD Cert.TailIdeal.τ).loc Cert.TailIdeal.main_arg24))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9)
      ∧ r.2.mem ((c.tc : Thread Cert.ReferenceTailIdeal.nD Cert.ReferenceTailIdeal.τ).loc Cert.ReferenceTailIdeal.main_arg10) = m ((c.tc : Thread Cert.ReferenceTailIdeal.nD Cert.ReferenceTailIdeal.τ).loc Cert.ReferenceTailIdeal.main_arg10)
      ∧ r.2.mem ((c.tc : Thread Cert.ReferenceTailIdeal.nD Cert.ReferenceTailIdeal.τ).loc Cert.ReferenceTailIdeal.main_arg11) = m ((c.tc : Thread Cert.ReferenceTailIdeal.nD Cert.ReferenceTailIdeal.τ).loc Cert.ReferenceTailIdeal.main_arg11)
      ∧ r.2.mem ((c.tc : Thread Cert.ReferenceTailIdeal.nD Cert.ReferenceTailIdeal.τ).loc Cert.ReferenceTailIdeal.main_arg12) = m ((c.tc : Thread Cert.ReferenceTailIdeal.nD Cert.ReferenceTailIdeal.τ).loc Cert.ReferenceTailIdeal.main_arg12)
      ∧ r.2.mem ((c.tc : Thread Cert.ReferenceTailIdeal.nD Cert.ReferenceTailIdeal.τ).loc Cert.ReferenceTailIdeal.main_arg13) = m ((c.tc : Thread Cert.ReferenceTailIdeal.nD Cert.ReferenceTailIdeal.τ).loc Cert.ReferenceTailIdeal.main_arg13)
      ∧ r.2.mem ((c.tc : Thread Cert.ReferenceTailIdeal.nD Cert.ReferenceTailIdeal.τ).loc Cert.ReferenceTailIdeal.main_arg14) = m ((c.tc : Thread Cert.ReferenceTailIdeal.nD Cert.ReferenceTailIdeal.τ).loc Cert.ReferenceTailIdeal.main_arg14)
      ∧ r.2.mem ((c.tc : Thread Cert.ReferenceTailIdeal.nD Cert.ReferenceTailIdeal.τ).loc Cert.ReferenceTailIdeal.main_arg15) = m ((c.tc : Thread Cert.ReferenceTailIdeal.nD Cert.ReferenceTailIdeal.τ).loc Cert.ReferenceTailIdeal.main_arg15)
      ∧ r.2.mem ((c.tc : Thread Cert.ReferenceTailIdeal.nD Cert.ReferenceTailIdeal.τ).loc Cert.ReferenceTailIdeal.main_arg16) = m ((c.tc : Thread Cert.ReferenceTailIdeal.nD Cert.ReferenceTailIdeal.τ).loc Cert.ReferenceTailIdeal.main_arg16)
      ∧ r.2.mem ((c.tc : Thread Cert.ReferenceTailIdeal.nD Cert.ReferenceTailIdeal.τ).loc Cert.ReferenceTailIdeal.main_arg17) = m ((c.tc : Thread Cert.ReferenceTailIdeal.nD Cert.ReferenceTailIdeal.τ).loc Cert.ReferenceTailIdeal.main_arg17)
      ∧ r.2.mem ((c.tc : Thread Cert.ReferenceTailIdeal.nD Cert.ReferenceTailIdeal.τ).loc Cert.ReferenceTailIdeal.main_arg18) = m ((c.tc : Thread Cert.ReferenceTailIdeal.nD Cert.ReferenceTailIdeal.τ).loc Cert.ReferenceTailIdeal.main_arg18)
      ∧ r.2.mem ((c.tc : Thread Cert.ReferenceTailIdeal.nD Cert.ReferenceTailIdeal.τ).loc Cert.ReferenceTailIdeal.main_arg19) = m ((c.tc : Thread Cert.ReferenceTailIdeal.nD Cert.ReferenceTailIdeal.τ).loc Cert.ReferenceTailIdeal.main_arg19)
      ∧ r.2.mem ((c.tc : Thread Cert.ReferenceTailIdeal.nD Cert.ReferenceTailIdeal.τ).loc Cert.ReferenceTailIdeal.main_arg20) = m ((c.tc : Thread Cert.ReferenceTailIdeal.nD Cert.ReferenceTailIdeal.τ).loc Cert.ReferenceTailIdeal.main_arg20)
      ∧ r.2.mem ((c.tc : Thread Cert.ReferenceTailIdeal.nD Cert.ReferenceTailIdeal.τ).loc Cert.ReferenceTailIdeal.main_arg21) = m ((c.tc : Thread Cert.ReferenceTailIdeal.nD Cert.ReferenceTailIdeal.τ).loc Cert.ReferenceTailIdeal.main_arg21)
      ∧ r.2.mem ((c.tc : Thread Cert.ReferenceTailIdeal.nD Cert.ReferenceTailIdeal.τ).loc Cert.ReferenceTailIdeal.main_arg22) = m ((c.tc : Thread Cert.ReferenceTailIdeal.nD Cert.ReferenceTailIdeal.τ).loc Cert.ReferenceTailIdeal.main_arg22)
      ∧ r.2.mem ((c.tc : Thread Cert.ReferenceTailIdeal.nD Cert.ReferenceTailIdeal.τ).loc Cert.ReferenceTailIdeal.main_arg23) = m ((c.tc : Thread Cert.ReferenceTailIdeal.nD Cert.ReferenceTailIdeal.τ).loc Cert.ReferenceTailIdeal.main_arg23)
      ∧ r.2.mem ((c.tc : Thread Cert.ReferenceTailIdeal.nD Cert.ReferenceTailIdeal.τ).loc Cert.ReferenceTailIdeal.main_arg24) = m ((c.tc : Thread Cert.ReferenceTailIdeal.nD Cert.ReferenceTailIdeal.τ).loc Cert.ReferenceTailIdeal.main_arg24))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5)
      ∧ r.2.mem ((c.tc : Thread Cert.KernelC.nD Cert.KernelC.τ).loc Cert.KernelC.main_arg6) = m ((c.tc : Thread Cert.KernelC.nD Cert.KernelC.τ).loc Cert.KernelC.main_arg6)
      ∧ r.2.mem ((c.tc : Thread Cert.KernelC.nD Cert.KernelC.τ).loc Cert.KernelC.main_arg7) = m ((c.tc : Thread Cert.KernelC.nD Cert.KernelC.τ).loc Cert.KernelC.main_arg7)
      ∧ r.2.mem ((c.tc : Thread Cert.KernelC.nD Cert.KernelC.τ).loc Cert.KernelC.main_arg8) = m ((c.tc : Thread Cert.KernelC.nD Cert.KernelC.τ).loc Cert.KernelC.main_arg8)
      ∧ r.2.mem ((c.tc : Thread Cert.KernelC.nD Cert.KernelC.τ).loc Cert.KernelC.main_arg9) = m ((c.tc : Thread Cert.KernelC.nD Cert.KernelC.τ).loc Cert.KernelC.main_arg9)
      ∧ r.2.mem ((c.tc : Thread Cert.KernelC.nD Cert.KernelC.τ).loc Cert.KernelC.main_arg10) = m ((c.tc : Thread Cert.KernelC.nD Cert.KernelC.τ).loc Cert.KernelC.main_arg10)
      ∧ r.2.mem ((c.tc : Thread Cert.KernelC.nD Cert.KernelC.τ).loc Cert.KernelC.main_arg11) = m ((c.tc : Thread Cert.KernelC.nD Cert.KernelC.τ).loc Cert.KernelC.main_arg11)
      ∧ r.2.mem ((c.tc : Thread Cert.KernelC.nD Cert.KernelC.τ).loc Cert.KernelC.main_arg12) = m ((c.tc : Thread Cert.KernelC.nD Cert.KernelC.τ).loc Cert.KernelC.main_arg12)
      ∧ r.2.mem ((c.tc : Thread Cert.KernelC.nD Cert.KernelC.τ).loc Cert.KernelC.main_arg13) = m ((c.tc : Thread Cert.KernelC.nD Cert.KernelC.τ).loc Cert.KernelC.main_arg13)
      ∧ r.2.mem ((c.tc : Thread Cert.KernelC.nD Cert.KernelC.τ).loc Cert.KernelC.main_arg14) = m ((c.tc : Thread Cert.KernelC.nD Cert.KernelC.τ).loc Cert.KernelC.main_arg14)
      ∧ r.2.mem ((c.tc : Thread Cert.KernelC.nD Cert.KernelC.τ).loc Cert.KernelC.main_arg15) = m ((c.tc : Thread Cert.KernelC.nD Cert.KernelC.τ).loc Cert.KernelC.main_arg15)
      ∧ r.2.mem ((c.tc : Thread Cert.KernelC.nD Cert.KernelC.τ).loc Cert.KernelC.main_arg16) = m ((c.tc : Thread Cert.KernelC.nD Cert.KernelC.τ).loc Cert.KernelC.main_arg16)
      ∧ r.2.mem ((c.tc : Thread Cert.KernelC.nD Cert.KernelC.τ).loc Cert.KernelC.main_arg17) = m ((c.tc : Thread Cert.KernelC.nD Cert.KernelC.τ).loc Cert.KernelC.main_arg17)
      ∧ r.2.mem ((c.tc : Thread Cert.KernelC.nD Cert.KernelC.τ).loc Cert.KernelC.main_arg18) = m ((c.tc : Thread Cert.KernelC.nD Cert.KernelC.τ).loc Cert.KernelC.main_arg18)
      ∧ r.2.mem ((c.tc : Thread Cert.KernelC.nD Cert.KernelC.τ).loc Cert.KernelC.main_arg19) = m ((c.tc : Thread Cert.KernelC.nD Cert.KernelC.τ).loc Cert.KernelC.main_arg19)
      ∧ r.2.mem ((c.tc : Thread Cert.KernelC.nD Cert.KernelC.τ).loc Cert.KernelC.main_arg20) = m ((c.tc : Thread Cert.KernelC.nD Cert.KernelC.τ).loc Cert.KernelC.main_arg20)
      ∧ r.2.mem ((c.tc : Thread Cert.KernelC.nD Cert.KernelC.τ).loc Cert.KernelC.main_arg21) = m ((c.tc : Thread Cert.KernelC.nD Cert.KernelC.τ).loc Cert.KernelC.main_arg21)
      ∧ r.2.mem ((c.tc : Thread Cert.KernelC.nD Cert.KernelC.τ).loc Cert.KernelC.main_arg22) = m ((c.tc : Thread Cert.KernelC.nD Cert.KernelC.τ).loc Cert.KernelC.main_arg22)
      ∧ r.2.mem ((c.tc : Thread Cert.KernelC.nD Cert.KernelC.τ).loc Cert.KernelC.main_arg23) = m ((c.tc : Thread Cert.KernelC.nD Cert.KernelC.τ).loc Cert.KernelC.main_arg23)
      ∧ r.2.mem ((c.tc : Thread Cert.KernelC.nD Cert.KernelC.τ).loc Cert.KernelC.main_arg24) = m ((c.tc : Thread Cert.KernelC.nD Cert.KernelC.τ).loc Cert.KernelC.main_arg24)
      ∧ r.2.mem ((c.tc : Thread Cert.KernelC.nD Cert.KernelC.τ).loc Cert.KernelC.main_arg25) = m ((c.tc : Thread Cert.KernelC.nD Cert.KernelC.τ).loc Cert.KernelC.main_arg25)
      ∧ r.2.mem ((c.tc : Thread Cert.KernelC.nD Cert.KernelC.τ).loc Cert.KernelC.main_arg26) = m ((c.tc : Thread Cert.KernelC.nD Cert.KernelC.τ).loc Cert.KernelC.main_arg26))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7)
      ∧ r.2.mem ((c.tc : Thread Cert.KernelCIdeal.nD Cert.KernelCIdeal.τ).loc Cert.KernelCIdeal.main_arg8) = m ((c.tc : Thread Cert.KernelCIdeal.nD Cert.KernelCIdeal.τ).loc Cert.KernelCIdeal.main_arg8)
      ∧ r.2.mem ((c.tc : Thread Cert.KernelCIdeal.nD Cert.KernelCIdeal.τ).loc Cert.KernelCIdeal.main_arg9) = m ((c.tc : Thread Cert.KernelCIdeal.nD Cert.KernelCIdeal.τ).loc Cert.KernelCIdeal.main_arg9)
      ∧ r.2.mem ((c.tc : Thread Cert.KernelCIdeal.nD Cert.KernelCIdeal.τ).loc Cert.KernelCIdeal.main_arg10) = m ((c.tc : Thread Cert.KernelCIdeal.nD Cert.KernelCIdeal.τ).loc Cert.KernelCIdeal.main_arg10)
      ∧ r.2.mem ((c.tc : Thread Cert.KernelCIdeal.nD Cert.KernelCIdeal.τ).loc Cert.KernelCIdeal.main_arg11) = m ((c.tc : Thread Cert.KernelCIdeal.nD Cert.KernelCIdeal.τ).loc Cert.KernelCIdeal.main_arg11)
      ∧ r.2.mem ((c.tc : Thread Cert.KernelCIdeal.nD Cert.KernelCIdeal.τ).loc Cert.KernelCIdeal.main_arg12) = m ((c.tc : Thread Cert.KernelCIdeal.nD Cert.KernelCIdeal.τ).loc Cert.KernelCIdeal.main_arg12)
      ∧ r.2.mem ((c.tc : Thread Cert.KernelCIdeal.nD Cert.KernelCIdeal.τ).loc Cert.KernelCIdeal.main_arg13) = m ((c.tc : Thread Cert.KernelCIdeal.nD Cert.KernelCIdeal.τ).loc Cert.KernelCIdeal.main_arg13)
      ∧ r.2.mem ((c.tc : Thread Cert.KernelCIdeal.nD Cert.KernelCIdeal.τ).loc Cert.KernelCIdeal.main_arg14) = m ((c.tc : Thread Cert.KernelCIdeal.nD Cert.KernelCIdeal.τ).loc Cert.KernelCIdeal.main_arg14)
      ∧ r.2.mem ((c.tc : Thread Cert.KernelCIdeal.nD Cert.KernelCIdeal.τ).loc Cert.KernelCIdeal.main_arg15) = m ((c.tc : Thread Cert.KernelCIdeal.nD Cert.KernelCIdeal.τ).loc Cert.KernelCIdeal.main_arg15)
      ∧ r.2.mem ((c.tc : Thread Cert.KernelCIdeal.nD Cert.KernelCIdeal.τ).loc Cert.KernelCIdeal.main_arg16) = m ((c.tc : Thread Cert.KernelCIdeal.nD Cert.KernelCIdeal.τ).loc Cert.KernelCIdeal.main_arg16)
      ∧ r.2.mem ((c.tc : Thread Cert.KernelCIdeal.nD Cert.KernelCIdeal.τ).loc Cert.KernelCIdeal.main_arg17) = m ((c.tc : Thread Cert.KernelCIdeal.nD Cert.KernelCIdeal.τ).loc Cert.KernelCIdeal.main_arg17)
      ∧ r.2.mem ((c.tc : Thread Cert.KernelCIdeal.nD Cert.KernelCIdeal.τ).loc Cert.KernelCIdeal.main_arg18) = m ((c.tc : Thread Cert.KernelCIdeal.nD Cert.KernelCIdeal.τ).loc Cert.KernelCIdeal.main_arg18)
      ∧ r.2.mem ((c.tc : Thread Cert.KernelCIdeal.nD Cert.KernelCIdeal.τ).loc Cert.KernelCIdeal.main_arg19) = m ((c.tc : Thread Cert.KernelCIdeal.nD Cert.KernelCIdeal.τ).loc Cert.KernelCIdeal.main_arg19)
      ∧ r.2.mem ((c.tc : Thread Cert.KernelCIdeal.nD Cert.KernelCIdeal.τ).loc Cert.KernelCIdeal.main_arg20) = m ((c.tc : Thread Cert.KernelCIdeal.nD Cert.KernelCIdeal.τ).loc Cert.KernelCIdeal.main_arg20)
      ∧ r.2.mem ((c.tc : Thread Cert.KernelCIdeal.nD Cert.KernelCIdeal.τ).loc Cert.KernelCIdeal.main_arg21) = m ((c.tc : Thread Cert.KernelCIdeal.nD Cert.KernelCIdeal.τ).loc Cert.KernelCIdeal.main_arg21)
      ∧ r.2.mem ((c.tc : Thread Cert.KernelCIdeal.nD Cert.KernelCIdeal.τ).loc Cert.KernelCIdeal.main_arg22) = m ((c.tc : Thread Cert.KernelCIdeal.nD Cert.KernelCIdeal.τ).loc Cert.KernelCIdeal.main_arg22)
      ∧ r.2.mem ((c.tc : Thread Cert.KernelCIdeal.nD Cert.KernelCIdeal.τ).loc Cert.KernelCIdeal.main_arg23) = m ((c.tc : Thread Cert.KernelCIdeal.nD Cert.KernelCIdeal.τ).loc Cert.KernelCIdeal.main_arg23)
      ∧ r.2.mem ((c.tc : Thread Cert.KernelCIdeal.nD Cert.KernelCIdeal.τ).loc Cert.KernelCIdeal.main_arg24) = m ((c.tc : Thread Cert.KernelCIdeal.nD Cert.KernelCIdeal.τ).loc Cert.KernelCIdeal.main_arg24)
      ∧ r.2.mem ((c.tc : Thread Cert.KernelCIdeal.nD Cert.KernelCIdeal.τ).loc Cert.KernelCIdeal.main_arg25) = m ((c.tc : Thread Cert.KernelCIdeal.nD Cert.KernelCIdeal.τ).loc Cert.KernelCIdeal.main_arg25)
      ∧ r.2.mem ((c.tc : Thread Cert.KernelCIdeal.nD Cert.KernelCIdeal.τ).loc Cert.KernelCIdeal.main_arg26) = m ((c.tc : Thread Cert.KernelCIdeal.nD Cert.KernelCIdeal.τ).loc Cert.KernelCIdeal.main_arg26))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7)
      ∧ r.2.mem ((c.tc : Thread Cert.ReferenceCIdeal.nD Cert.ReferenceCIdeal.τ).loc Cert.ReferenceCIdeal.main_arg8) = m ((c.tc : Thread Cert.ReferenceCIdeal.nD Cert.ReferenceCIdeal.τ).loc Cert.ReferenceCIdeal.main_arg8)
      ∧ r.2.mem ((c.tc : Thread Cert.ReferenceCIdeal.nD Cert.ReferenceCIdeal.τ).loc Cert.ReferenceCIdeal.main_arg9) = m ((c.tc : Thread Cert.ReferenceCIdeal.nD Cert.ReferenceCIdeal.τ).loc Cert.ReferenceCIdeal.main_arg9)
      ∧ r.2.mem ((c.tc : Thread Cert.ReferenceCIdeal.nD Cert.ReferenceCIdeal.τ).loc Cert.ReferenceCIdeal.main_arg10) = m ((c.tc : Thread Cert.ReferenceCIdeal.nD Cert.ReferenceCIdeal.τ).loc Cert.ReferenceCIdeal.main_arg10)
      ∧ r.2.mem ((c.tc : Thread Cert.ReferenceCIdeal.nD Cert.ReferenceCIdeal.τ).loc Cert.ReferenceCIdeal.main_arg11) = m ((c.tc : Thread Cert.ReferenceCIdeal.nD Cert.ReferenceCIdeal.τ).loc Cert.ReferenceCIdeal.main_arg11)
      ∧ r.2.mem ((c.tc : Thread Cert.ReferenceCIdeal.nD Cert.ReferenceCIdeal.τ).loc Cert.ReferenceCIdeal.main_arg12) = m ((c.tc : Thread Cert.ReferenceCIdeal.nD Cert.ReferenceCIdeal.τ).loc Cert.ReferenceCIdeal.main_arg12)
      ∧ r.2.mem ((c.tc : Thread Cert.ReferenceCIdeal.nD Cert.ReferenceCIdeal.τ).loc Cert.ReferenceCIdeal.main_arg13) = m ((c.tc : Thread Cert.ReferenceCIdeal.nD Cert.ReferenceCIdeal.τ).loc Cert.ReferenceCIdeal.main_arg13)
      ∧ r.2.mem ((c.tc : Thread Cert.ReferenceCIdeal.nD Cert.ReferenceCIdeal.τ).loc Cert.ReferenceCIdeal.main_arg14) = m ((c.tc : Thread Cert.ReferenceCIdeal.nD Cert.ReferenceCIdeal.τ).loc Cert.ReferenceCIdeal.main_arg14)
      ∧ r.2.mem ((c.tc : Thread Cert.ReferenceCIdeal.nD Cert.ReferenceCIdeal.τ).loc Cert.ReferenceCIdeal.main_arg15) = m ((c.tc : Thread Cert.ReferenceCIdeal.nD Cert.ReferenceCIdeal.τ).loc Cert.ReferenceCIdeal.main_arg15)
      ∧ r.2.mem ((c.tc : Thread Cert.ReferenceCIdeal.nD Cert.ReferenceCIdeal.τ).loc Cert.ReferenceCIdeal.main_arg16) = m ((c.tc : Thread Cert.ReferenceCIdeal.nD Cert.ReferenceCIdeal.τ).loc Cert.ReferenceCIdeal.main_arg16)
      ∧ r.2.mem ((c.tc : Thread Cert.ReferenceCIdeal.nD Cert.ReferenceCIdeal.τ).loc Cert.ReferenceCIdeal.main_arg17) = m ((c.tc : Thread Cert.ReferenceCIdeal.nD Cert.ReferenceCIdeal.τ).loc Cert.ReferenceCIdeal.main_arg17)
      ∧ r.2.mem ((c.tc : Thread Cert.ReferenceCIdeal.nD Cert.ReferenceCIdeal.τ).loc Cert.ReferenceCIdeal.main_arg18) = m ((c.tc : Thread Cert.ReferenceCIdeal.nD Cert.ReferenceCIdeal.τ).loc Cert.ReferenceCIdeal.main_arg18)
      ∧ r.2.mem ((c.tc : Thread Cert.ReferenceCIdeal.nD Cert.ReferenceCIdeal.τ).loc Cert.ReferenceCIdeal.main_arg19) = m ((c.tc : Thread Cert.ReferenceCIdeal.nD Cert.ReferenceCIdeal.τ).loc Cert.ReferenceCIdeal.main_arg19)
      ∧ r.2.mem ((c.tc : Thread Cert.ReferenceCIdeal.nD Cert.ReferenceCIdeal.τ).loc Cert.ReferenceCIdeal.main_arg20) = m ((c.tc : Thread Cert.ReferenceCIdeal.nD Cert.ReferenceCIdeal.τ).loc Cert.ReferenceCIdeal.main_arg20)
      ∧ r.2.mem ((c.tc : Thread Cert.ReferenceCIdeal.nD Cert.ReferenceCIdeal.τ).loc Cert.ReferenceCIdeal.main_arg21) = m ((c.tc : Thread Cert.ReferenceCIdeal.nD Cert.ReferenceCIdeal.τ).loc Cert.ReferenceCIdeal.main_arg21)
      ∧ r.2.mem ((c.tc : Thread Cert.ReferenceCIdeal.nD Cert.ReferenceCIdeal.τ).loc Cert.ReferenceCIdeal.main_arg22) = m ((c.tc : Thread Cert.ReferenceCIdeal.nD Cert.ReferenceCIdeal.τ).loc Cert.ReferenceCIdeal.main_arg22)
      ∧ r.2.mem ((c.tc : Thread Cert.ReferenceCIdeal.nD Cert.ReferenceCIdeal.τ).loc Cert.ReferenceCIdeal.main_arg23) = m ((c.tc : Thread Cert.ReferenceCIdeal.nD Cert.ReferenceCIdeal.τ).loc Cert.ReferenceCIdeal.main_arg23)
      ∧ r.2.mem ((c.tc : Thread Cert.ReferenceCIdeal.nD Cert.ReferenceCIdeal.τ).loc Cert.ReferenceCIdeal.main_arg24) = m ((c.tc : Thread Cert.ReferenceCIdeal.nD Cert.ReferenceCIdeal.τ).loc Cert.ReferenceCIdeal.main_arg24)
      ∧ r.2.mem ((c.tc : Thread Cert.ReferenceCIdeal.nD Cert.ReferenceCIdeal.τ).loc Cert.ReferenceCIdeal.main_arg25) = m ((c.tc : Thread Cert.ReferenceCIdeal.nD Cert.ReferenceCIdeal.τ).loc Cert.ReferenceCIdeal.main_arg25)
      ∧ r.2.mem ((c.tc : Thread Cert.ReferenceCIdeal.nD Cert.ReferenceCIdeal.τ).loc Cert.ReferenceCIdeal.main_arg26) = m ((c.tc : Thread Cert.ReferenceCIdeal.nD Cert.ReferenceCIdeal.τ).loc Cert.ReferenceCIdeal.main_arg26))
      ∧ r.2.sem = fun _ => 0)

def preserves_Kernel_KernelIdeal : Prop :=
  True

def preserves_Tail_TailIdeal : Prop :=
  True

def algebraic_TailIdeal_ReferenceTailIdeal [hTailIdeal : Cert.TailIdeal.Facts] [hReferenceTailIdeal : Cert.ReferenceTailIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_TailIdeal m →
    (∀ c : Dev Cert.TailIdeal.nD,
      m' ((c.tc : Thread Cert.ReferenceTailIdeal.nD Cert.ReferenceTailIdeal.τ).loc Cert.ReferenceTailIdeal.main_arg0) = m ((c.tc : Thread Cert.TailIdeal.nD Cert.TailIdeal.τ).loc Cert.TailIdeal.main_arg0)
      ∧ m' ((c.tc : Thread Cert.ReferenceTailIdeal.nD Cert.ReferenceTailIdeal.τ).loc Cert.ReferenceTailIdeal.main_arg1) = m ((c.tc : Thread Cert.TailIdeal.nD Cert.TailIdeal.τ).loc Cert.TailIdeal.main_arg1)
      ∧ m' ((c.tc : Thread Cert.ReferenceTailIdeal.nD Cert.ReferenceTailIdeal.τ).loc Cert.ReferenceTailIdeal.main_arg2) = m ((c.tc : Thread Cert.TailIdeal.nD Cert.TailIdeal.τ).loc Cert.TailIdeal.main_arg2)
      ∧ m' ((c.tc : Thread Cert.ReferenceTailIdeal.nD Cert.ReferenceTailIdeal.τ).loc Cert.ReferenceTailIdeal.main_arg3) = m ((c.tc : Thread Cert.TailIdeal.nD Cert.TailIdeal.τ).loc Cert.TailIdeal.main_arg3)
      ∧ m' ((c.tc : Thread Cert.ReferenceTailIdeal.nD Cert.ReferenceTailIdeal.τ).loc Cert.ReferenceTailIdeal.main_arg4) = m ((c.tc : Thread Cert.TailIdeal.nD Cert.TailIdeal.τ).loc Cert.TailIdeal.main_arg4)
      ∧ m' ((c.tc : Thread Cert.ReferenceTailIdeal.nD Cert.ReferenceTailIdeal.τ).loc Cert.ReferenceTailIdeal.main_arg5) = m ((c.tc : Thread Cert.TailIdeal.nD Cert.TailIdeal.τ).loc Cert.TailIdeal.main_arg5)
      ∧ m' ((c.tc : Thread Cert.ReferenceTailIdeal.nD Cert.ReferenceTailIdeal.τ).loc Cert.ReferenceTailIdeal.main_arg6) = m ((c.tc : Thread Cert.TailIdeal.nD Cert.TailIdeal.τ).loc Cert.TailIdeal.main_arg6)
      ∧ m' ((c.tc : Thread Cert.ReferenceTailIdeal.nD Cert.ReferenceTailIdeal.τ).loc Cert.ReferenceTailIdeal.main_arg7) = m ((c.tc : Thread Cert.TailIdeal.nD Cert.TailIdeal.τ).loc Cert.TailIdeal.main_arg7)
      ∧ m' ((c.tc : Thread Cert.ReferenceTailIdeal.nD Cert.ReferenceTailIdeal.τ).loc Cert.ReferenceTailIdeal.main_arg8) = m ((c.tc : Thread Cert.TailIdeal.nD Cert.TailIdeal.τ).loc Cert.TailIdeal.main_arg8)
      ∧ m' ((c.tc : Thread Cert.ReferenceTailIdeal.nD Cert.ReferenceTailIdeal.τ).loc Cert.ReferenceTailIdeal.main_arg9) = m ((c.tc : Thread Cert.TailIdeal.nD Cert.TailIdeal.τ).loc Cert.TailIdeal.main_arg9)
      ∧ m' ((c.tc : Thread Cert.ReferenceTailIdeal.nD Cert.ReferenceTailIdeal.τ).loc Cert.ReferenceTailIdeal.main_arg10) = m ((c.tc : Thread Cert.TailIdeal.nD Cert.TailIdeal.τ).loc Cert.TailIdeal.main_arg10)
      ∧ m' ((c.tc : Thread Cert.ReferenceTailIdeal.nD Cert.ReferenceTailIdeal.τ).loc Cert.ReferenceTailIdeal.main_arg11) = m ((c.tc : Thread Cert.TailIdeal.nD Cert.TailIdeal.τ).loc Cert.TailIdeal.main_arg11)
      ∧ m' ((c.tc : Thread Cert.ReferenceTailIdeal.nD Cert.ReferenceTailIdeal.τ).loc Cert.ReferenceTailIdeal.main_arg12) = m ((c.tc : Thread Cert.TailIdeal.nD Cert.TailIdeal.τ).loc Cert.TailIdeal.main_arg12)
      ∧ m' ((c.tc : Thread Cert.ReferenceTailIdeal.nD Cert.ReferenceTailIdeal.τ).loc Cert.ReferenceTailIdeal.main_arg13) = m ((c.tc : Thread Cert.TailIdeal.nD Cert.TailIdeal.τ).loc Cert.TailIdeal.main_arg13)
      ∧ m' ((c.tc : Thread Cert.ReferenceTailIdeal.nD Cert.ReferenceTailIdeal.τ).loc Cert.ReferenceTailIdeal.main_arg14) = m ((c.tc : Thread Cert.TailIdeal.nD Cert.TailIdeal.τ).loc Cert.TailIdeal.main_arg14)
      ∧ m' ((c.tc : Thread Cert.ReferenceTailIdeal.nD Cert.ReferenceTailIdeal.τ).loc Cert.ReferenceTailIdeal.main_arg15) = m ((c.tc : Thread Cert.TailIdeal.nD Cert.TailIdeal.τ).loc Cert.TailIdeal.main_arg15)
      ∧ m' ((c.tc : Thread Cert.ReferenceTailIdeal.nD Cert.ReferenceTailIdeal.τ).loc Cert.ReferenceTailIdeal.main_arg16) = m ((c.tc : Thread Cert.TailIdeal.nD Cert.TailIdeal.τ).loc Cert.TailIdeal.main_arg16)
      ∧ m' ((c.tc : Thread Cert.ReferenceTailIdeal.nD Cert.ReferenceTailIdeal.τ).loc Cert.ReferenceTailIdeal.main_arg17) = m ((c.tc : Thread Cert.TailIdeal.nD Cert.TailIdeal.τ).loc Cert.TailIdeal.main_arg17)
      ∧ m' ((c.tc : Thread Cert.ReferenceTailIdeal.nD Cert.ReferenceTailIdeal.τ).loc Cert.ReferenceTailIdeal.main_arg18) = m ((c.tc : Thread Cert.TailIdeal.nD Cert.TailIdeal.τ).loc Cert.TailIdeal.main_arg18)
      ∧ m' ((c.tc : Thread Cert.ReferenceTailIdeal.nD Cert.ReferenceTailIdeal.τ).loc Cert.ReferenceTailIdeal.main_arg19) = m ((c.tc : Thread Cert.TailIdeal.nD Cert.TailIdeal.τ).loc Cert.TailIdeal.main_arg19)
      ∧ m' ((c.tc : Thread Cert.ReferenceTailIdeal.nD Cert.ReferenceTailIdeal.τ).loc Cert.ReferenceTailIdeal.main_arg20) = m ((c.tc : Thread Cert.TailIdeal.nD Cert.TailIdeal.τ).loc Cert.TailIdeal.main_arg20)
      ∧ m' ((c.tc : Thread Cert.ReferenceTailIdeal.nD Cert.ReferenceTailIdeal.τ).loc Cert.ReferenceTailIdeal.main_arg21) = m ((c.tc : Thread Cert.TailIdeal.nD Cert.TailIdeal.τ).loc Cert.TailIdeal.main_arg21)
      ∧ m' ((c.tc : Thread Cert.ReferenceTailIdeal.nD Cert.ReferenceTailIdeal.τ).loc Cert.ReferenceTailIdeal.main_arg22) = m ((c.tc : Thread Cert.TailIdeal.nD Cert.TailIdeal.τ).loc Cert.TailIdeal.main_arg22)
      ∧ m' ((c.tc : Thread Cert.ReferenceTailIdeal.nD Cert.ReferenceTailIdeal.τ).loc Cert.ReferenceTailIdeal.main_arg23) = m ((c.tc : Thread Cert.TailIdeal.nD Cert.TailIdeal.τ).loc Cert.TailIdeal.main_arg23)
      ∧ m' ((c.tc : Thread Cert.ReferenceTailIdeal.nD Cert.ReferenceTailIdeal.τ).loc Cert.ReferenceTailIdeal.main_arg24) = m ((c.tc : Thread Cert.TailIdeal.nD Cert.TailIdeal.τ).loc Cert.TailIdeal.main_arg24)) →
    ∃ (v0 : (c : Dev Cert.TailIdeal.nD) → Buf (Elt Ideal) ((c.tc : Thread Cert.TailIdeal.nD Cert.TailIdeal.τ).loc Cert.TailIdeal.main_v57_0)) (v1 : (c : Dev Cert.TailIdeal.nD) → Buf (Elt Ideal) ((c.tc : Thread Cert.TailIdeal.nD Cert.TailIdeal.τ).loc Cert.TailIdeal.main_v57_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v57_0) = v0 c
          ∧ r.2.mem ((c.tc : Thread Cert.TailIdeal.nD Cert.TailIdeal.τ).loc Cert.TailIdeal.main_v57_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
          ∧ r.2.mem ((c.tc : Thread Cert.TailIdeal.nD Cert.TailIdeal.τ).loc Cert.TailIdeal.main_arg19) = m ((c.tc : Thread Cert.TailIdeal.nD Cert.TailIdeal.τ).loc Cert.TailIdeal.main_arg19)
          ∧ r.2.mem ((c.tc : Thread Cert.TailIdeal.nD Cert.TailIdeal.τ).loc Cert.TailIdeal.main_arg20) = m ((c.tc : Thread Cert.TailIdeal.nD Cert.TailIdeal.τ).loc Cert.TailIdeal.main_arg20)
          ∧ r.2.mem ((c.tc : Thread Cert.TailIdeal.nD Cert.TailIdeal.τ).loc Cert.TailIdeal.main_arg21) = m ((c.tc : Thread Cert.TailIdeal.nD Cert.TailIdeal.τ).loc Cert.TailIdeal.main_arg21)
          ∧ r.2.mem ((c.tc : Thread Cert.TailIdeal.nD Cert.TailIdeal.τ).loc Cert.TailIdeal.main_arg22) = m ((c.tc : Thread Cert.TailIdeal.nD Cert.TailIdeal.τ).loc Cert.TailIdeal.main_arg22)
          ∧ r.2.mem ((c.tc : Thread Cert.TailIdeal.nD Cert.TailIdeal.τ).loc Cert.TailIdeal.main_arg23) = m ((c.tc : Thread Cert.TailIdeal.nD Cert.TailIdeal.τ).loc Cert.TailIdeal.main_arg23)
          ∧ r.2.mem ((c.tc : Thread Cert.TailIdeal.nD Cert.TailIdeal.τ).loc Cert.TailIdeal.main_arg24) = m ((c.tc : Thread Cert.TailIdeal.nD Cert.TailIdeal.τ).loc Cert.TailIdeal.main_arg24))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v154) = v0 c
          ∧ r.2.mem ((c.tc : Thread Cert.ReferenceTailIdeal.nD Cert.ReferenceTailIdeal.τ).loc Cert.ReferenceTailIdeal.main_v158) = v1 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6)
          ∧ r.2.mem ((c.tc : Thread Cert.ReferenceTailIdeal.nD Cert.ReferenceTailIdeal.τ).loc Cert.ReferenceTailIdeal.main_arg7) = m' ((c.tc : Thread Cert.ReferenceTailIdeal.nD Cert.ReferenceTailIdeal.τ).loc Cert.ReferenceTailIdeal.main_arg7)
          ∧ r.2.mem ((c.tc : Thread Cert.ReferenceTailIdeal.nD Cert.ReferenceTailIdeal.τ).loc Cert.ReferenceTailIdeal.main_arg8) = m' ((c.tc : Thread Cert.ReferenceTailIdeal.nD Cert.ReferenceTailIdeal.τ).loc Cert.ReferenceTailIdeal.main_arg8)
          ∧ r.2.mem ((c.tc : Thread Cert.ReferenceTailIdeal.nD Cert.ReferenceTailIdeal.τ).loc Cert.ReferenceTailIdeal.main_arg9) = m' ((c.tc : Thread Cert.ReferenceTailIdeal.nD Cert.ReferenceTailIdeal.τ).loc Cert.ReferenceTailIdeal.main_arg9)
          ∧ r.2.mem ((c.tc : Thread Cert.ReferenceTailIdeal.nD Cert.ReferenceTailIdeal.τ).loc Cert.ReferenceTailIdeal.main_arg10) = m' ((c.tc : Thread Cert.ReferenceTailIdeal.nD Cert.ReferenceTailIdeal.τ).loc Cert.ReferenceTailIdeal.main_arg10)
          ∧ r.2.mem ((c.tc : Thread Cert.ReferenceTailIdeal.nD Cert.ReferenceTailIdeal.τ).loc Cert.ReferenceTailIdeal.main_arg11) = m' ((c.tc : Thread Cert.ReferenceTailIdeal.nD Cert.ReferenceTailIdeal.τ).loc Cert.ReferenceTailIdeal.main_arg11)
          ∧ r.2.mem ((c.tc : Thread Cert.ReferenceTailIdeal.nD Cert.ReferenceTailIdeal.τ).loc Cert.ReferenceTailIdeal.main_arg12) = m' ((c.tc : Thread Cert.ReferenceTailIdeal.nD Cert.ReferenceTailIdeal.τ).loc Cert.ReferenceTailIdeal.main_arg12)
          ∧ r.2.mem ((c.tc : Thread Cert.ReferenceTailIdeal.nD Cert.ReferenceTailIdeal.τ).loc Cert.ReferenceTailIdeal.main_arg13) = m' ((c.tc : Thread Cert.ReferenceTailIdeal.nD Cert.ReferenceTailIdeal.τ).loc Cert.ReferenceTailIdeal.main_arg13)
          ∧ r.2.mem ((c.tc : Thread Cert.ReferenceTailIdeal.nD Cert.ReferenceTailIdeal.τ).loc Cert.ReferenceTailIdeal.main_arg14) = m' ((c.tc : Thread Cert.ReferenceTailIdeal.nD Cert.ReferenceTailIdeal.τ).loc Cert.ReferenceTailIdeal.main_arg14)
          ∧ r.2.mem ((c.tc : Thread Cert.ReferenceTailIdeal.nD Cert.ReferenceTailIdeal.τ).loc Cert.ReferenceTailIdeal.main_arg15) = m' ((c.tc : Thread Cert.ReferenceTailIdeal.nD Cert.ReferenceTailIdeal.τ).loc Cert.ReferenceTailIdeal.main_arg15)
          ∧ r.2.mem ((c.tc : Thread Cert.ReferenceTailIdeal.nD Cert.ReferenceTailIdeal.τ).loc Cert.ReferenceTailIdeal.main_arg16) = m' ((c.tc : Thread Cert.ReferenceTailIdeal.nD Cert.ReferenceTailIdeal.τ).loc Cert.ReferenceTailIdeal.main_arg16)
          ∧ r.2.mem ((c.tc : Thread Cert.ReferenceTailIdeal.nD Cert.ReferenceTailIdeal.τ).loc Cert.ReferenceTailIdeal.main_arg17) = m' ((c.tc : Thread Cert.ReferenceTailIdeal.nD Cert.ReferenceTailIdeal.τ).loc Cert.ReferenceTailIdeal.main_arg17)
          ∧ r.2.mem ((c.tc : Thread Cert.ReferenceTailIdeal.nD Cert.ReferenceTailIdeal.τ).loc Cert.ReferenceTailIdeal.main_arg18) = m' ((c.tc : Thread Cert.ReferenceTailIdeal.nD Cert.ReferenceTailIdeal.τ).loc Cert.ReferenceTailIdeal.main_arg18)
          ∧ r.2.mem ((c.tc : Thread Cert.ReferenceTailIdeal.nD Cert.ReferenceTailIdeal.τ).loc Cert.ReferenceTailIdeal.main_arg19) = m' ((c.tc : Thread Cert.ReferenceTailIdeal.nD Cert.ReferenceTailIdeal.τ).loc Cert.ReferenceTailIdeal.main_arg19)
          ∧ r.2.mem ((c.tc : Thread Cert.ReferenceTailIdeal.nD Cert.ReferenceTailIdeal.τ).loc Cert.ReferenceTailIdeal.main_arg20) = m' ((c.tc : Thread Cert.ReferenceTailIdeal.nD Cert.ReferenceTailIdeal.τ).loc Cert.ReferenceTailIdeal.main_arg20)
          ∧ r.2.mem ((c.tc : Thread Cert.ReferenceTailIdeal.nD Cert.ReferenceTailIdeal.τ).loc Cert.ReferenceTailIdeal.main_arg21) = m' ((c.tc : Thread Cert.ReferenceTailIdeal.nD Cert.ReferenceTailIdeal.τ).loc Cert.ReferenceTailIdeal.main_arg21)
          ∧ r.2.mem ((c.tc : Thread Cert.ReferenceTailIdeal.nD Cert.ReferenceTailIdeal.τ).loc Cert.ReferenceTailIdeal.main_arg22) = m' ((c.tc : Thread Cert.ReferenceTailIdeal.nD Cert.ReferenceTailIdeal.τ).loc Cert.ReferenceTailIdeal.main_arg22)
          ∧ r.2.mem ((c.tc : Thread Cert.ReferenceTailIdeal.nD Cert.ReferenceTailIdeal.τ).loc Cert.ReferenceTailIdeal.main_arg23) = m' ((c.tc : Thread Cert.ReferenceTailIdeal.nD Cert.ReferenceTailIdeal.τ).loc Cert.ReferenceTailIdeal.main_arg23)
          ∧ r.2.mem ((c.tc : Thread Cert.ReferenceTailIdeal.nD Cert.ReferenceTailIdeal.τ).loc Cert.ReferenceTailIdeal.main_arg24) = m' ((c.tc : Thread Cert.ReferenceTailIdeal.nD Cert.ReferenceTailIdeal.τ).loc Cert.ReferenceTailIdeal.main_arg24))

def preserves_KernelC_KernelCIdeal : Prop :=
  True

def disproves_algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg),
    (∀ c : Dev Cert.KernelCIdeal.nD,
      m ((c.tc : Thread Cert.KernelCIdeal.nD Cert.KernelCIdeal.τ).loc Cert.KernelCIdeal.main_arg0) = Cert.Cx_KernelCIdeal.arg0 (F := Ideal)
      ∧ m ((c.tc : Thread Cert.KernelCIdeal.nD Cert.KernelCIdeal.τ).loc Cert.KernelCIdeal.main_arg1) = Cert.Cx_KernelCIdeal.arg1 (F := Ideal)
      ∧ m ((c.tc : Thread Cert.KernelCIdeal.nD Cert.KernelCIdeal.τ).loc Cert.KernelCIdeal.main_arg2) = Cert.Cx_KernelCIdeal.arg2 (F := Ideal)
      ∧ m ((c.tc : Thread Cert.KernelCIdeal.nD Cert.KernelCIdeal.τ).loc Cert.KernelCIdeal.main_arg3) = Cert.Cx_KernelCIdeal.arg3 (F := Ideal)
      ∧ m ((c.tc : Thread Cert.KernelCIdeal.nD Cert.KernelCIdeal.τ).loc Cert.KernelCIdeal.main_arg4) = Cert.Cx_KernelCIdeal.arg4 (F := Ideal)
      ∧ m ((c.tc : Thread Cert.KernelCIdeal.nD Cert.KernelCIdeal.τ).loc Cert.KernelCIdeal.main_arg5) = Cert.Cx_KernelCIdeal.arg5 (F := Ideal)
      ∧ m ((c.tc : Thread Cert.KernelCIdeal.nD Cert.KernelCIdeal.τ).loc Cert.KernelCIdeal.main_arg6) = Cert.Cx_KernelCIdeal.arg6 (F := Ideal)
      ∧ m ((c.tc : Thread Cert.KernelCIdeal.nD Cert.KernelCIdeal.τ).loc Cert.KernelCIdeal.main_arg7) = Cert.Cx_KernelCIdeal.arg7 (F := Ideal)
      ∧ m ((c.tc : Thread Cert.KernelCIdeal.nD Cert.KernelCIdeal.τ).loc Cert.KernelCIdeal.main_arg8) = Cert.Cx_KernelCIdeal.arg8 (F := Ideal)
      ∧ m ((c.tc : Thread Cert.KernelCIdeal.nD Cert.KernelCIdeal.τ).loc Cert.KernelCIdeal.main_arg9) = Cert.Cx_KernelCIdeal.arg9 (F := Ideal)
      ∧ m ((c.tc : Thread Cert.KernelCIdeal.nD Cert.KernelCIdeal.τ).loc Cert.KernelCIdeal.main_arg10) = Cert.Cx_KernelCIdeal.arg10 (F := Ideal)
      ∧ m ((c.tc : Thread Cert.KernelCIdeal.nD Cert.KernelCIdeal.τ).loc Cert.KernelCIdeal.main_arg11) = Cert.Cx_KernelCIdeal.arg11 (F := Ideal)
      ∧ m ((c.tc : Thread Cert.KernelCIdeal.nD Cert.KernelCIdeal.τ).loc Cert.KernelCIdeal.main_arg12) = Cert.Cx_KernelCIdeal.arg12 (F := Ideal)
      ∧ m ((c.tc : Thread Cert.KernelCIdeal.nD Cert.KernelCIdeal.τ).loc Cert.KernelCIdeal.main_arg13) = Cert.Cx_KernelCIdeal.arg13 (F := Ideal)
      ∧ m ((c.tc : Thread Cert.KernelCIdeal.nD Cert.KernelCIdeal.τ).loc Cert.KernelCIdeal.main_arg14) = Cert.Cx_KernelCIdeal.arg14 (F := Ideal)
      ∧ m ((c.tc : Thread Cert.KernelCIdeal.nD Cert.KernelCIdeal.τ).loc Cert.KernelCIdeal.main_arg15) = Cert.Cx_KernelCIdeal.arg15 (F := Ideal)
      ∧ m ((c.tc : Thread Cert.KernelCIdeal.nD Cert.KernelCIdeal.τ).loc Cert.KernelCIdeal.main_arg16) = Cert.Cx_KernelCIdeal.arg16 (F := Ideal)
      ∧ m ((c.tc : Thread Cert.KernelCIdeal.nD Cert.KernelCIdeal.τ).loc Cert.KernelCIdeal.main_arg17) = Cert.Cx_KernelCIdeal.arg17 (F := Ideal)
      ∧ m ((c.tc : Thread Cert.KernelCIdeal.nD Cert.KernelCIdeal.τ).loc Cert.KernelCIdeal.main_arg18) = Cert.Cx_KernelCIdeal.arg18 (F := Ideal)
      ∧ m ((c.tc : Thread Cert.KernelCIdeal.nD Cert.KernelCIdeal.τ).loc Cert.KernelCIdeal.main_arg19) = Cert.Cx_KernelCIdeal.arg19 (F := Ideal)
      ∧ m ((c.tc : Thread Cert.KernelCIdeal.nD Cert.KernelCIdeal.τ).loc Cert.KernelCIdeal.main_arg20) = Cert.Cx_KernelCIdeal.arg20 (F := Ideal)
      ∧ m ((c.tc : Thread Cert.KernelCIdeal.nD Cert.KernelCIdeal.τ).loc Cert.KernelCIdeal.main_arg21) = Cert.Cx_KernelCIdeal.arg21 (F := Ideal)
      ∧ m ((c.tc : Thread Cert.KernelCIdeal.nD Cert.KernelCIdeal.τ).loc Cert.KernelCIdeal.main_arg22) = Cert.Cx_KernelCIdeal.arg22 (F := Ideal)
      ∧ m ((c.tc : Thread Cert.KernelCIdeal.nD Cert.KernelCIdeal.τ).loc Cert.KernelCIdeal.main_arg23) = Cert.Cx_KernelCIdeal.arg23 (F := Ideal)
      ∧ m ((c.tc : Thread Cert.KernelCIdeal.nD Cert.KernelCIdeal.τ).loc Cert.KernelCIdeal.main_arg24) = Cert.Cx_KernelCIdeal.arg24 (F := Ideal)
      ∧ m ((c.tc : Thread Cert.KernelCIdeal.nD Cert.KernelCIdeal.τ).loc Cert.KernelCIdeal.main_arg25) = Cert.Cx_KernelCIdeal.arg25 (F := Ideal)
      ∧ m ((c.tc : Thread Cert.KernelCIdeal.nD Cert.KernelCIdeal.τ).loc Cert.KernelCIdeal.main_arg26) = Cert.Cx_KernelCIdeal.arg26 (F := Ideal)) →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
      ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
      ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
      ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)
      ∧ m' ((c.tc : Thread Cert.ReferenceCIdeal.nD Cert.ReferenceCIdeal.τ).loc Cert.ReferenceCIdeal.main_arg7) = m ((c.tc : Thread Cert.KernelCIdeal.nD Cert.KernelCIdeal.τ).loc Cert.KernelCIdeal.main_arg7)
      ∧ m' ((c.tc : Thread Cert.ReferenceCIdeal.nD Cert.ReferenceCIdeal.τ).loc Cert.ReferenceCIdeal.main_arg8) = m ((c.tc : Thread Cert.KernelCIdeal.nD Cert.KernelCIdeal.τ).loc Cert.KernelCIdeal.main_arg8)
      ∧ m' ((c.tc : Thread Cert.ReferenceCIdeal.nD Cert.ReferenceCIdeal.τ).loc Cert.ReferenceCIdeal.main_arg9) = m ((c.tc : Thread Cert.KernelCIdeal.nD Cert.KernelCIdeal.τ).loc Cert.KernelCIdeal.main_arg9)
      ∧ m' ((c.tc : Thread Cert.ReferenceCIdeal.nD Cert.ReferenceCIdeal.τ).loc Cert.ReferenceCIdeal.main_arg10) = m ((c.tc : Thread Cert.KernelCIdeal.nD Cert.KernelCIdeal.τ).loc Cert.KernelCIdeal.main_arg10)
      ∧ m' ((c.tc : Thread Cert.ReferenceCIdeal.nD Cert.ReferenceCIdeal.τ).loc Cert.ReferenceCIdeal.main_arg11) = m ((c.tc : Thread Cert.KernelCIdeal.nD Cert.KernelCIdeal.τ).loc Cert.KernelCIdeal.main_arg11)
      ∧ m' ((c.tc : Thread Cert.ReferenceCIdeal.nD Cert.ReferenceCIdeal.τ).loc Cert.ReferenceCIdeal.main_arg12) = m ((c.tc : Thread Cert.KernelCIdeal.nD Cert.KernelCIdeal.τ).loc Cert.KernelCIdeal.main_arg12)
      ∧ m' ((c.tc : Thread Cert.ReferenceCIdeal.nD Cert.ReferenceCIdeal.τ).loc Cert.ReferenceCIdeal.main_arg13) = m ((c.tc : Thread Cert.KernelCIdeal.nD Cert.KernelCIdeal.τ).loc Cert.KernelCIdeal.main_arg13)
      ∧ m' ((c.tc : Thread Cert.ReferenceCIdeal.nD Cert.ReferenceCIdeal.τ).loc Cert.ReferenceCIdeal.main_arg14) = m ((c.tc : Thread Cert.KernelCIdeal.nD Cert.KernelCIdeal.τ).loc Cert.KernelCIdeal.main_arg14)
      ∧ m' ((c.tc : Thread Cert.ReferenceCIdeal.nD Cert.ReferenceCIdeal.τ).loc Cert.ReferenceCIdeal.main_arg15) = m ((c.tc : Thread Cert.KernelCIdeal.nD Cert.KernelCIdeal.τ).loc Cert.KernelCIdeal.main_arg15)
      ∧ m' ((c.tc : Thread Cert.ReferenceCIdeal.nD Cert.ReferenceCIdeal.τ).loc Cert.ReferenceCIdeal.main_arg16) = m ((c.tc : Thread Cert.KernelCIdeal.nD Cert.KernelCIdeal.τ).loc Cert.KernelCIdeal.main_arg16)
      ∧ m' ((c.tc : Thread Cert.ReferenceCIdeal.nD Cert.ReferenceCIdeal.τ).loc Cert.ReferenceCIdeal.main_arg17) = m ((c.tc : Thread Cert.KernelCIdeal.nD Cert.KernelCIdeal.τ).loc Cert.KernelCIdeal.main_arg17)
      ∧ m' ((c.tc : Thread Cert.ReferenceCIdeal.nD Cert.ReferenceCIdeal.τ).loc Cert.ReferenceCIdeal.main_arg18) = m ((c.tc : Thread Cert.KernelCIdeal.nD Cert.KernelCIdeal.τ).loc Cert.KernelCIdeal.main_arg18)
      ∧ m' ((c.tc : Thread Cert.ReferenceCIdeal.nD Cert.ReferenceCIdeal.τ).loc Cert.ReferenceCIdeal.main_arg19) = m ((c.tc : Thread Cert.KernelCIdeal.nD Cert.KernelCIdeal.τ).loc Cert.KernelCIdeal.main_arg19)
      ∧ m' ((c.tc : Thread Cert.ReferenceCIdeal.nD Cert.ReferenceCIdeal.τ).loc Cert.ReferenceCIdeal.main_arg20) = m ((c.tc : Thread Cert.KernelCIdeal.nD Cert.KernelCIdeal.τ).loc Cert.KernelCIdeal.main_arg20)
      ∧ m' ((c.tc : Thread Cert.ReferenceCIdeal.nD Cert.ReferenceCIdeal.τ).loc Cert.ReferenceCIdeal.main_arg21) = m ((c.tc : Thread Cert.KernelCIdeal.nD Cert.KernelCIdeal.τ).loc Cert.KernelCIdeal.main_arg21)
      ∧ m' ((c.tc : Thread Cert.ReferenceCIdeal.nD Cert.ReferenceCIdeal.τ).loc Cert.ReferenceCIdeal.main_arg22) = m ((c.tc : Thread Cert.KernelCIdeal.nD Cert.KernelCIdeal.τ).loc Cert.KernelCIdeal.main_arg22)
      ∧ m' ((c.tc : Thread Cert.ReferenceCIdeal.nD Cert.ReferenceCIdeal.τ).loc Cert.ReferenceCIdeal.main_arg23) = m ((c.tc : Thread Cert.KernelCIdeal.nD Cert.KernelCIdeal.τ).loc Cert.KernelCIdeal.main_arg23)
      ∧ m' ((c.tc : Thread Cert.ReferenceCIdeal.nD Cert.ReferenceCIdeal.τ).loc Cert.ReferenceCIdeal.main_arg24) = m ((c.tc : Thread Cert.KernelCIdeal.nD Cert.KernelCIdeal.τ).loc Cert.KernelCIdeal.main_arg24)
      ∧ m' ((c.tc : Thread Cert.ReferenceCIdeal.nD Cert.ReferenceCIdeal.τ).loc Cert.ReferenceCIdeal.main_arg25) = m ((c.tc : Thread Cert.KernelCIdeal.nD Cert.KernelCIdeal.τ).loc Cert.KernelCIdeal.main_arg25)
      ∧ m' ((c.tc : Thread Cert.ReferenceCIdeal.nD Cert.ReferenceCIdeal.τ).loc Cert.ReferenceCIdeal.main_arg26) = m ((c.tc : Thread Cert.KernelCIdeal.nD Cert.KernelCIdeal.τ).loc Cert.KernelCIdeal.main_arg26)) →
    Pre_KernelCIdeal m
    ∧ ∃ (v0 : (c : Dev Cert.KernelCIdeal.nD) → Buf (Elt Ideal) ((c.tc : Thread Cert.KernelCIdeal.nD Cert.KernelCIdeal.τ).loc Cert.KernelCIdeal.main_v219_0)) (v1 : (c : Dev Cert.KernelCIdeal.nD) → Buf (Elt Ideal) ((c.tc : Thread Cert.KernelCIdeal.nD Cert.KernelCIdeal.τ).loc Cert.KernelCIdeal.main_v219_1)),
      θ_run (Cert.KernelCIdeal.defs (F := Ideal)) (onTc (τ := Cert.KernelCIdeal.τ) (Cert.KernelCIdeal.main (F := Ideal))) ⟨m, fun _ => 0, g⟩ (fun r => ¬ (∀ c : Dev Cert.KernelCIdeal.nD,
          r.2.mem ((c.tc : Thread Cert.KernelCIdeal.nD Cert.KernelCIdeal.τ).loc Cert.KernelCIdeal.main_v219_0) = v0 c
          ∧ r.2.mem ((c.tc : Thread Cert.KernelCIdeal.nD Cert.KernelCIdeal.τ).loc Cert.KernelCIdeal.main_v219_1) = v1 c))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v240) = v0 c
          ∧ r.2.mem ((c.tc : Thread Cert.ReferenceCIdeal.nD Cert.ReferenceCIdeal.τ).loc Cert.ReferenceCIdeal.main_v244) = v1 c)

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hReferenceTailIdeal : Cert.ReferenceTailIdeal.Facts) (hKernelC : Cert.KernelC.Facts) (hKernelCIdeal : Cert.KernelCIdeal.Facts) (hReferenceCIdeal : Cert.ReferenceCIdeal.Facts),
    quiescent_Kernel (hKernel := hKernel)
    ∧ quiescent_KernelIdeal (hKernelIdeal := hKernelIdeal)
    ∧ quiescent_ReferenceIdeal (hReferenceIdeal := hReferenceIdeal)
    ∧ quiescent_Tail (hTail := hTail)
    ∧ quiescent_TailIdeal (hTailIdeal := hTailIdeal)
    ∧ quiescent_ReferenceTailIdeal (hReferenceTailIdeal := hReferenceTailIdeal)
    ∧ quiescent_KernelC (hKernelC := hKernelC)
    ∧ quiescent_KernelCIdeal (hKernelCIdeal := hKernelCIdeal)
    ∧ quiescent_ReferenceCIdeal (hReferenceCIdeal := hReferenceCIdeal)
    ∧ preserves_Kernel_KernelIdeal
    ∧ preserves_Tail_TailIdeal
    ∧ algebraic_TailIdeal_ReferenceTailIdeal (hTailIdeal := hTailIdeal) (hReferenceTailIdeal := hReferenceTailIdeal)
    ∧ preserves_KernelC_KernelCIdeal
    ∧ disproves_algebraic_KernelCIdeal_ReferenceCIdeal (hKernelCIdeal := hKernelCIdeal) (hReferenceCIdeal := hReferenceCIdeal)
-- ==== Cx_KernelCIdeal.lean ====
noncomputable def arg0_words : BitVec 32 :=
  0x3F800000#32
noncomputable def arg0 {F : FTy → Type} [FloatOps F] : FVec F (⟨0, ![]⟩ : Shape) .f32 := fun _ => FloatOps.ofBits .f32 (arg0_words)

noncomputable def arg1_words : BitVec 32 :=
  0x00000000#32
noncomputable def arg1 {F : FTy → Type} [FloatOps F] : FVec F (⟨0, ![]⟩ : Shape) .f32 := fun _ => FloatOps.ofBits .f32 (arg1_words)

noncomputable def arg2_words : BitVec 32 :=
  0x3D000000#32
noncomputable def arg2 {F : FTy → Type} [FloatOps F] : FVec F (⟨0, ![]⟩ : Shape) .f32 := fun _ => FloatOps.ofBits .f32 (arg2_words)

noncomputable def arg3_words : BitVec 32 :=
  0x00000000#32
noncomputable def arg3 {F : FTy → Type} [FloatOps F] : FVec F (⟨0, ![]⟩ : Shape) .f32 := fun _ => FloatOps.ofBits .f32 (arg3_words)

noncomputable def arg4_words : BitVec 32 :=
  0x3B000000#32
noncomputable def arg4 {F : FTy → Type} [FloatOps F] : FVec F (⟨0, ![]⟩ : Shape) .f32 := fun _ => FloatOps.ofBits .f32 (arg4_words)

noncomputable def arg5_words : BitVec 32 :=
  0x00000000#32
noncomputable def arg5 {F : FTy → Type} [FloatOps F] : FVec F (⟨0, ![]⟩ : Shape) .f32 := fun _ => FloatOps.ofBits .f32 (arg5_words)

noncomputable def arg6_words : BitVec 32 :=
  0x3C800000#32
noncomputable def arg6 {F : FTy → Type} [FloatOps F] : FVec F (⟨0, ![]⟩ : Shape) .f32 := fun _ => FloatOps.ofBits .f32 (arg6_words)

noncomputable def arg7_words : BitVec 32 :=
  0x00000000#32
noncomputable def arg7 {F : FTy → Type} [FloatOps F] : FVec F (⟨0, ![]⟩ : Shape) .f32 := fun _ => FloatOps.ofBits .f32 (arg7_words)

noncomputable def arg8_words : BitVec 32 :=
  0x3D000000#32
noncomputable def arg8 {F : FTy → Type} [FloatOps F] : FVec F (⟨0, ![]⟩ : Shape) .f32 := fun _ => FloatOps.ofBits .f32 (arg8_words)

noncomputable def arg9_words : BitVec 32 :=
  0x00000000#32
noncomputable def arg9 {F : FTy → Type} [FloatOps F] : FVec F (⟨0, ![]⟩ : Shape) .f32 := fun _ => FloatOps.ofBits .f32 (arg9_words)

noncomputable def arg10_words : BitVec 32 :=
  0x3F000000#32
noncomputable def arg10 {F : FTy → Type} [FloatOps F] : FVec F (⟨0, ![]⟩ : Shape) .f32 := fun _ => FloatOps.ofBits .f32 (arg10_words)

noncomputable def arg11_words : BitVec 32 :=
  0x00000000#32
noncomputable def arg11 {F : FTy → Type} [FloatOps F] : FVec F (⟨0, ![]⟩ : Shape) .f32 := fun _ => FloatOps.ofBits .f32 (arg11_words)

noncomputable def arg12_words : BitVec 32 :=
  0x00000000#32
noncomputable def arg12 {F : FTy → Type} [FloatOps F] : FVec F (⟨0, ![]⟩ : Shape) .f32 := fun _ => FloatOps.ofBits .f32 (arg12_words)

noncomputable def arg13_words : BitVec 32 :=
  0x00000000#32
noncomputable def arg13 {F : FTy → Type} [FloatOps F] : FVec F (⟨0, ![]⟩ : Shape) .f32 := fun _ => FloatOps.ofBits .f32 (arg13_words)

noncomputable def arg14_words : BitVec 32 :=
  0x00000000#32
noncomputable def arg14 {F : FTy → Type} [FloatOps F] : FVec F (⟨0, ![]⟩ : Shape) .f32 := fun _ => FloatOps.ofBits .f32 (arg14_words)

noncomputable def arg15_words : BitVec 32 :=
  0x00000000#32
noncomputable def arg15 {F : FTy → Type} [FloatOps F] : FVec F (⟨0, ![]⟩ : Shape) .f32 := fun _ => FloatOps.ofBits .f32 (arg15_words)

noncomputable def arg16_words : BitVec 32 :=
  0x3F800000#32
noncomputable def arg16 {F : FTy → Type} [FloatOps F] : FVec F (⟨0, ![]⟩ : Shape) .f32 := fun _ => FloatOps.ofBits .f32 (arg16_words)

noncomputable def arg17_words : BitVec 32 :=
  0x00000000#32
noncomputable def arg17 {F : FTy → Type} [FloatOps F] : FVec F (⟨0, ![]⟩ : Shape) .f32 := fun _ => FloatOps.ofBits .f32 (arg17_words)

noncomputable def arg18_words : BitVec 32 :=
  0x00000000#32
noncomputable def arg18 {F : FTy → Type} [FloatOps F] : FVec F (⟨0, ![]⟩ : Shape) .f32 := fun _ => FloatOps.ofBits .f32 (arg18_words)

noncomputable def arg19_words : BitVec 32 :=
  0x00000000#32
noncomputable def arg19 {F : FTy → Type} [FloatOps F] : FVec F (⟨0, ![]⟩ : Shape) .f32 := fun _ => FloatOps.ofBits .f32 (arg19_words)

noncomputable def arg20_words : BitVec 32 :=
  0x00000000#32
noncomputable def arg20 {F : FTy → Type} [FloatOps F] : FVec F (⟨0, ![]⟩ : Shape) .f32 := fun _ => FloatOps.ofBits .f32 (arg20_words)

noncomputable def arg21_words : BitVec 32 :=
  0x3C000000#32
noncomputable def arg21 {F : FTy → Type} [FloatOps F] : FVec F (⟨0, ![]⟩ : Shape) .f32 := fun _ => FloatOps.ofBits .f32 (arg21_words)

noncomputable def arg22_words : BitVec 32 :=
  0x00000000#32
noncomputable def arg22 {F : FTy → Type} [FloatOps F] : FVec F (⟨0, ![]⟩ : Shape) .f32 := fun _ => FloatOps.ofBits .f32 (arg22_words)

noncomputable def arg23_words : BitVec 32 :=
  0x3B800000#32
noncomputable def arg23 {F : FTy → Type} [FloatOps F] : FVec F (⟨0, ![]⟩ : Shape) .f32 := fun _ => FloatOps.ofBits .f32 (arg23_words)

noncomputable def arg24_words : BitVec 32 :=
  0x00000000#32
noncomputable def arg24 {F : FTy → Type} [FloatOps F] : FVec F (⟨0, ![]⟩ : Shape) .f32 := fun _ => FloatOps.ofBits .f32 (arg24_words)

noncomputable def arg25_words : BitVec 32 :=
  0x00000000#32
noncomputable def arg25 {F : FTy → Type} [FloatOps F] : FVec F (⟨0, ![]⟩ : Shape) .f32 := fun _ => FloatOps.ofBits .f32 (arg25_words)

noncomputable def arg26_words : BitVec 32 :=
  0x00000000#32
noncomputable def arg26 {F : FTy → Type} [FloatOps F] : FVec F (⟨0, ![]⟩ : Shape) .f32 := fun _ => FloatOps.ofBits .f32 (arg26_words)
-- ==== Kernel.lean ====
abbrev S8x3x512x512 : Shape := ⟨4, ![8, 3, 512, 512]⟩
abbrev S8x256x3x32x32 : Shape := ⟨5, ![8, 256, 3, 32, 32]⟩
abbrev S64x3x3x3 : Shape := ⟨4, ![64, 3, 3, 3]⟩
abbrev S64 : Shape := ⟨1, ![64]⟩
abbrev S64x64x3x3 : Shape := ⟨4, ![64, 64, 3, 3]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S3072x512 : Shape := ⟨2, ![3072, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S3072x128 : Shape := ⟨2, ![3072, 128]⟩
abbrev S256x256 : Shape := ⟨2, ![256, 256]⟩
abbrev S256 : Shape := ⟨1, ![256]⟩
abbrev S384x256 : Shape := ⟨2, ![384, 256]⟩
abbrev S256x80 : Shape := ⟨2, ![256, 80]⟩
abbrev S80 : Shape := ⟨1, ![80]⟩
abbrev S256x4 : Shape := ⟨2, ![256, 4]⟩
abbrev S4 : Shape := ⟨1, ![4]⟩
abbrev S8x3x256x2x128x2x2 : Shape := ⟨7, ![8, 3, 256, 2, 128, 2, 2]⟩
abbrev S8x256x128x2x2x2x3 : Shape := ⟨7, ![8, 256, 128, 2, 2, 2, 3]⟩
abbrev S8x256x128x24 : Shape := ⟨4, ![8, 256, 128, 24]⟩
abbrev S72x128 : Shape := ⟨2, ![72, 128]⟩
abbrev S64x3x1x1 : Shape := ⟨4, ![64, 3, 1, 1]⟩
abbrev S64x3 : Shape := ⟨2, ![64, 3]⟩
abbrev S3x64 : Shape := ⟨2, ![3, 64]⟩
abbrev S2 : Shape := ⟨1, ![2]⟩
abbrev S1x128 : Shape := ⟨2, ![1, 128]⟩
abbrev S8x256x128x128 : Shape := ⟨4, ![8, 256, 128, 128]⟩
abbrev S1x128x128x24 : Shape := ⟨4, ![1, 128, 128, 24]⟩
abbrev S1x8x128x24 : Shape := ⟨4, ![1, 8, 128, 24]⟩
abbrev S1x128x128x128 : Shape := ⟨4, ![1, 128, 128, 128]⟩
abbrev S128x128x24 : Shape := ⟨3, ![128, 128, 24]⟩
abbrev S1x128x24 : Shape := ⟨3, ![1, 128, 24]⟩
abbrev S1x1x128x24 : Shape := ⟨4, ![1, 1, 128, 24]⟩
abbrev S128x128x12 : Shape := ⟨3, ![128, 128, 12]⟩
abbrev S1x128x12 : Shape := ⟨3, ![1, 128, 12]⟩
abbrev S128x1x12 : Shape := ⟨3, ![128, 1, 12]⟩
abbrev S128x129x12 : Shape := ⟨3, ![128, 129, 12]⟩
abbrev S1x1x12 : Shape := ⟨3, ![1, 1, 12]⟩
abbrev S1x129x12 : Shape := ⟨3, ![1, 129, 12]⟩
abbrev S128x128x36 : Shape := ⟨3, ![128, 128, 36]⟩
abbrev S1x128x36 : Shape := ⟨3, ![1, 128, 36]⟩
abbrev S127x128x36 : Shape := ⟨3, ![127, 128, 36]⟩
abbrev S16384x36 : Shape := ⟨2, ![16384, 36]⟩
abbrev S36x128 : Shape := ⟨2, ![36, 128]⟩
abbrev S16384x128 : Shape := ⟨2, ![16384, 128]⟩
abbrev S128x128x128 : Shape := ⟨3, ![128, 128, 128]⟩
abbrev S3x3x64x64 : Shape := ⟨4, ![3, 3, 64, 64]⟩
abbrev S64x64 : Shape := ⟨2, ![64, 64]⟩
abbrev S1x1x64x64 : Shape := ⟨4, ![1, 1, 64, 64]⟩
abbrev S128x64 : Shape := ⟨2, ![128, 64]⟩
abbrev S1x128x64 : Shape := ⟨3, ![1, 128, 64]⟩
abbrev S3x128x64 : Shape := ⟨3, ![3, 128, 64]⟩
abbrev S384x64 : Shape := ⟨2, ![384, 64]⟩
abbrev S1x64 : Shape := ⟨2, ![1, 64]⟩
abbrev S8x16x16x64 : Shape := ⟨4, ![8, 16, 16, 64]⟩
abbrev S1x256x128x128 : Shape := ⟨4, ![1, 256, 128, 128]⟩
abbrev S1x16x16x64 : Shape := ⟨4, ![1, 16, 16, 64]⟩
abbrev S256x128x128 : Shape := ⟨3, ![256, 128, 128]⟩
abbrev S128x2x128x128 : Shape := ⟨4, ![128, 2, 128, 128]⟩
abbrev S1x128x128 : Shape := ⟨3, ![1, 128, 128]⟩
abbrev S128x1x128x128 : Shape := ⟨4, ![128, 1, 128, 128]⟩
abbrev S127x128x128 : Shape := ⟨3, ![127, 128, 128]⟩
abbrev S128x128x384 : Shape := ⟨3, ![128, 128, 384]⟩
abbrev S16384x384 : Shape := ⟨2, ![16384, 384]⟩
abbrev S16384x64 : Shape := ⟨2, ![16384, 64]⟩
abbrev S128x128x64 : Shape := ⟨3, ![128, 128, 64]⟩
abbrev S128x127x64 : Shape := ⟨3, ![128, 127, 64]⟩
abbrev S128x1x64 : Shape := ⟨3, ![128, 1, 64]⟩
abbrev S16x8x16x8x64 : Shape := ⟨5, ![16, 8, 16, 8, 64]⟩
abbrev S16x16x8x64 : Shape := ⟨4, ![16, 16, 8, 64]⟩
abbrev S16x16x64 : Shape := ⟨3, ![16, 16, 64]⟩
abbrev S8x256x64 : Shape := ⟨3, ![8, 256, 64]⟩
abbrev S8x256x3072 : Shape := ⟨3, ![8, 256, 3072]⟩
abbrev S1x512 : Shape := ⟨2, ![1, 512]⟩
abbrev S8x256x128 : Shape := ⟨3, ![8, 256, 128]⟩
abbrev S1x256x3072 : Shape := ⟨3, ![1, 256, 3072]⟩
abbrev S1x256x128 : Shape := ⟨3, ![1, 256, 128]⟩
abbrev S256x3072 : Shape := ⟨2, ![256, 3072]⟩
abbrev S256x512 : Shape := ⟨2, ![256, 512]⟩
abbrev S256x128 : Shape := ⟨2, ![256, 128]⟩
abbrev S1x32 : Shape := ⟨2, ![1, 32]⟩
abbrev S1x1 : Shape := ⟨2, ![1, 1]⟩
abbrev S1x256 : Shape := ⟨2, ![1, 256]⟩
abbrev S1x80 : Shape := ⟨2, ![1, 80]⟩
abbrev S1x4 : Shape := ⟨2, ![1, 4]⟩
abbrev S8x256x80 : Shape := ⟨3, ![8, 256, 80]⟩
abbrev S8x256x4 : Shape := ⟨3, ![8, 256, 4]⟩
abbrev S2048x64 : Shape := ⟨2, ![2048, 64]⟩
abbrev S2048x32 : Shape := ⟨2, ![2048, 32]⟩
abbrev S2048x1 : Shape := ⟨2, ![2048, 1]⟩
abbrev S8x256x1 : Shape := ⟨3, ![8, 256, 1]⟩
abbrev S8x1 : Shape := ⟨2, ![8, 1]⟩
abbrev S8x1x1 : Shape := ⟨3, ![8, 1, 1]⟩
abbrev S8x128 : Shape := ⟨2, ![8, 128]⟩
abbrev S128x256 : Shape := ⟨2, ![128, 256]⟩
abbrev S8x256 : Shape := ⟨2, ![8, 256]⟩
abbrev S2048x128 : Shape := ⟨2, ![2048, 128]⟩
abbrev S2048x256 : Shape := ⟨2, ![2048, 256]⟩
abbrev S8x256x256 : Shape := ⟨3, ![8, 256, 256]⟩
abbrev S8x1x256 : Shape := ⟨3, ![8, 1, 256]⟩
abbrev S1x1x256 : Shape := ⟨3, ![1, 1, 256]⟩
abbrev S2048x80 : Shape := ⟨2, ![2048, 80]⟩
abbrev S2048x4 : Shape := ⟨2, ![2048, 4]⟩

abbrev nBuf : Space → Nat
  | .hbm => 261
  | .vmem => 47
  | .smem => 0
  | _ => 0

abbrev hbmTy0_0 (i : Nat) : BufTy := match i % 128 with
  | 0 => ⟨S8x3x512x512, .f32⟩
  | 1 => ⟨S8x256x3x32x32, .f32⟩
  | 2 => ⟨S64x3x3x3, .f32⟩
  | 3 => ⟨S64, .f32⟩
  | 4 => ⟨S64x64x3x3, .f32⟩
  | 5 => ⟨S64, .f32⟩
  | 6 => ⟨S64x32, .f32⟩
  | 7 => ⟨S32, .f32⟩
  | 8 => ⟨S32x1, .f32⟩
  | 9 => ⟨S1, .f32⟩
  | 10 => ⟨S_, .f32⟩
  | 11 => ⟨S3072x512, .f32⟩
  | 12 => ⟨S512, .f32⟩
  | 13 => ⟨S512x512, .f32⟩
  | 14 => ⟨S512, .f32⟩
  | 15 => ⟨S512x128, .f32⟩
  | 16 => ⟨S128, .f32⟩
  | 17 => ⟨S3072x128, .f32⟩
  | 18 => ⟨S128, .f32⟩
  | 19 => ⟨S256x256, .f32⟩
  | 20 => ⟨S256, .f32⟩
  | 21 => ⟨S384x256, .f32⟩
  | 22 => ⟨S256, .f32⟩
  | 23 => ⟨S256x80, .f32⟩
  | 24 => ⟨S80, .f32⟩
  | 25 => ⟨S256x4, .f32⟩
  | 26 => ⟨S4, .f32⟩
  | 27 => ⟨S8x3x512x512, .bf16⟩
  | 28 => ⟨S8x3x256x2x128x2x2, .bf16⟩
  | 29 => ⟨S8x256x128x2x2x2x3, .bf16⟩
  | 30 => ⟨S8x256x128x24, .bf16⟩
  | 31 => ⟨S_, .f32⟩
  | 32 => ⟨S72x128, .f32⟩
  | 33 => ⟨S64x3x1x1, .f32⟩
  | 34 => ⟨S64x3, .f32⟩
  | 35 => ⟨S3x64, .f32⟩
  | 36 => ⟨S_, .i32⟩
  | 37 => ⟨S1, .i32⟩
  | 38 => ⟨S_, .i32⟩
  | 39 => ⟨S1, .i32⟩
  | 40 => ⟨S2, .i32⟩
  | 41 => ⟨S72x128, .f32⟩
  | 42 => ⟨S64x3x1x1, .f32⟩
  | 43 => ⟨S64x3, .f32⟩
  | 44 => ⟨S3x64, .f32⟩
  | 45 => ⟨S_, .i32⟩
  | 46 => ⟨S1, .i32⟩
  | 47 => ⟨S_, .i32⟩
  | 48 => ⟨S1, .i32⟩
  | 49 => ⟨S2, .i32⟩
  | 50 => ⟨S72x128, .f32⟩
  | 51 => ⟨S64x3x1x1, .f32⟩
  | 52 => ⟨S64x3, .f32⟩
  | 53 => ⟨S3x64, .f32⟩
  | 54 => ⟨S_, .i32⟩
  | 55 => ⟨S1, .i32⟩
  | 56 => ⟨S_, .i32⟩
  | 57 => ⟨S1, .i32⟩
  | 58 => ⟨S2, .i32⟩
  | 59 => ⟨S72x128, .f32⟩
  | 60 => ⟨S64x3x1x1, .f32⟩
  | 61 => ⟨S64x3, .f32⟩
  | 62 => ⟨S3x64, .f32⟩
  | 63 => ⟨S_, .i32⟩
  | 64 => ⟨S1, .i32⟩
  | 65 => ⟨S_, .i32⟩
  | 66 => ⟨S1, .i32⟩
  | 67 => ⟨S2, .i32⟩
  | 68 => ⟨S72x128, .f32⟩
  | 69 => ⟨S64x3x1x1, .f32⟩
  | 70 => ⟨S64x3, .f32⟩
  | 71 => ⟨S3x64, .f32⟩
  | 72 => ⟨S_, .i32⟩
  | 73 => ⟨S1, .i32⟩
  | 74 => ⟨S_, .i32⟩
  | 75 => ⟨S1, .i32⟩
  | 76 => ⟨S2, .i32⟩
  | 77 => ⟨S72x128, .f32⟩
  | 78 => ⟨S64x3x1x1, .f32⟩
  | 79 => ⟨S64x3, .f32⟩
  | 80 => ⟨S3x64, .f32⟩
  | 81 => ⟨S_, .i32⟩
  | 82 => ⟨S1, .i32⟩
  | 83 => ⟨S_, .i32⟩
  | 84 => ⟨S1, .i32⟩
  | 85 => ⟨S2, .i32⟩
  | 86 => ⟨S72x128, .f32⟩
  | 87 => ⟨S64x3x1x1, .f32⟩
  | 88 => ⟨S64x3, .f32⟩
  | 89 => ⟨S3x64, .f32⟩
  | 90 => ⟨S_, .i32⟩
  | 91 => ⟨S1, .i32⟩
  | 92 => ⟨S_, .i32⟩
  | 93 => ⟨S1, .i32⟩
  | 94 => ⟨S2, .i32⟩
  | 95 => ⟨S72x128, .f32⟩
  | 96 => ⟨S64x3x1x1, .f32⟩
  | 97 => ⟨S64x3, .f32⟩
  | 98 => ⟨S3x64, .f32⟩
  | 99 => ⟨S_, .i32⟩
  | 100 => ⟨S1, .i32⟩
  | 101 => ⟨S_, .i32⟩
  | 102 => ⟨S1, .i32⟩
  | 103 => ⟨S2, .i32⟩
  | 104 => ⟨S72x128, .f32⟩
  | 105 => ⟨S64x3x1x1, .f32⟩
  | 106 => ⟨S64x3, .f32⟩
  | 107 => ⟨S3x64, .f32⟩
  | 108 => ⟨S_, .i32⟩
  | 109 => ⟨S1, .i32⟩
  | 110 => ⟨S_, .i32⟩
  | 111 => ⟨S1, .i32⟩
  | 112 => ⟨S2, .i32⟩
  | 113 => ⟨S72x128, .f32⟩
  | 114 => ⟨S64x3x1x1, .f32⟩
  | 115 => ⟨S64x3, .f32⟩
  | 116 => ⟨S3x64, .f32⟩
  | 117 => ⟨S_, .i32⟩
  | 118 => ⟨S1, .i32⟩
  | 119 => ⟨S_, .i32⟩
  | 120 => ⟨S1, .i32⟩
  | 121 => ⟨S2, .i32⟩
  | 122 => ⟨S72x128, .f32⟩
  | 123 => ⟨S64x3x1x1, .f32⟩
  | 124 => ⟨S64x3, .f32⟩
  | 125 => ⟨S3x64, .f32⟩
  | 126 => ⟨S_, .i32⟩
  | 127 => ⟨S1, .i32⟩
  | _ => ⟨S8x3x512x512, .f32⟩

abbrev hbmTy0_1 (i : Nat) : BufTy := match i % 128 with
  | 0 => ⟨S_, .i32⟩
  | 1 => ⟨S1, .i32⟩
  | 2 => ⟨S2, .i32⟩
  | 3 => ⟨S72x128, .f32⟩
  | 4 => ⟨S64x3x1x1, .f32⟩
  | 5 => ⟨S64x3, .f32⟩
  | 6 => ⟨S3x64, .f32⟩
  | 7 => ⟨S_, .i32⟩
  | 8 => ⟨S1, .i32⟩
  | 9 => ⟨S_, .i32⟩
  | 10 => ⟨S1, .i32⟩
  | 11 => ⟨S2, .i32⟩
  | 12 => ⟨S72x128, .f32⟩
  | 13 => ⟨S64x3x1x1, .f32⟩
  | 14 => ⟨S64x3, .f32⟩
  | 15 => ⟨S3x64, .f32⟩
  | 16 => ⟨S_, .i32⟩
  | 17 => ⟨S1, .i32⟩
  | 18 => ⟨S_, .i32⟩
  | 19 => ⟨S1, .i32⟩
  | 20 => ⟨S2, .i32⟩
  | 21 => ⟨S72x128, .f32⟩
  | 22 => ⟨S64x3x1x1, .f32⟩
  | 23 => ⟨S64x3, .f32⟩
  | 24 => ⟨S3x64, .f32⟩
  | 25 => ⟨S_, .i32⟩
  | 26 => ⟨S1, .i32⟩
  | 27 => ⟨S_, .i32⟩
  | 28 => ⟨S1, .i32⟩
  | 29 => ⟨S2, .i32⟩
  | 30 => ⟨S72x128, .f32⟩
  | 31 => ⟨S64x3x1x1, .f32⟩
  | 32 => ⟨S64x3, .f32⟩
  | 33 => ⟨S3x64, .f32⟩
  | 34 => ⟨S_, .i32⟩
  | 35 => ⟨S1, .i32⟩
  | 36 => ⟨S_, .i32⟩
  | 37 => ⟨S1, .i32⟩
  | 38 => ⟨S2, .i32⟩
  | 39 => ⟨S72x128, .f32⟩
  | 40 => ⟨S64x3x1x1, .f32⟩
  | 41 => ⟨S64x3, .f32⟩
  | 42 => ⟨S3x64, .f32⟩
  | 43 => ⟨S_, .i32⟩
  | 44 => ⟨S1, .i32⟩
  | 45 => ⟨S_, .i32⟩
  | 46 => ⟨S1, .i32⟩
  | 47 => ⟨S2, .i32⟩
  | 48 => ⟨S72x128, .f32⟩
  | 49 => ⟨S64x3x1x1, .f32⟩
  | 50 => ⟨S64x3, .f32⟩
  | 51 => ⟨S3x64, .f32⟩
  | 52 => ⟨S_, .i32⟩
  | 53 => ⟨S1, .i32⟩
  | 54 => ⟨S_, .i32⟩
  | 55 => ⟨S1, .i32⟩
  | 56 => ⟨S2, .i32⟩
  | 57 => ⟨S72x128, .f32⟩
  | 58 => ⟨S64x3x1x1, .f32⟩
  | 59 => ⟨S64x3, .f32⟩
  | 60 => ⟨S3x64, .f32⟩
  | 61 => ⟨S_, .i32⟩
  | 62 => ⟨S1, .i32⟩
  | 63 => ⟨S_, .i32⟩
  | 64 => ⟨S1, .i32⟩
  | 65 => ⟨S2, .i32⟩
  | 66 => ⟨S72x128, .f32⟩
  | 67 => ⟨S72x128, .bf16⟩
  | 68 => ⟨S128, .f32⟩
  | 69 => ⟨S1x128, .f32⟩
  | 70 => ⟨S8x256x128x128, .bf16⟩
  | 71 => ⟨S3x3x64x64, .f32⟩
  | 72 => ⟨S_, .f32⟩
  | 73 => ⟨S64x64, .f32⟩
  | 74 => ⟨S1x1x64x64, .f32⟩
  | 75 => ⟨S64x64, .f32⟩
  | 76 => ⟨S128x64, .f32⟩
  | 77 => ⟨S1x1x64x64, .f32⟩
  | 78 => ⟨S64x64, .f32⟩
  | 79 => ⟨S128x64, .f32⟩
  | 80 => ⟨S1x1x64x64, .f32⟩
  | 81 => ⟨S64x64, .f32⟩
  | 82 => ⟨S128x64, .f32⟩
  | 83 => ⟨S1x128x64, .f32⟩
  | 84 => ⟨S1x128x64, .f32⟩
  | 85 => ⟨S1x128x64, .f32⟩
  | 86 => ⟨S3x128x64, .f32⟩
  | 87 => ⟨S1x1x64x64, .f32⟩
  | 88 => ⟨S64x64, .f32⟩
  | 89 => ⟨S1x1x64x64, .f32⟩
  | 90 => ⟨S64x64, .f32⟩
  | 91 => ⟨S128x64, .f32⟩
  | 92 => ⟨S1x1x64x64, .f32⟩
  | 93 => ⟨S64x64, .f32⟩
  | 94 => ⟨S1x1x64x64, .f32⟩
  | 95 => ⟨S64x64, .f32⟩
  | 96 => ⟨S128x64, .f32⟩
  | 97 => ⟨S1x1x64x64, .f32⟩
  | 98 => ⟨S64x64, .f32⟩
  | 99 => ⟨S1x1x64x64, .f32⟩
  | 100 => ⟨S64x64, .f32⟩
  | 101 => ⟨S128x64, .f32⟩
  | 102 => ⟨S1x128x64, .f32⟩
  | 103 => ⟨S1x128x64, .f32⟩
  | 104 => ⟨S1x128x64, .f32⟩
  | 105 => ⟨S3x128x64, .f32⟩
  | 106 => ⟨S3x128x64, .bf16⟩
  | 107 => ⟨S384x64, .bf16⟩
  | 108 => ⟨S3x128x64, .bf16⟩
  | 109 => ⟨S384x64, .bf16⟩
  | 110 => ⟨S1x64, .f32⟩
  | 111 => ⟨S8x16x16x64, .f32⟩
  | 112 => ⟨S8x256x64, .f32⟩
  | 113 => ⟨S8x256x3072, .f32⟩
  | 114 => ⟨S3072x512, .bf16⟩
  | 115 => ⟨S1x512, .f32⟩
  | 116 => ⟨S512x512, .bf16⟩
  | 117 => ⟨S1x512, .f32⟩
  | 118 => ⟨S512x128, .bf16⟩
  | 119 => ⟨S1x128, .f32⟩
  | 120 => ⟨S3072x128, .bf16⟩
  | 121 => ⟨S1x128, .f32⟩
  | 122 => ⟨S8x256x128, .f32⟩
  | 123 => ⟨S8x256x128, .f32⟩
  | 124 => ⟨S1x32, .f32⟩
  | 125 => ⟨S1x1, .f32⟩
  | 126 => ⟨S1x1, .f32⟩
  | 127 => ⟨S1x256, .f32⟩
  | _ => ⟨S8x3x512x512, .f32⟩

abbrev hbmTy0_2 (i : Nat) : BufTy := match i % 128 with
  | 0 => ⟨S1x256, .f32⟩
  | 1 => ⟨S1x80, .f32⟩
  | 2 => ⟨S1x4, .f32⟩
  | 3 => ⟨S8x256x80, .f32⟩
  | 4 => ⟨S8x256x4, .f32⟩
  | _ => ⟨S8x3x512x512, .f32⟩

abbrev hbmTy (i : Nat) : BufTy := match i / 128 with
  | 0 => hbmTy0_0 i
  | 1 => hbmTy0_1 i
  | 2 => hbmTy0_2 i
  | _ => ⟨S8x3x512x512, .f32⟩

abbrev bufTy : (tb : Table) → Fin (tcTables nBuf tb) → BufTy
  | .hbm, ⟨i, _⟩ => hbmTy i
  | .local _ .vmem, ⟨0, _⟩ => ⟨S1x128x128x24, .bf16⟩
  | .local _ .vmem, ⟨1, _⟩ => ⟨S1x128x128x24, .bf16⟩
  | .local _ .vmem, ⟨2, _⟩ => ⟨S1x8x128x24, .bf16⟩
  | .local _ .vmem, ⟨3, _⟩ => ⟨S1x8x128x24, .bf16⟩
  | .local _ .vmem, ⟨4, _⟩ => ⟨S72x128, .bf16⟩
  | .local _ .vmem, ⟨5, _⟩ => ⟨S1x128, .f32⟩
  | .local _ .vmem, ⟨6, _⟩ => ⟨S1x128x128x128, .bf16⟩
  | .local _ .vmem, ⟨7, _⟩ => ⟨S1x128x128x128, .bf16⟩
  | .local _ .vmem, ⟨8, _⟩ => ⟨S1x256x128x128, .bf16⟩
  | .local _ .vmem, ⟨9, _⟩ => ⟨S1x256x128x128, .bf16⟩
  | .local _ .vmem, ⟨10, _⟩ => ⟨S384x64, .bf16⟩
  | .local _ .vmem, ⟨11, _⟩ => ⟨S384x64, .bf16⟩
  | .local _ .vmem, ⟨12, _⟩ => ⟨S1x64, .f32⟩
  | .local _ .vmem, ⟨13, _⟩ => ⟨S1x16x16x64, .f32⟩
  | .local _ .vmem, ⟨14, _⟩ => ⟨S1x16x16x64, .f32⟩
  | .local _ .vmem, ⟨15, _⟩ => ⟨S1x256x3072, .f32⟩
  | .local _ .vmem, ⟨16, _⟩ => ⟨S1x256x3072, .f32⟩
  | .local _ .vmem, ⟨17, _⟩ => ⟨S3072x512, .bf16⟩
  | .local _ .vmem, ⟨18, _⟩ => ⟨S1x512, .f32⟩
  | .local _ .vmem, ⟨19, _⟩ => ⟨S512x512, .bf16⟩
  | .local _ .vmem, ⟨20, _⟩ => ⟨S1x512, .f32⟩
  | .local _ .vmem, ⟨21, _⟩ => ⟨S512x128, .bf16⟩
  | .local _ .vmem, ⟨22, _⟩ => ⟨S1x128, .f32⟩
  | .local _ .vmem, ⟨23, _⟩ => ⟨S3072x128, .bf16⟩
  | .local _ .vmem, ⟨24, _⟩ => ⟨S1x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S8x256x64, .f32⟩
  | .local _ .vmem, ⟨30, _⟩ => ⟨S8x256x128, .f32⟩
  | .local _ .vmem, ⟨31, _⟩ => ⟨S8x256x128, .f32⟩
  | .local _ .vmem, ⟨32, _⟩ => ⟨S64x32, .f32⟩
  | .local _ .vmem, ⟨33, _⟩ => ⟨S1x32, .f32⟩
  | .local _ .vmem, ⟨34, _⟩ => ⟨S32x1, .f32⟩
  | .local _ .vmem, ⟨35, _⟩ => ⟨S1x1, .f32⟩
  | .local _ .vmem, ⟨36, _⟩ => ⟨S1x1, .f32⟩
  | .local _ .vmem, ⟨37, _⟩ => ⟨S256x256, .f32⟩
  | .local _ .vmem, ⟨38, _⟩ => ⟨S1x256, .f32⟩
  | .local _ .vmem, ⟨39, _⟩ => ⟨S384x256, .f32⟩
  | .local _ .vmem, ⟨40, _⟩ => ⟨S1x256, .f32⟩
  | .local _ .vmem, ⟨41, _⟩ => ⟨S256x80, .f32⟩
  | .local _ .vmem, ⟨42, _⟩ => ⟨S1x80, .f32⟩
  | .local _ .vmem, ⟨43, _⟩ => ⟨S256x4, .f32⟩
  | .local _ .vmem, ⟨44, _⟩ => ⟨S1x4, .f32⟩
  | .local _ .vmem, ⟨45, _⟩ => ⟨S8x256x80, .f32⟩
  | .local _ .vmem, ⟨46, _⟩ => ⟨S8x256x4, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_c_0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_1 : Ref sig .tc := ⟨.hbm, 45, rfl⟩
abbrev main_v15 : Ref sig .tc := ⟨.hbm, 46, rfl⟩
abbrev main_c_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_3 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_5 : Ref sig .tc := ⟨.hbm, 63, rfl⟩
abbrev main_v29 : Ref sig .tc := ⟨.hbm, 64, rfl⟩
abbrev main_c_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_7 : Ref sig .tc := ⟨.hbm, 72, rfl⟩
abbrev main_v36 : Ref sig .tc := ⟨.hbm, 73, rfl⟩
abbrev main_c_8 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_9 : Ref sig .tc := ⟨.hbm, 81, rfl⟩
abbrev main_v43 : Ref sig .tc := ⟨.hbm, 82, rfl⟩
abbrev main_c_10 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_11 : Ref sig .tc := ⟨.hbm, 90, rfl⟩
abbrev main_v50 : Ref sig .tc := ⟨.hbm, 91, rfl⟩
abbrev main_c_12 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_13 : Ref sig .tc := ⟨.hbm, 99, rfl⟩
abbrev main_v57 : Ref sig .tc := ⟨.hbm, 100, rfl⟩
abbrev main_c_14 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_c_15 : Ref sig .tc := ⟨.hbm, 108, rfl⟩
abbrev main_v64 : Ref sig .tc := ⟨.hbm, 109, rfl⟩
abbrev main_c_16 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_c_17 : Ref sig .tc := ⟨.hbm, 117, rfl⟩
abbrev main_v71 : Ref sig .tc := ⟨.hbm, 118, rfl⟩
abbrev main_c_18 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_19 : Ref sig .tc := ⟨.hbm, 126, rfl⟩
abbrev main_v78 : Ref sig .tc := ⟨.hbm, 127, rfl⟩
abbrev main_c_20 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_c_21 : Ref sig .tc := ⟨.hbm, 135, rfl⟩
abbrev main_v85 : Ref sig .tc := ⟨.hbm, 136, rfl⟩
abbrev main_c_22 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_23 : Ref sig .tc := ⟨.hbm, 144, rfl⟩
abbrev main_v92 : Ref sig .tc := ⟨.hbm, 145, rfl⟩
abbrev main_c_24 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_25 : Ref sig .tc := ⟨.hbm, 153, rfl⟩
abbrev main_v99 : Ref sig .tc := ⟨.hbm, 154, rfl⟩
abbrev main_c_26 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_c_27 : Ref sig .tc := ⟨.hbm, 162, rfl⟩
abbrev main_v106 : Ref sig .tc := ⟨.hbm, 163, rfl⟩
abbrev main_c_28 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_c_29 : Ref sig .tc := ⟨.hbm, 171, rfl⟩
abbrev main_v113 : Ref sig .tc := ⟨.hbm, 172, rfl⟩
abbrev main_c_30 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_c_31 : Ref sig .tc := ⟨.hbm, 180, rfl⟩
abbrev main_v120 : Ref sig .tc := ⟨.hbm, 181, rfl⟩
abbrev main_c_32 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_c_33 : Ref sig .tc := ⟨.hbm, 189, rfl⟩
abbrev main_v127 : Ref sig .tc := ⟨.hbm, 190, rfl⟩
abbrev main_c_34 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_35 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185_0 : Ref sig .tc := ⟨.hbm, 250, rfl⟩
abbrev main_v185_1 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193_0 : Ref sig .tc := ⟨.hbm, 259, rfl⟩
abbrev main_v193_1 : Ref sig .tc := ⟨.hbm, 260, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc2_stg10_0 : Ref sig .tc := ⟨.vmem, 27, rfl⟩
abbrev cc2_stg10_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg12_0 : Ref sig .tc := ⟨.vmem, 41, rfl⟩
abbrev cc3_stg13_0 : Ref sig .tc := ⟨.vmem, 42, rfl⟩
abbrev cc3_stg14_0 : Ref sig .tc := ⟨.vmem, 43, rfl⟩
abbrev cc3_stg15_0 : Ref sig .tc := ⟨.vmem, 44, rfl⟩
abbrev cc3_stg16_0 : Ref sig .tc := ⟨.vmem, 45, rfl⟩
abbrev cc3_stg17_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26
abbrev cc2_sem10_0 : DmaSem sig := 27
abbrev cc2_sem10_1 : DmaSem sig := 28
abbrev cc3_sem0_0 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40
abbrev cc3_sem12_0 : DmaSem sig := 41
abbrev cc3_sem13_0 : DmaSem sig := 42
abbrev cc3_sem14_0 : DmaSem sig := 43
abbrev cc3_sem15_0 : DmaSem sig := 44
abbrev cc3_sem16_0 : DmaSem sig := 45
abbrev cc3_sem17_0 : DmaSem sig := 46

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg1
  let c16_i32_0 : BitVec 32 := 16#32
  let v1 : BitVec 32 := Scalar.addi v0 c16_i32_0
  let c31_i32 : BitVec 32 := 31#32
  let v2 : BitVec 32 := Scalar.minsi v1 c31_i32
  let c0_i32 : BitVec 32 := 0#32
  let c0_i32_1 : BitVec 32 := 0#32
  let c0_i32_2 : BitVec 32 := 0#32
  ![arg0.toNat, v2.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128x24 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x24 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S72x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x128x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x16x16x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x3072 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3072x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3072x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x256x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x256x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := .none

abbrev stage3_0 : Fin 1 → Memref sig .tc .vmem S8x256x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S8x256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S32x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S256x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S384x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))

abbrev stage3_12 : Fin 1 → Memref sig .tc .vmem S256x80 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))

abbrev stage3_13 : Fin 1 → Memref sig .tc .vmem S1x80 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))

abbrev stage3_14 : Fin 1 → Memref sig .tc .vmem S256x4 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))

abbrev stage3_15 : Fin 1 → Memref sig .tc .vmem S1x4 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))

abbrev stage3_16 : Fin 1 → Memref sig .tc .vmem S8x256x80 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))

abbrev stage3_17 : Fin 1 → Memref sig .tc .vmem S8x256x4 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
-- ==== ReferenceIdeal.lean ====
abbrev S8x3x512x512 : Shape := ⟨4, ![8, 3, 512, 512]⟩
abbrev S8x256x3x32x32 : Shape := ⟨5, ![8, 256, 3, 32, 32]⟩
abbrev S64x3x3x3 : Shape := ⟨4, ![64, 3, 3, 3]⟩
abbrev S64 : Shape := ⟨1, ![64]⟩
abbrev S64x64x3x3 : Shape := ⟨4, ![64, 64, 3, 3]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S3072x512 : Shape := ⟨2, ![3072, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S3072x128 : Shape := ⟨2, ![3072, 128]⟩
abbrev S256x256 : Shape := ⟨2, ![256, 256]⟩
abbrev S256 : Shape := ⟨1, ![256]⟩
abbrev S384x256 : Shape := ⟨2, ![384, 256]⟩
abbrev S256x80 : Shape := ⟨2, ![256, 80]⟩
abbrev S80 : Shape := ⟨1, ![80]⟩
abbrev S256x4 : Shape := ⟨2, ![256, 4]⟩
abbrev S4 : Shape := ⟨1, ![4]⟩
abbrev S8x512x512x3 : Shape := ⟨4, ![8, 512, 512, 3]⟩
abbrev S8x514x514x3 : Shape := ⟨4, ![8, 514, 514, 3]⟩
abbrev S8x256x256x64 : Shape := ⟨4, ![8, 256, 256, 64]⟩
abbrev S8x256x256x3 : Shape := ⟨4, ![8, 256, 256, 3]⟩
abbrev S64x3x1x1 : Shape := ⟨4, ![64, 3, 1, 1]⟩
abbrev S64x3 : Shape := ⟨2, ![64, 3]⟩
abbrev S3x64 : Shape := ⟨2, ![3, 64]⟩
abbrev S1x1x1x64 : Shape := ⟨4, ![1, 1, 1, 64]⟩
abbrev S8x258x258x64 : Shape := ⟨4, ![8, 258, 258, 64]⟩
abbrev S8x128x128x64 : Shape := ⟨4, ![8, 128, 128, 64]⟩
abbrev S64x64x1x1 : Shape := ⟨4, ![64, 64, 1, 1]⟩
abbrev S64x64 : Shape := ⟨2, ![64, 64]⟩
abbrev S8x16x8x16x8x64 : Shape := ⟨6, ![8, 16, 8, 16, 8, 64]⟩
abbrev S8x16x16x64 : Shape := ⟨4, ![8, 16, 16, 64]⟩
abbrev S8x256x64 : Shape := ⟨3, ![8, 256, 64]⟩
abbrev S8x256x32 : Shape := ⟨3, ![8, 256, 32]⟩
abbrev S1x1x32 : Shape := ⟨3, ![1, 1, 32]⟩
abbrev S8x256x1 : Shape := ⟨3, ![8, 256, 1]⟩
abbrev S1x1x1 : Shape := ⟨3, ![1, 1, 1]⟩
abbrev S8x256 : Shape := ⟨2, ![8, 256]⟩
abbrev S8x256x3072 : Shape := ⟨3, ![8, 256, 3072]⟩
abbrev S8x256x512 : Shape := ⟨3, ![8, 256, 512]⟩
abbrev S1x1x512 : Shape := ⟨3, ![1, 1, 512]⟩
abbrev S8x256x128 : Shape := ⟨3, ![8, 256, 128]⟩
abbrev S1x1x128 : Shape := ⟨3, ![1, 1, 128]⟩
abbrev S8 : Shape := ⟨1, ![8]⟩
abbrev S8x1 : Shape := ⟨2, ![8, 1]⟩
abbrev S8x128 : Shape := ⟨2, ![8, 128]⟩
abbrev S1x256 : Shape := ⟨2, ![1, 256]⟩
abbrev S8x1x256 : Shape := ⟨3, ![8, 1, 256]⟩
abbrev S8x256x256 : Shape := ⟨3, ![8, 256, 256]⟩
abbrev S8x256x384 : Shape := ⟨3, ![8, 256, 384]⟩
abbrev S1x1x256 : Shape := ⟨3, ![1, 1, 256]⟩
abbrev S8x256x80 : Shape := ⟨3, ![8, 256, 80]⟩
abbrev S1x1x80 : Shape := ⟨3, ![1, 1, 80]⟩
abbrev S8x256x4 : Shape := ⟨3, ![8, 256, 4]⟩
abbrev S1x1x4 : Shape := ⟨3, ![1, 1, 4]⟩

abbrev nBuf : Space → Nat
  | .hbm => 278
  | .vmem => 0
  | .smem => 0
  | _ => 0

abbrev hbmTy0_0 (i : Nat) : BufTy := match i % 128 with
  | 0 => ⟨S8x3x512x512, .f32⟩
  | 1 => ⟨S8x256x3x32x32, .f32⟩
  | 2 => ⟨S64x3x3x3, .f32⟩
  | 3 => ⟨S64, .f32⟩
  | 4 => ⟨S64x64x3x3, .f32⟩
  | 5 => ⟨S64, .f32⟩
  | 6 => ⟨S64x32, .f32⟩
  | 7 => ⟨S32, .f32⟩
  | 8 => ⟨S32x1, .f32⟩
  | 9 => ⟨S1, .f32⟩
  | 10 => ⟨S_, .f32⟩
  | 11 => ⟨S3072x512, .f32⟩
  | 12 => ⟨S512, .f32⟩
  | 13 => ⟨S512x512, .f32⟩
  | 14 => ⟨S512, .f32⟩
  | 15 => ⟨S512x128, .f32⟩
  | 16 => ⟨S128, .f32⟩
  | 17 => ⟨S3072x128, .f32⟩
  | 18 => ⟨S128, .f32⟩
  | 19 => ⟨S256x256, .f32⟩
  | 20 => ⟨S256, .f32⟩
  | 21 => ⟨S384x256, .f32⟩
  | 22 => ⟨S256, .f32⟩
  | 23 => ⟨S256x80, .f32⟩
  | 24 => ⟨S80, .f32⟩
  | 25 => ⟨S256x4, .f32⟩
  | 26 => ⟨S4, .f32⟩
  | 27 => ⟨S8x512x512x3, .f32⟩
  | 28 => ⟨S_, .i32⟩
  | 29 => ⟨S_, .f32⟩
  | 30 => ⟨S8x514x514x3, .f32⟩
  | 31 => ⟨S_, .f32⟩
  | 32 => ⟨S8x256x256x64, .f32⟩
  | 33 => ⟨S8x256x256x3, .f32⟩
  | 34 => ⟨S64x3x1x1, .f32⟩
  | 35 => ⟨S64x3, .f32⟩
  | 36 => ⟨S3x64, .f32⟩
  | 37 => ⟨S8x256x256x64, .f32⟩
  | 38 => ⟨S8x256x256x64, .f32⟩
  | 39 => ⟨S8x256x256x3, .f32⟩
  | 40 => ⟨S64x3x1x1, .f32⟩
  | 41 => ⟨S64x3, .f32⟩
  | 42 => ⟨S3x64, .f32⟩
  | 43 => ⟨S8x256x256x64, .f32⟩
  | 44 => ⟨S8x256x256x64, .f32⟩
  | 45 => ⟨S8x256x256x3, .f32⟩
  | 46 => ⟨S64x3x1x1, .f32⟩
  | 47 => ⟨S64x3, .f32⟩
  | 48 => ⟨S3x64, .f32⟩
  | 49 => ⟨S8x256x256x64, .f32⟩
  | 50 => ⟨S8x256x256x64, .f32⟩
  | 51 => ⟨S8x256x256x3, .f32⟩
  | 52 => ⟨S64x3x1x1, .f32⟩
  | 53 => ⟨S64x3, .f32⟩
  | 54 => ⟨S3x64, .f32⟩
  | 55 => ⟨S8x256x256x64, .f32⟩
  | 56 => ⟨S8x256x256x64, .f32⟩
  | 57 => ⟨S8x256x256x3, .f32⟩
  | 58 => ⟨S64x3x1x1, .f32⟩
  | 59 => ⟨S64x3, .f32⟩
  | 60 => ⟨S3x64, .f32⟩
  | 61 => ⟨S8x256x256x64, .f32⟩
  | 62 => ⟨S8x256x256x64, .f32⟩
  | 63 => ⟨S8x256x256x3, .f32⟩
  | 64 => ⟨S64x3x1x1, .f32⟩
  | 65 => ⟨S64x3, .f32⟩
  | 66 => ⟨S3x64, .f32⟩
  | 67 => ⟨S8x256x256x64, .f32⟩
  | 68 => ⟨S8x256x256x64, .f32⟩
  | 69 => ⟨S8x256x256x3, .f32⟩
  | 70 => ⟨S64x3x1x1, .f32⟩
  | 71 => ⟨S64x3, .f32⟩
  | 72 => ⟨S3x64, .f32⟩
  | 73 => ⟨S8x256x256x64, .f32⟩
  | 74 => ⟨S8x256x256x64, .f32⟩
  | 75 => ⟨S8x256x256x3, .f32⟩
  | 76 => ⟨S64x3x1x1, .f32⟩
  | 77 => ⟨S64x3, .f32⟩
  | 78 => ⟨S3x64, .f32⟩
  | 79 => ⟨S8x256x256x64, .f32⟩
  | 80 => ⟨S8x256x256x64, .f32⟩
  | 81 => ⟨S8x256x256x3, .f32⟩
  | 82 => ⟨S64x3x1x1, .f32⟩
  | 83 => ⟨S64x3, .f32⟩
  | 84 => ⟨S3x64, .f32⟩
  | 85 => ⟨S8x256x256x64, .f32⟩
  | 86 => ⟨S8x256x256x64, .f32⟩
  | 87 => ⟨S1x1x1x64, .f32⟩
  | 88 => ⟨S8x256x256x64, .f32⟩
  | 89 => ⟨S8x256x256x64, .f32⟩
  | 90 => ⟨S_, .f32⟩
  | 91 => ⟨S8x256x256x64, .f32⟩
  | 92 => ⟨S8x256x256x64, .f32⟩
  | 93 => ⟨S_, .i32⟩
  | 94 => ⟨S_, .f32⟩
  | 95 => ⟨S8x258x258x64, .f32⟩
  | 96 => ⟨S_, .f32⟩
  | 97 => ⟨S8x128x128x64, .f32⟩
  | 98 => ⟨S8x128x128x64, .f32⟩
  | 99 => ⟨S64x64x1x1, .f32⟩
  | 100 => ⟨S64x64, .f32⟩
  | 101 => ⟨S64x64, .f32⟩
  | 102 => ⟨S8x128x128x64, .f32⟩
  | 103 => ⟨S8x128x128x64, .f32⟩
  | 104 => ⟨S8x128x128x64, .f32⟩
  | 105 => ⟨S64x64x1x1, .f32⟩
  | 106 => ⟨S64x64, .f32⟩
  | 107 => ⟨S64x64, .f32⟩
  | 108 => ⟨S8x128x128x64, .f32⟩
  | 109 => ⟨S8x128x128x64, .f32⟩
  | 110 => ⟨S8x128x128x64, .f32⟩
  | 111 => ⟨S64x64x1x1, .f32⟩
  | 112 => ⟨S64x64, .f32⟩
  | 113 => ⟨S64x64, .f32⟩
  | 114 => ⟨S8x128x128x64, .f32⟩
  | 115 => ⟨S8x128x128x64, .f32⟩
  | 116 => ⟨S8x128x128x64, .f32⟩
  | 117 => ⟨S64x64x1x1, .f32⟩
  | 118 => ⟨S64x64, .f32⟩
  | 119 => ⟨S64x64, .f32⟩
  | 120 => ⟨S8x128x128x64, .f32⟩
  | 121 => ⟨S8x128x128x64, .f32⟩
  | 122 => ⟨S8x128x128x64, .f32⟩
  | 123 => ⟨S64x64x1x1, .f32⟩
  | 124 => ⟨S64x64, .f32⟩
  | 125 => ⟨S64x64, .f32⟩
  | 126 => ⟨S8x128x128x64, .f32⟩
  | 127 => ⟨S8x128x128x64, .f32⟩
  | _ => ⟨S8x3x512x512, .f32⟩

abbrev hbmTy0_1 (i : Nat) : BufTy := match i % 128 with
  | 0 => ⟨S8x128x128x64, .f32⟩
  | 1 => ⟨S64x64x1x1, .f32⟩
  | 2 => ⟨S64x64, .f32⟩
  | 3 => ⟨S64x64, .f32⟩
  | 4 => ⟨S8x128x128x64, .f32⟩
  | 5 => ⟨S8x128x128x64, .f32⟩
  | 6 => ⟨S8x128x128x64, .f32⟩
  | 7 => ⟨S64x64x1x1, .f32⟩
  | 8 => ⟨S64x64, .f32⟩
  | 9 => ⟨S64x64, .f32⟩
  | 10 => ⟨S8x128x128x64, .f32⟩
  | 11 => ⟨S8x128x128x64, .f32⟩
  | 12 => ⟨S8x128x128x64, .f32⟩
  | 13 => ⟨S64x64x1x1, .f32⟩
  | 14 => ⟨S64x64, .f32⟩
  | 15 => ⟨S64x64, .f32⟩
  | 16 => ⟨S8x128x128x64, .f32⟩
  | 17 => ⟨S8x128x128x64, .f32⟩
  | 18 => ⟨S8x128x128x64, .f32⟩
  | 19 => ⟨S64x64x1x1, .f32⟩
  | 20 => ⟨S64x64, .f32⟩
  | 21 => ⟨S64x64, .f32⟩
  | 22 => ⟨S8x128x128x64, .f32⟩
  | 23 => ⟨S8x128x128x64, .f32⟩
  | 24 => ⟨S1x1x1x64, .f32⟩
  | 25 => ⟨S8x128x128x64, .f32⟩
  | 26 => ⟨S8x128x128x64, .f32⟩
  | 27 => ⟨S_, .f32⟩
  | 28 => ⟨S8x128x128x64, .f32⟩
  | 29 => ⟨S8x128x128x64, .f32⟩
  | 30 => ⟨S8x16x8x16x8x64, .f32⟩
  | 31 => ⟨S_, .f32⟩
  | 32 => ⟨S8x16x16x64, .f32⟩
  | 33 => ⟨S_, .f32⟩
  | 34 => ⟨S8x16x16x64, .f32⟩
  | 35 => ⟨S8x16x16x64, .f32⟩
  | 36 => ⟨S8x256x64, .f32⟩
  | 37 => ⟨S8x256x32, .f32⟩
  | 38 => ⟨S1x1x32, .f32⟩
  | 39 => ⟨S8x256x32, .f32⟩
  | 40 => ⟨S8x256x32, .f32⟩
  | 41 => ⟨S_, .f32⟩
  | 42 => ⟨S8x256x32, .f32⟩
  | 43 => ⟨S8x256x32, .f32⟩
  | 44 => ⟨S8x256x1, .f32⟩
  | 45 => ⟨S1x1x1, .f32⟩
  | 46 => ⟨S8x256x1, .f32⟩
  | 47 => ⟨S8x256x1, .f32⟩
  | 48 => ⟨S8x256x1, .f32⟩
  | 49 => ⟨S8x256x1, .f32⟩
  | 50 => ⟨S_, .f32⟩
  | 51 => ⟨S8x256x1, .f32⟩
  | 52 => ⟨S8x256x1, .f32⟩
  | 53 => ⟨S_, .f32⟩
  | 54 => ⟨S8x256x1, .f32⟩
  | 55 => ⟨S8x256x1, .f32⟩
  | 56 => ⟨S8x256, .f32⟩
  | 57 => ⟨S8x256, .f32⟩
  | 58 => ⟨S8x256, .f32⟩
  | 59 => ⟨S_, .f32⟩
  | 60 => ⟨S8x256, .f32⟩
  | 61 => ⟨S8x256, .f32⟩
  | 62 => ⟨S8x256, .f32⟩
  | 63 => ⟨S8x256, .f32⟩
  | 64 => ⟨S_, .f32⟩
  | 65 => ⟨S8x256, .f32⟩
  | 66 => ⟨S8x256, .f32⟩
  | 67 => ⟨S_, .f32⟩
  | 68 => ⟨S8x256, .f32⟩
  | 69 => ⟨S8x256, .f32⟩
  | 70 => ⟨S8x256x3072, .f32⟩
  | 71 => ⟨S8x256x512, .f32⟩
  | 72 => ⟨S1x1x512, .f32⟩
  | 73 => ⟨S8x256x512, .f32⟩
  | 74 => ⟨S8x256x512, .f32⟩
  | 75 => ⟨S_, .f32⟩
  | 76 => ⟨S8x256x512, .f32⟩
  | 77 => ⟨S8x256x512, .f32⟩
  | 78 => ⟨S8x256x512, .f32⟩
  | 79 => ⟨S1x1x512, .f32⟩
  | 80 => ⟨S8x256x512, .f32⟩
  | 81 => ⟨S8x256x512, .f32⟩
  | 82 => ⟨S_, .f32⟩
  | 83 => ⟨S8x256x512, .f32⟩
  | 84 => ⟨S8x256x512, .f32⟩
  | 85 => ⟨S8x256x128, .f32⟩
  | 86 => ⟨S1x1x128, .f32⟩
  | 87 => ⟨S8x256x128, .f32⟩
  | 88 => ⟨S8x256x128, .f32⟩
  | 89 => ⟨S8x256x1, .f32⟩
  | 90 => ⟨S8x256x128, .f32⟩
  | 91 => ⟨S8x256x128, .f32⟩
  | 92 => ⟨S8x256x128, .f32⟩
  | 93 => ⟨S1x1x128, .f32⟩
  | 94 => ⟨S8x256x128, .f32⟩
  | 95 => ⟨S8x256x128, .f32⟩
  | 96 => ⟨S_, .f32⟩
  | 97 => ⟨S8x256, .f32⟩
  | 98 => ⟨S8x256, .f32⟩
  | 99 => ⟨S8x256x1, .f32⟩
  | 100 => ⟨S8x256x128, .f32⟩
  | 101 => ⟨S8x256x128, .f32⟩
  | 102 => ⟨S8x256x128, .f32⟩
  | 103 => ⟨S_, .f32⟩
  | 104 => ⟨S8, .f32⟩
  | 105 => ⟨S_, .f32⟩
  | 106 => ⟨S8, .f32⟩
  | 107 => ⟨S8, .f32⟩
  | 108 => ⟨S8x1, .f32⟩
  | 109 => ⟨S8x256, .f32⟩
  | 110 => ⟨S8x256, .f32⟩
  | 111 => ⟨S8x256, .f32⟩
  | 112 => ⟨S_, .f32⟩
  | 113 => ⟨S8, .f32⟩
  | 114 => ⟨S8x1, .f32⟩
  | 115 => ⟨S8x256, .f32⟩
  | 116 => ⟨S8x256, .f32⟩
  | 117 => ⟨S8x256x1, .f32⟩
  | 118 => ⟨S8x256x128, .f32⟩
  | 119 => ⟨S8x256x128, .f32⟩
  | 120 => ⟨S_, .f32⟩
  | 121 => ⟨S8x128, .f32⟩
  | 122 => ⟨S_, .f32⟩
  | 123 => ⟨S8x128, .f32⟩
  | 124 => ⟨S_, .f32⟩
  | 125 => ⟨S8x128, .f32⟩
  | 126 => ⟨S8x128, .f32⟩
  | 127 => ⟨S8x256, .f32⟩
  | _ => ⟨S8x3x512x512, .f32⟩

abbrev hbmTy0_2 (i : Nat) : BufTy := match i % 128 with
  | 0 => ⟨S8x256, .f32⟩
  | 1 => ⟨S1x256, .f32⟩
  | 2 => ⟨S8x256, .f32⟩
  | 3 => ⟨S8x256, .f32⟩
  | 4 => ⟨S8x1x256, .f32⟩
  | 5 => ⟨S8x256x256, .f32⟩
  | 6 => ⟨S8x256x384, .f32⟩
  | 7 => ⟨S8x256x256, .f32⟩
  | 8 => ⟨S1x1x256, .f32⟩
  | 9 => ⟨S8x256x256, .f32⟩
  | 10 => ⟨S8x256x256, .f32⟩
  | 11 => ⟨S_, .f32⟩
  | 12 => ⟨S8x256x256, .f32⟩
  | 13 => ⟨S8x256x256, .f32⟩
  | 14 => ⟨S8x256x80, .f32⟩
  | 15 => ⟨S1x1x80, .f32⟩
  | 16 => ⟨S8x256x80, .f32⟩
  | 17 => ⟨S8x256x80, .f32⟩
  | 18 => ⟨S8x256x4, .f32⟩
  | 19 => ⟨S1x1x4, .f32⟩
  | 20 => ⟨S8x256x4, .f32⟩
  | 21 => ⟨S8x256x4, .f32⟩
  | _ => ⟨S8x3x512x512, .f32⟩

abbrev hbmTy (i : Nat) : BufTy := match i / 128 with
  | 0 => hbmTy0_0 i
  | 1 => hbmTy0_1 i
  | 2 => hbmTy0_2 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_call0_v0 : Ref sig .tc := ⟨.hbm, 29, rfl⟩
abbrev main_v1 : Ref sig .tc := ⟨.hbm, 30, rfl⟩
abbrev main_cst : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call1_cst : Ref sig .tc := ⟨.hbm, 90, rfl⟩
abbrev main_call1_v0 : Ref sig .tc := ⟨.hbm, 91, rfl⟩
abbrev main_v60 : Ref sig .tc := ⟨.hbm, 92, rfl⟩
abbrev main_c_0 : Ref sig .tc := ⟨.hbm, 93, rfl⟩
abbrev main_call2_v0 : Ref sig .tc := ⟨.hbm, 94, rfl⟩
abbrev main_v61 : Ref sig .tc := ⟨.hbm, 95, rfl⟩
abbrev main_cst_1 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_call3_cst : Ref sig .tc := ⟨.hbm, 155, rfl⟩
abbrev main_call3_v0 : Ref sig .tc := ⟨.hbm, 156, rfl⟩
abbrev main_v120 : Ref sig .tc := ⟨.hbm, 157, rfl⟩
abbrev main_v121 : Ref sig .tc := ⟨.hbm, 158, rfl⟩
abbrev main_cst_2 : Ref sig .tc := ⟨.hbm, 159, rfl⟩
abbrev main_v122 : Ref sig .tc := ⟨.hbm, 160, rfl⟩
abbrev main_cst_3 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_call4_cst : Ref sig .tc := ⟨.hbm, 169, rfl⟩
abbrev main_call4_v0 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_4 : Ref sig .tc := ⟨.hbm, 178, rfl⟩
abbrev main_v137 : Ref sig .tc := ⟨.hbm, 179, rfl⟩
abbrev main_v138 : Ref sig .tc := ⟨.hbm, 180, rfl⟩
abbrev main_cst_5 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_6 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_7 : Ref sig .tc := ⟨.hbm, 192, rfl⟩
abbrev main_v148 : Ref sig .tc := ⟨.hbm, 193, rfl⟩
abbrev main_v149 : Ref sig .tc := ⟨.hbm, 194, rfl⟩
abbrev main_cst_8 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_call5_cst : Ref sig .tc := ⟨.hbm, 203, rfl⟩
abbrev main_call5_v0 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_call6_cst : Ref sig .tc := ⟨.hbm, 210, rfl⟩
abbrev main_call6_v0 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_9 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_10 : Ref sig .tc := ⟨.hbm, 231, rfl⟩
abbrev main_v180 : Ref sig .tc := ⟨.hbm, 232, rfl⟩
abbrev main_cst_11 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_cst_12 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_cst_13 : Ref sig .tc := ⟨.hbm, 248, rfl⟩
abbrev main_v194 : Ref sig .tc := ⟨.hbm, 249, rfl⟩
abbrev main_cst_14 : Ref sig .tc := ⟨.hbm, 250, rfl⟩
abbrev main_v195 : Ref sig .tc := ⟨.hbm, 251, rfl⟩
abbrev main_cst_15 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_call7_cst : Ref sig .tc := ⟨.hbm, 267, rfl⟩
abbrev main_call7_v0 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩

abbrev nD : Nat := 1
abbrev τ : Topo := Topo.v7x

variable {F : FTy → Type} [FloatOps F]
-- ==== Tail.lean ====
abbrev S8x256x128x128 : Shape := ⟨4, ![8, 256, 128, 128]⟩
abbrev S8x256x3072 : Shape := ⟨3, ![8, 256, 3072]⟩
abbrev S64x64x3x3 : Shape := ⟨4, ![64, 64, 3, 3]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S3072x512 : Shape := ⟨2, ![3072, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S3072x128 : Shape := ⟨2, ![3072, 128]⟩
abbrev S256x256 : Shape := ⟨2, ![256, 256]⟩
abbrev S256 : Shape := ⟨1, ![256]⟩
abbrev S384x256 : Shape := ⟨2, ![384, 256]⟩
abbrev S256x80 : Shape := ⟨2, ![256, 80]⟩
abbrev S80 : Shape := ⟨1, ![80]⟩
abbrev S256x4 : Shape := ⟨2, ![256, 4]⟩
abbrev S4 : Shape := ⟨1, ![4]⟩
abbrev S3x3x64x64 : Shape := ⟨4, ![3, 3, 64, 64]⟩
abbrev S64x64 : Shape := ⟨2, ![64, 64]⟩
abbrev S1x1x64x64 : Shape := ⟨4, ![1, 1, 64, 64]⟩
abbrev S128x64 : Shape := ⟨2, ![128, 64]⟩
abbrev S1x128x64 : Shape := ⟨3, ![1, 128, 64]⟩
abbrev S3x128x64 : Shape := ⟨3, ![3, 128, 64]⟩
abbrev S384x64 : Shape := ⟨2, ![384, 64]⟩
abbrev S1x64 : Shape := ⟨2, ![1, 64]⟩
abbrev S8x16x16x64 : Shape := ⟨4, ![8, 16, 16, 64]⟩
abbrev S1x256x128x128 : Shape := ⟨4, ![1, 256, 128, 128]⟩
abbrev S1x16x16x64 : Shape := ⟨4, ![1, 16, 16, 64]⟩
abbrev S256x128x128 : Shape := ⟨3, ![256, 128, 128]⟩
abbrev S128x2x128x128 : Shape := ⟨4, ![128, 2, 128, 128]⟩
abbrev S1x128x128 : Shape := ⟨3, ![1, 128, 128]⟩
abbrev S128x1x128x128 : Shape := ⟨4, ![128, 1, 128, 128]⟩
abbrev S128x128x128 : Shape := ⟨3, ![128, 128, 128]⟩
abbrev S127x128x128 : Shape := ⟨3, ![127, 128, 128]⟩
abbrev S128x128x384 : Shape := ⟨3, ![128, 128, 384]⟩
abbrev S16384x384 : Shape := ⟨2, ![16384, 384]⟩
abbrev S16384x64 : Shape := ⟨2, ![16384, 64]⟩
abbrev S128x128x64 : Shape := ⟨3, ![128, 128, 64]⟩
abbrev S128x127x64 : Shape := ⟨3, ![128, 127, 64]⟩
abbrev S128x1x64 : Shape := ⟨3, ![128, 1, 64]⟩
abbrev S16x8x16x8x64 : Shape := ⟨5, ![16, 8, 16, 8, 64]⟩
abbrev S16x16x8x64 : Shape := ⟨4, ![16, 16, 8, 64]⟩
abbrev S16x16x64 : Shape := ⟨3, ![16, 16, 64]⟩
abbrev S8x256x64 : Shape := ⟨3, ![8, 256, 64]⟩
abbrev S1x512 : Shape := ⟨2, ![1, 512]⟩
abbrev S1x128 : Shape := ⟨2, ![1, 128]⟩
abbrev S8x256x128 : Shape := ⟨3, ![8, 256, 128]⟩
abbrev S1x256x3072 : Shape := ⟨3, ![1, 256, 3072]⟩
abbrev S1x256x128 : Shape := ⟨3, ![1, 256, 128]⟩
abbrev S256x3072 : Shape := ⟨2, ![256, 3072]⟩
abbrev S256x512 : Shape := ⟨2, ![256, 512]⟩
abbrev S256x128 : Shape := ⟨2, ![256, 128]⟩
abbrev S1x32 : Shape := ⟨2, ![1, 32]⟩
abbrev S1x1 : Shape := ⟨2, ![1, 1]⟩
abbrev S1x256 : Shape := ⟨2, ![1, 256]⟩
abbrev S1x80 : Shape := ⟨2, ![1, 80]⟩
abbrev S1x4 : Shape := ⟨2, ![1, 4]⟩
abbrev S8x256x80 : Shape := ⟨3, ![8, 256, 80]⟩
abbrev S8x256x4 : Shape := ⟨3, ![8, 256, 4]⟩
abbrev S2048x64 : Shape := ⟨2, ![2048, 64]⟩
abbrev S2048x32 : Shape := ⟨2, ![2048, 32]⟩
abbrev S2048x1 : Shape := ⟨2, ![2048, 1]⟩
abbrev S8x256x1 : Shape := ⟨3, ![8, 256, 1]⟩
abbrev S8x1 : Shape := ⟨2, ![8, 1]⟩
abbrev S8x1x1 : Shape := ⟨3, ![8, 1, 1]⟩
abbrev S8x128 : Shape := ⟨2, ![8, 128]⟩
abbrev S128x256 : Shape := ⟨2, ![128, 256]⟩
abbrev S8x256 : Shape := ⟨2, ![8, 256]⟩
abbrev S2048x128 : Shape := ⟨2, ![2048, 128]⟩
abbrev S2048x256 : Shape := ⟨2, ![2048, 256]⟩
abbrev S8x256x256 : Shape := ⟨3, ![8, 256, 256]⟩
abbrev S8x1x256 : Shape := ⟨3, ![8, 1, 256]⟩
abbrev S1x1x256 : Shape := ⟨3, ![1, 1, 256]⟩
abbrev S2048x80 : Shape := ⟨2, ![2048, 80]⟩
abbrev S2048x4 : Shape := ⟨2, ![2048, 4]⟩

abbrev nBuf : Space → Nat
  | .hbm => 86
  | .vmem => 39
  | .smem => 0
  | _ => 0

abbrev bufTy : (tb : Table) → Fin (tcTables nBuf tb) → BufTy
  | .hbm, ⟨0, _⟩ => ⟨S8x256x128x128, .bf16⟩
  | .hbm, ⟨1, _⟩ => ⟨S8x256x3072, .f32⟩
  | .hbm, ⟨2, _⟩ => ⟨S64x64x3x3, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S_, .f32⟩
  | .hbm, ⟨9, _⟩ => ⟨S3072x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x128, .f32⟩
  | .hbm, ⟨14, _⟩ => ⟨S128, .f32⟩
  | .hbm, ⟨15, _⟩ => ⟨S3072x128, .f32⟩
  | .hbm, ⟨16, _⟩ => ⟨S128, .f32⟩
  | .hbm, ⟨17, _⟩ => ⟨S256x256, .f32⟩
  | .hbm, ⟨18, _⟩ => ⟨S256, .f32⟩
  | .hbm, ⟨19, _⟩ => ⟨S384x256, .f32⟩
  | .hbm, ⟨20, _⟩ => ⟨S256, .f32⟩
  | .hbm, ⟨21, _⟩ => ⟨S256x80, .f32⟩
  | .hbm, ⟨22, _⟩ => ⟨S80, .f32⟩
  | .hbm, ⟨23, _⟩ => ⟨S256x4, .f32⟩
  | .hbm, ⟨24, _⟩ => ⟨S4, .f32⟩
  | .hbm, ⟨25, _⟩ => ⟨S3x3x64x64, .f32⟩
  | .hbm, ⟨26, _⟩ => ⟨S_, .f32⟩
  | .hbm, ⟨27, _⟩ => ⟨S64x64, .f32⟩
  | .hbm, ⟨28, _⟩ => ⟨S1x1x64x64, .f32⟩
  | .hbm, ⟨29, _⟩ => ⟨S64x64, .f32⟩
  | .hbm, ⟨30, _⟩ => ⟨S128x64, .f32⟩
  | .hbm, ⟨31, _⟩ => ⟨S1x1x64x64, .f32⟩
  | .hbm, ⟨32, _⟩ => ⟨S64x64, .f32⟩
  | .hbm, ⟨33, _⟩ => ⟨S128x64, .f32⟩
  | .hbm, ⟨34, _⟩ => ⟨S1x1x64x64, .f32⟩
  | .hbm, ⟨35, _⟩ => ⟨S64x64, .f32⟩
  | .hbm, ⟨36, _⟩ => ⟨S128x64, .f32⟩
  | .hbm, ⟨37, _⟩ => ⟨S1x128x64, .f32⟩
  | .hbm, ⟨38, _⟩ => ⟨S1x128x64, .f32⟩
  | .hbm, ⟨39, _⟩ => ⟨S1x128x64, .f32⟩
  | .hbm, ⟨40, _⟩ => ⟨S3x128x64, .f32⟩
  | .hbm, ⟨41, _⟩ => ⟨S1x1x64x64, .f32⟩
  | .hbm, ⟨42, _⟩ => ⟨S64x64, .f32⟩
  | .hbm, ⟨43, _⟩ => ⟨S1x1x64x64, .f32⟩
  | .hbm, ⟨44, _⟩ => ⟨S64x64, .f32⟩
  | .hbm, ⟨45, _⟩ => ⟨S128x64, .f32⟩
  | .hbm, ⟨46, _⟩ => ⟨S1x1x64x64, .f32⟩
  | .hbm, ⟨47, _⟩ => ⟨S64x64, .f32⟩
  | .hbm, ⟨48, _⟩ => ⟨S1x1x64x64, .f32⟩
  | .hbm, ⟨49, _⟩ => ⟨S64x64, .f32⟩
  | .hbm, ⟨50, _⟩ => ⟨S128x64, .f32⟩
  | .hbm, ⟨51, _⟩ => ⟨S1x1x64x64, .f32⟩
  | .hbm, ⟨52, _⟩ => ⟨S64x64, .f32⟩
  | .hbm, ⟨53, _⟩ => ⟨S1x1x64x64, .f32⟩
  | .hbm, ⟨54, _⟩ => ⟨S64x64, .f32⟩
  | .hbm, ⟨55, _⟩ => ⟨S128x64, .f32⟩
  | .hbm, ⟨56, _⟩ => ⟨S1x128x64, .f32⟩
  | .hbm, ⟨57, _⟩ => ⟨S1x128x64, .f32⟩
  | .hbm, ⟨58, _⟩ => ⟨S1x128x64, .f32⟩
  | .hbm, ⟨59, _⟩ => ⟨S3x128x64, .f32⟩
  | .hbm, ⟨60, _⟩ => ⟨S3x128x64, .bf16⟩
  | .hbm, ⟨61, _⟩ => ⟨S384x64, .bf16⟩
  | .hbm, ⟨62, _⟩ => ⟨S3x128x64, .bf16⟩
  | .hbm, ⟨63, _⟩ => ⟨S384x64, .bf16⟩
  | .hbm, ⟨64, _⟩ => ⟨S1x64, .f32⟩
  | .hbm, ⟨65, _⟩ => ⟨S8x16x16x64, .f32⟩
  | .hbm, ⟨66, _⟩ => ⟨S8x256x64, .f32⟩
  | .hbm, ⟨67, _⟩ => ⟨S3072x512, .bf16⟩
  | .hbm, ⟨68, _⟩ => ⟨S1x512, .f32⟩
  | .hbm, ⟨69, _⟩ => ⟨S512x512, .bf16⟩
  | .hbm, ⟨70, _⟩ => ⟨S1x512, .f32⟩
  | .hbm, ⟨71, _⟩ => ⟨S512x128, .bf16⟩
  | .hbm, ⟨72, _⟩ => ⟨S1x128, .f32⟩
  | .hbm, ⟨73, _⟩ => ⟨S3072x128, .bf16⟩
  | .hbm, ⟨74, _⟩ => ⟨S1x128, .f32⟩
  | .hbm, ⟨75, _⟩ => ⟨S8x256x128, .f32⟩
  | .hbm, ⟨76, _⟩ => ⟨S8x256x128, .f32⟩
  | .hbm, ⟨77, _⟩ => ⟨S1x32, .f32⟩
  | .hbm, ⟨78, _⟩ => ⟨S1x1, .f32⟩
  | .hbm, ⟨79, _⟩ => ⟨S1x1, .f32⟩
  | .hbm, ⟨80, _⟩ => ⟨S1x256, .f32⟩
  | .hbm, ⟨81, _⟩ => ⟨S1x256, .f32⟩
  | .hbm, ⟨82, _⟩ => ⟨S1x80, .f32⟩
  | .hbm, ⟨83, _⟩ => ⟨S1x4, .f32⟩
  | .hbm, ⟨84, _⟩ => ⟨S8x256x80, .f32⟩
  | .hbm, ⟨85, _⟩ => ⟨S8x256x4, .f32⟩
  | .local _ .vmem, ⟨0, _⟩ => ⟨S1x256x128x128, .bf16⟩
  | .local _ .vmem, ⟨1, _⟩ => ⟨S1x256x128x128, .bf16⟩
  | .local _ .vmem, ⟨2, _⟩ => ⟨S384x64, .bf16⟩
  | .local _ .vmem, ⟨3, _⟩ => ⟨S384x64, .bf16⟩
  | .local _ .vmem, ⟨4, _⟩ => ⟨S1x64, .f32⟩
  | .local _ .vmem, ⟨5, _⟩ => ⟨S1x16x16x64, .f32⟩
  | .local _ .vmem, ⟨6, _⟩ => ⟨S1x16x16x64, .f32⟩
  | .local _ .vmem, ⟨7, _⟩ => ⟨S1x256x3072, .f32⟩
  | .local _ .vmem, ⟨8, _⟩ => ⟨S1x256x3072, .f32⟩
  | .local _ .vmem, ⟨9, _⟩ => ⟨S3072x512, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S512x128, .bf16⟩
  | .local _ .vmem, ⟨14, _⟩ => ⟨S1x128, .f32⟩
  | .local _ .vmem, ⟨15, _⟩ => ⟨S3072x128, .bf16⟩
  | .local _ .vmem, ⟨16, _⟩ => ⟨S1x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S8x256x64, .f32⟩
  | .local _ .vmem, ⟨22, _⟩ => ⟨S8x256x128, .f32⟩
  | .local _ .vmem, ⟨23, _⟩ => ⟨S8x256x128, .f32⟩
  | .local _ .vmem, ⟨24, _⟩ => ⟨S64x32, .f32⟩
  | .local _ .vmem, ⟨25, _⟩ => ⟨S1x32, .f32⟩
  | .local _ .vmem, ⟨26, _⟩ => ⟨S32x1, .f32⟩
  | .local _ .vmem, ⟨27, _⟩ => ⟨S1x1, .f32⟩
  | .local _ .vmem, ⟨28, _⟩ => ⟨S1x1, .f32⟩
  | .local _ .vmem, ⟨29, _⟩ => ⟨S256x256, .f32⟩
  | .local _ .vmem, ⟨30, _⟩ => ⟨S1x256, .f32⟩
  | .local _ .vmem, ⟨31, _⟩ => ⟨S384x256, .f32⟩
  | .local _ .vmem, ⟨32, _⟩ => ⟨S1x256, .f32⟩
  | .local _ .vmem, ⟨33, _⟩ => ⟨S256x80, .f32⟩
  | .local _ .vmem, ⟨34, _⟩ => ⟨S1x80, .f32⟩
  | .local _ .vmem, ⟨35, _⟩ => ⟨S256x4, .f32⟩
  | .local _ .vmem, ⟨36, _⟩ => ⟨S1x4, .f32⟩
  | .local _ .vmem, ⟨37, _⟩ => ⟨S8x256x80, .f32⟩
  | .local _ .vmem, ⟨38, _⟩ => ⟨S8x256x4, .f32⟩
  | _, _ => ⟨S8x256x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49_0 : Ref sig .tc := ⟨.hbm, 75, rfl⟩
abbrev main_v49_1 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57_0 : Ref sig .tc := ⟨.hbm, 84, rfl⟩
abbrev main_v57_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg13_0 : Ref sig .tc := ⟨.vmem, 34, rfl⟩
abbrev cc2_stg14_0 : Ref sig .tc := ⟨.vmem, 35, rfl⟩
abbrev cc2_stg15_0 : Ref sig .tc := ⟨.vmem, 36, rfl⟩
abbrev cc2_stg16_0 : Ref sig .tc := ⟨.vmem, 37, rfl⟩
abbrev cc2_stg17_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem13_0 : DmaSem sig := 34
abbrev cc2_sem14_0 : DmaSem sig := 35
abbrev cc2_sem15_0 : DmaSem sig := 36
abbrev cc2_sem16_0 : DmaSem sig := 37
abbrev cc2_sem17_0 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3072x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := .none

abbrev stage2_0 : Fin 1 → Memref sig .tc .vmem S8x256x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S384x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S256x80 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S1x80 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S256x4 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev stage2_15 : Fin 1 → Memref sig .tc .vmem S1x4 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))

abbrev stage2_16 : Fin 1 → Memref sig .tc .vmem S8x256x80 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))

abbrev stage2_17 : Fin 1 → Memref sig .tc .vmem S8x256x4 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
-- ==== ReferenceTailIdeal.lean ====
abbrev S8x256x128x128 : Shape := ⟨4, ![8, 256, 128, 128]⟩
abbrev S8x256x3072 : Shape := ⟨3, ![8, 256, 3072]⟩
abbrev S64x64x3x3 : Shape := ⟨4, ![64, 64, 3, 3]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S3072x512 : Shape := ⟨2, ![3072, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S3072x128 : Shape := ⟨2, ![3072, 128]⟩
abbrev S256x256 : Shape := ⟨2, ![256, 256]⟩
abbrev S256 : Shape := ⟨1, ![256]⟩
abbrev S384x256 : Shape := ⟨2, ![384, 256]⟩
abbrev S256x80 : Shape := ⟨2, ![256, 80]⟩
abbrev S80 : Shape := ⟨1, ![80]⟩
abbrev S256x4 : Shape := ⟨2, ![256, 4]⟩
abbrev S4 : Shape := ⟨1, ![4]⟩
abbrev S8x256x256x64 : Shape := ⟨4, ![8, 256, 256, 64]⟩
abbrev S8x258x258x64 : Shape := ⟨4, ![8, 258, 258, 64]⟩
abbrev S8x128x128x64 : Shape := ⟨4, ![8, 128, 128, 64]⟩
abbrev S64x64x1x1 : Shape := ⟨4, ![64, 64, 1, 1]⟩
abbrev S64x64 : Shape := ⟨2, ![64, 64]⟩
abbrev S1x1x1x64 : Shape := ⟨4, ![1, 1, 1, 64]⟩
abbrev S8x16x8x16x8x64 : Shape := ⟨6, ![8, 16, 8, 16, 8, 64]⟩
abbrev S8x16x16x64 : Shape := ⟨4, ![8, 16, 16, 64]⟩
abbrev S8x256x64 : Shape := ⟨3, ![8, 256, 64]⟩
abbrev S8x256x32 : Shape := ⟨3, ![8, 256, 32]⟩
abbrev S1x1x32 : Shape := ⟨3, ![1, 1, 32]⟩
abbrev S8x256x1 : Shape := ⟨3, ![8, 256, 1]⟩
abbrev S1x1x1 : Shape := ⟨3, ![1, 1, 1]⟩
abbrev S8x256 : Shape := ⟨2, ![8, 256]⟩
abbrev S8x256x512 : Shape := ⟨3, ![8, 256, 512]⟩
abbrev S1x1x512 : Shape := ⟨3, ![1, 1, 512]⟩
abbrev S8x256x128 : Shape := ⟨3, ![8, 256, 128]⟩
abbrev S1x1x128 : Shape := ⟨3, ![1, 1, 128]⟩
abbrev S8 : Shape := ⟨1, ![8]⟩
abbrev S8x1 : Shape := ⟨2, ![8, 1]⟩
abbrev S8x128 : Shape := ⟨2, ![8, 128]⟩
abbrev S1x256 : Shape := ⟨2, ![1, 256]⟩
abbrev S8x1x256 : Shape := ⟨3, ![8, 1, 256]⟩
abbrev S8x256x256 : Shape := ⟨3, ![8, 256, 256]⟩
abbrev S8x256x384 : Shape := ⟨3, ![8, 256, 384]⟩
abbrev S1x1x256 : Shape := ⟨3, ![1, 1, 256]⟩
abbrev S8x256x80 : Shape := ⟨3, ![8, 256, 80]⟩
abbrev S1x1x80 : Shape := ⟨3, ![1, 1, 80]⟩
abbrev S8x256x4 : Shape := ⟨3, ![8, 256, 4]⟩
abbrev S1x1x4 : Shape := ⟨3, ![1, 1, 4]⟩

abbrev nBuf : Space → Nat
  | .hbm => 211
  | .vmem => 0
  | .smem => 0
  | _ => 0

abbrev hbmTy0_0 (i : Nat) : BufTy := match i % 128 with
  | 0 => ⟨S8x256x128x128, .bf16⟩
  | 1 => ⟨S8x256x3072, .f32⟩
  | 2 => ⟨S64x64x3x3, .f32⟩
  | 3 => ⟨S64, .f32⟩
  | 4 => ⟨S64x32, .f32⟩
  | 5 => ⟨S32, .f32⟩
  | 6 => ⟨S32x1, .f32⟩
  | 7 => ⟨S1, .f32⟩
  | 8 => ⟨S_, .f32⟩
  | 9 => ⟨S3072x512, .f32⟩
  | 10 => ⟨S512, .f32⟩
  | 11 => ⟨S512x512, .f32⟩
  | 12 => ⟨S512, .f32⟩
  | 13 => ⟨S512x128, .f32⟩
  | 14 => ⟨S128, .f32⟩
  | 15 => ⟨S3072x128, .f32⟩
  | 16 => ⟨S128, .f32⟩
  | 17 => ⟨S256x256, .f32⟩
  | 18 => ⟨S256, .f32⟩
  | 19 => ⟨S384x256, .f32⟩
  | 20 => ⟨S256, .f32⟩
  | 21 => ⟨S256x80, .f32⟩
  | 22 => ⟨S80, .f32⟩
  | 23 => ⟨S256x4, .f32⟩
  | 24 => ⟨S4, .f32⟩
  | 25 => ⟨S8x256x128x128, .f32⟩
  | 26 => ⟨S8x256x256x64, .f32⟩
  | 27 => ⟨S_, .i32⟩
  | 28 => ⟨S_, .f32⟩
  | 29 => ⟨S8x258x258x64, .f32⟩
  | 30 => ⟨S_, .f32⟩
  | 31 => ⟨S8x128x128x64, .f32⟩
  | 32 => ⟨S8x128x128x64, .f32⟩
  | 33 => ⟨S64x64x1x1, .f32⟩
  | 34 => ⟨S64x64, .f32⟩
  | 35 => ⟨S64x64, .f32⟩
  | 36 => ⟨S8x128x128x64, .f32⟩
  | 37 => ⟨S8x128x128x64, .f32⟩
  | 38 => ⟨S8x128x128x64, .f32⟩
  | 39 => ⟨S64x64x1x1, .f32⟩
  | 40 => ⟨S64x64, .f32⟩
  | 41 => ⟨S64x64, .f32⟩
  | 42 => ⟨S8x128x128x64, .f32⟩
  | 43 => ⟨S8x128x128x64, .f32⟩
  | 44 => ⟨S8x128x128x64, .f32⟩
  | 45 => ⟨S64x64x1x1, .f32⟩
  | 46 => ⟨S64x64, .f32⟩
  | 47 => ⟨S64x64, .f32⟩
  | 48 => ⟨S8x128x128x64, .f32⟩
  | 49 => ⟨S8x128x128x64, .f32⟩
  | 50 => ⟨S8x128x128x64, .f32⟩
  | 51 => ⟨S64x64x1x1, .f32⟩
  | 52 => ⟨S64x64, .f32⟩
  | 53 => ⟨S64x64, .f32⟩
  | 54 => ⟨S8x128x128x64, .f32⟩
  | 55 => ⟨S8x128x128x64, .f32⟩
  | 56 => ⟨S8x128x128x64, .f32⟩
  | 57 => ⟨S64x64x1x1, .f32⟩
  | 58 => ⟨S64x64, .f32⟩
  | 59 => ⟨S64x64, .f32⟩
  | 60 => ⟨S8x128x128x64, .f32⟩
  | 61 => ⟨S8x128x128x64, .f32⟩
  | 62 => ⟨S8x128x128x64, .f32⟩
  | 63 => ⟨S64x64x1x1, .f32⟩
  | 64 => ⟨S64x64, .f32⟩
  | 65 => ⟨S64x64, .f32⟩
  | 66 => ⟨S8x128x128x64, .f32⟩
  | 67 => ⟨S8x128x128x64, .f32⟩
  | 68 => ⟨S8x128x128x64, .f32⟩
  | 69 => ⟨S64x64x1x1, .f32⟩
  | 70 => ⟨S64x64, .f32⟩
  | 71 => ⟨S64x64, .f32⟩
  | 72 => ⟨S8x128x128x64, .f32⟩
  | 73 => ⟨S8x128x128x64, .f32⟩
  | 74 => ⟨S8x128x128x64, .f32⟩
  | 75 => ⟨S64x64x1x1, .f32⟩
  | 76 => ⟨S64x64, .f32⟩
  | 77 => ⟨S64x64, .f32⟩
  | 78 => ⟨S8x128x128x64, .f32⟩
  | 79 => ⟨S8x128x128x64, .f32⟩
  | 80 => ⟨S8x128x128x64, .f32⟩
  | 81 => ⟨S64x64x1x1, .f32⟩
  | 82 => ⟨S64x64, .f32⟩
  | 83 => ⟨S64x64, .f32⟩
  | 84 => ⟨S8x128x128x64, .f32⟩
  | 85 => ⟨S8x128x128x64, .f32⟩
  | 86 => ⟨S1x1x1x64, .f32⟩
  | 87 => ⟨S8x128x128x64, .f32⟩
  | 88 => ⟨S8x128x128x64, .f32⟩
  | 89 => ⟨S_, .f32⟩
  | 90 => ⟨S8x128x128x64, .f32⟩
  | 91 => ⟨S8x128x128x64, .f32⟩
  | 92 => ⟨S8x16x8x16x8x64, .f32⟩
  | 93 => ⟨S_, .f32⟩
  | 94 => ⟨S8x16x16x64, .f32⟩
  | 95 => ⟨S_, .f32⟩
  | 96 => ⟨S8x16x16x64, .f32⟩
  | 97 => ⟨S8x16x16x64, .f32⟩
  | 98 => ⟨S8x256x64, .f32⟩
  | 99 => ⟨S8x256x32, .f32⟩
  | 100 => ⟨S1x1x32, .f32⟩
  | 101 => ⟨S8x256x32, .f32⟩
  | 102 => ⟨S8x256x32, .f32⟩
  | 103 => ⟨S_, .f32⟩
  | 104 => ⟨S8x256x32, .f32⟩
  | 105 => ⟨S8x256x32, .f32⟩
  | 106 => ⟨S8x256x1, .f32⟩
  | 107 => ⟨S1x1x1, .f32⟩
  | 108 => ⟨S8x256x1, .f32⟩
  | 109 => ⟨S8x256x1, .f32⟩
  | 110 => ⟨S8x256x1, .f32⟩
  | 111 => ⟨S8x256x1, .f32⟩
  | 112 => ⟨S_, .f32⟩
  | 113 => ⟨S8x256x1, .f32⟩
  | 114 => ⟨S8x256x1, .f32⟩
  | 115 => ⟨S_, .f32⟩
  | 116 => ⟨S8x256x1, .f32⟩
  | 117 => ⟨S8x256x1, .f32⟩
  | 118 => ⟨S8x256, .f32⟩
  | 119 => ⟨S8x256, .f32⟩
  | 120 => ⟨S8x256, .f32⟩
  | 121 => ⟨S_, .f32⟩
  | 122 => ⟨S8x256, .f32⟩
  | 123 => ⟨S8x256, .f32⟩
  | 124 => ⟨S8x256, .f32⟩
  | 125 => ⟨S8x256, .f32⟩
  | 126 => ⟨S_, .f32⟩
  | 127 => ⟨S8x256, .f32⟩
  | _ => ⟨S8x256x128x128, .bf16⟩

abbrev hbmTy0_1 (i : Nat) : BufTy := match i % 128 with
  | 0 => ⟨S8x256, .f32⟩
  | 1 => ⟨S_, .f32⟩
  | 2 => ⟨S8x256, .f32⟩
  | 3 => ⟨S8x256, .f32⟩
  | 4 => ⟨S8x256x512, .f32⟩
  | 5 => ⟨S1x1x512, .f32⟩
  | 6 => ⟨S8x256x512, .f32⟩
  | 7 => ⟨S8x256x512, .f32⟩
  | 8 => ⟨S_, .f32⟩
  | 9 => ⟨S8x256x512, .f32⟩
  | 10 => ⟨S8x256x512, .f32⟩
  | 11 => ⟨S8x256x512, .f32⟩
  | 12 => ⟨S1x1x512, .f32⟩
  | 13 => ⟨S8x256x512, .f32⟩
  | 14 => ⟨S8x256x512, .f32⟩
  | 15 => ⟨S_, .f32⟩
  | 16 => ⟨S8x256x512, .f32⟩
  | 17 => ⟨S8x256x512, .f32⟩
  | 18 => ⟨S8x256x128, .f32⟩
  | 19 => ⟨S1x1x128, .f32⟩
  | 20 => ⟨S8x256x128, .f32⟩
  | 21 => ⟨S8x256x128, .f32⟩
  | 22 => ⟨S8x256x1, .f32⟩
  | 23 => ⟨S8x256x128, .f32⟩
  | 24 => ⟨S8x256x128, .f32⟩
  | 25 => ⟨S8x256x128, .f32⟩
  | 26 => ⟨S1x1x128, .f32⟩
  | 27 => ⟨S8x256x128, .f32⟩
  | 28 => ⟨S8x256x128, .f32⟩
  | 29 => ⟨S_, .f32⟩
  | 30 => ⟨S8x256, .f32⟩
  | 31 => ⟨S8x256, .f32⟩
  | 32 => ⟨S8x256x1, .f32⟩
  | 33 => ⟨S8x256x128, .f32⟩
  | 34 => ⟨S8x256x128, .f32⟩
  | 35 => ⟨S8x256x128, .f32⟩
  | 36 => ⟨S_, .f32⟩
  | 37 => ⟨S8, .f32⟩
  | 38 => ⟨S_, .f32⟩
  | 39 => ⟨S8, .f32⟩
  | 40 => ⟨S8, .f32⟩
  | 41 => ⟨S8x1, .f32⟩
  | 42 => ⟨S8x256, .f32⟩
  | 43 => ⟨S8x256, .f32⟩
  | 44 => ⟨S8x256, .f32⟩
  | 45 => ⟨S_, .f32⟩
  | 46 => ⟨S8, .f32⟩
  | 47 => ⟨S8x1, .f32⟩
  | 48 => ⟨S8x256, .f32⟩
  | 49 => ⟨S8x256, .f32⟩
  | 50 => ⟨S8x256x1, .f32⟩
  | 51 => ⟨S8x256x128, .f32⟩
  | 52 => ⟨S8x256x128, .f32⟩
  | 53 => ⟨S_, .f32⟩
  | 54 => ⟨S8x128, .f32⟩
  | 55 => ⟨S_, .f32⟩
  | 56 => ⟨S8x128, .f32⟩
  | 57 => ⟨S_, .f32⟩
  | 58 => ⟨S8x128, .f32⟩
  | 59 => ⟨S8x128, .f32⟩
  | 60 => ⟨S8x256, .f32⟩
  | 61 => ⟨S8x256, .f32⟩
  | 62 => ⟨S1x256, .f32⟩
  | 63 => ⟨S8x256, .f32⟩
  | 64 => ⟨S8x256, .f32⟩
  | 65 => ⟨S8x1x256, .f32⟩
  | 66 => ⟨S8x256x256, .f32⟩
  | 67 => ⟨S8x256x384, .f32⟩
  | 68 => ⟨S8x256x256, .f32⟩
  | 69 => ⟨S1x1x256, .f32⟩
  | 70 => ⟨S8x256x256, .f32⟩
  | 71 => ⟨S8x256x256, .f32⟩
  | 72 => ⟨S_, .f32⟩
  | 73 => ⟨S8x256x256, .f32⟩
  | 74 => ⟨S8x256x256, .f32⟩
  | 75 => ⟨S8x256x80, .f32⟩
  | 76 => ⟨S1x1x80, .f32⟩
  | 77 => ⟨S8x256x80, .f32⟩
  | 78 => ⟨S8x256x80, .f32⟩
  | 79 => ⟨S8x256x4, .f32⟩
  | 80 => ⟨S1x1x4, .f32⟩
  | 81 => ⟨S8x256x4, .f32⟩
  | 82 => ⟨S8x256x4, .f32⟩
  | _ => ⟨S8x256x128x128, .bf16⟩

abbrev hbmTy (i : Nat) : BufTy := match i / 128 with
  | 0 => hbmTy0_0 i
  | 1 => hbmTy0_1 i
  | _ => ⟨S8x256x128x128, .bf16⟩

abbrev bufTy : (tb : Table) → Fin (tcTables nBuf tb) → BufTy
  | .hbm, ⟨i, _⟩ => hbmTy i
  | _, _ => ⟨S8x256x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_c : Ref sig .tc := ⟨.hbm, 27, rfl⟩
abbrev main_call0_v0 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call1_cst : Ref sig .tc := ⟨.hbm, 89, rfl⟩
abbrev main_call1_v0 : Ref sig .tc := ⟨.hbm, 90, rfl⟩
abbrev main_v61 : Ref sig .tc := ⟨.hbm, 91, rfl⟩
abbrev main_v62 : Ref sig .tc := ⟨.hbm, 92, rfl⟩
abbrev main_cst_0 : Ref sig .tc := ⟨.hbm, 93, rfl⟩
abbrev main_v63 : Ref sig .tc := ⟨.hbm, 94, rfl⟩
abbrev main_cst_1 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call2_cst : Ref sig .tc := ⟨.hbm, 103, rfl⟩
abbrev main_call2_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_2 : Ref sig .tc := ⟨.hbm, 112, rfl⟩
abbrev main_v78 : Ref sig .tc := ⟨.hbm, 113, rfl⟩
abbrev main_v79 : Ref sig .tc := ⟨.hbm, 114, rfl⟩
abbrev main_cst_3 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_4 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_5 : Ref sig .tc := ⟨.hbm, 126, rfl⟩
abbrev main_v89 : Ref sig .tc := ⟨.hbm, 127, rfl⟩
abbrev main_v90 : Ref sig .tc := ⟨.hbm, 128, rfl⟩
abbrev main_cst_6 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_call3_cst : Ref sig .tc := ⟨.hbm, 136, rfl⟩
abbrev main_call3_v0 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call4_cst : Ref sig .tc := ⟨.hbm, 143, rfl⟩
abbrev main_call4_v0 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_7 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_8 : Ref sig .tc := ⟨.hbm, 164, rfl⟩
abbrev main_v120 : Ref sig .tc := ⟨.hbm, 165, rfl⟩
abbrev main_cst_9 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_10 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_11 : Ref sig .tc := ⟨.hbm, 181, rfl⟩
abbrev main_v134 : Ref sig .tc := ⟨.hbm, 182, rfl⟩
abbrev main_cst_12 : Ref sig .tc := ⟨.hbm, 183, rfl⟩
abbrev main_v135 : Ref sig .tc := ⟨.hbm, 184, rfl⟩
abbrev main_cst_13 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_call5_cst : Ref sig .tc := ⟨.hbm, 200, rfl⟩
abbrev main_call5_v0 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩

abbrev nD : Nat := 1
abbrev τ : Topo := Topo.v7x

variable {F : FTy → Type} [FloatOps F]
-- ==== KernelC.lean ====
abbrev S_ : Shape := ⟨0, ![]⟩
abbrev S8x3x512x512 : Shape := ⟨4, ![8, 3, 512, 512]⟩
abbrev S8x256x3x32x32 : Shape := ⟨5, ![8, 256, 3, 32, 32]⟩
abbrev S64x3x3x3 : Shape := ⟨4, ![64, 3, 3, 3]⟩
abbrev S64 : Shape := ⟨1, ![64]⟩
abbrev S64x64x3x3 : Shape := ⟨4, ![64, 64, 3, 3]⟩
abbrev S64x32 : Shape := ⟨2, ![64, 32]⟩
abbrev S32 : Shape := ⟨1, ![32]⟩
abbrev S32x1 : Shape := ⟨2, ![32, 1]⟩
abbrev S1 : Shape := ⟨1, ![1]⟩
abbrev S3072x512 : Shape := ⟨2, ![3072, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S3072x128 : Shape := ⟨2, ![3072, 128]⟩
abbrev S256x256 : Shape := ⟨2, ![256, 256]⟩
abbrev S256 : Shape := ⟨1, ![256]⟩
abbrev S384x256 : Shape := ⟨2, ![384, 256]⟩
abbrev S256x80 : Shape := ⟨2, ![256, 80]⟩
abbrev S80 : Shape := ⟨1, ![80]⟩
abbrev S256x4 : Shape := ⟨2, ![256, 4]⟩
abbrev S4 : Shape := ⟨1, ![4]⟩
abbrev S8x3x256x2x128x2x2 : Shape := ⟨7, ![8, 3, 256, 2, 128, 2, 2]⟩
abbrev S8x256x128x2x2x2x3 : Shape := ⟨7, ![8, 256, 128, 2, 2, 2, 3]⟩
abbrev S8x256x128x24 : Shape := ⟨4, ![8, 256, 128, 24]⟩
abbrev S72x128 : Shape := ⟨2, ![72, 128]⟩
abbrev S64x3x1x1 : Shape := ⟨4, ![64, 3, 1, 1]⟩
abbrev S64x3 : Shape := ⟨2, ![64, 3]⟩
abbrev S3x64 : Shape := ⟨2, ![3, 64]⟩
abbrev S2 : Shape := ⟨1, ![2]⟩
abbrev S1x128 : Shape := ⟨2, ![1, 128]⟩
abbrev S8x256x128x128 : Shape := ⟨4, ![8, 256, 128, 128]⟩
abbrev S1x128x128x24 : Shape := ⟨4, ![1, 128, 128, 24]⟩
abbrev S1x8x128x24 : Shape := ⟨4, ![1, 8, 128, 24]⟩
abbrev S1x128x128x128 : Shape := ⟨4, ![1, 128, 128, 128]⟩
abbrev S128x128x24 : Shape := ⟨3, ![128, 128, 24]⟩
abbrev S1x128x24 : Shape := ⟨3, ![1, 128, 24]⟩
abbrev S1x1x128x24 : Shape := ⟨4, ![1, 1, 128, 24]⟩
abbrev S128x128x12 : Shape := ⟨3, ![128, 128, 12]⟩
abbrev S1x128x12 : Shape := ⟨3, ![1, 128, 12]⟩
abbrev S128x1x12 : Shape := ⟨3, ![128, 1, 12]⟩
abbrev S128x129x12 : Shape := ⟨3, ![128, 129, 12]⟩
abbrev S1x1x12 : Shape := ⟨3, ![1, 1, 12]⟩
abbrev S1x129x12 : Shape := ⟨3, ![1, 129, 12]⟩
abbrev S128x128x36 : Shape := ⟨3, ![128, 128, 36]⟩
abbrev S1x128x36 : Shape := ⟨3, ![1, 128, 36]⟩
abbrev S127x128x36 : Shape := ⟨3, ![127, 128, 36]⟩
abbrev S16384x36 : Shape := ⟨2, ![16384, 36]⟩
abbrev S36x128 : Shape := ⟨2, ![36, 128]⟩
abbrev S16384x128 : Shape := ⟨2, ![16384, 128]⟩
abbrev S128x128x128 : Shape := ⟨3, ![128, 128, 128]⟩
abbrev S3x3x64x64 : Shape := ⟨4, ![3, 3, 64, 64]⟩
abbrev S64x64 : Shape := ⟨2, ![64, 64]⟩
abbrev S1x1x64x64 : Shape := ⟨4, ![1, 1, 64, 64]⟩
abbrev S128x64 : Shape := ⟨2, ![128, 64]⟩
abbrev S1x128x64 : Shape := ⟨3, ![1, 128, 64]⟩
abbrev S3x128x64 : Shape := ⟨3, ![3, 128, 64]⟩
abbrev S384x64 : Shape := ⟨2, ![384, 64]⟩
abbrev S1x64 : Shape := ⟨2, ![1, 64]⟩
abbrev S8x16x16x64 : Shape := ⟨4, ![8, 16, 16, 64]⟩
abbrev S1x256x128x128 : Shape := ⟨4, ![1, 256, 128, 128]⟩
abbrev S1x16x16x64 : Shape := ⟨4, ![1, 16, 16, 64]⟩
abbrev S256x128x128 : Shape := ⟨3, ![256, 128, 128]⟩
abbrev S128x2x128x128 : Shape := ⟨4, ![128, 2, 128, 128]⟩
abbrev S1x128x128 : Shape := ⟨3, ![1, 128, 128]⟩
abbrev S128x1x128x128 : Shape := ⟨4, ![128, 1, 128, 128]⟩
abbrev S127x128x128 : Shape := ⟨3, ![127, 128, 128]⟩
abbrev S128x128x384 : Shape := ⟨3, ![128, 128, 384]⟩
abbrev S16384x384 : Shape := ⟨2, ![16384, 384]⟩
abbrev S16384x64 : Shape := ⟨2, ![16384, 64]⟩
abbrev S128x128x64 : Shape := ⟨3, ![128, 128, 64]⟩
abbrev S128x127x64 : Shape := ⟨3, ![128, 127, 64]⟩
abbrev S128x1x64 : Shape := ⟨3, ![128, 1, 64]⟩
abbrev S16x8x16x8x64 : Shape := ⟨5, ![16, 8, 16, 8, 64]⟩
abbrev S16x16x8x64 : Shape := ⟨4, ![16, 16, 8, 64]⟩
abbrev S16x16x64 : Shape := ⟨3, ![16, 16, 64]⟩
abbrev S8x256x64 : Shape := ⟨3, ![8, 256, 64]⟩
abbrev S8x256x3072 : Shape := ⟨3, ![8, 256, 3072]⟩
abbrev S1x512 : Shape := ⟨2, ![1, 512]⟩
abbrev S8x256x128 : Shape := ⟨3, ![8, 256, 128]⟩
abbrev S1x256x3072 : Shape := ⟨3, ![1, 256, 3072]⟩
abbrev S1x256x128 : Shape := ⟨3, ![1, 256, 128]⟩
abbrev S256x3072 : Shape := ⟨2, ![256, 3072]⟩
abbrev S256x512 : Shape := ⟨2, ![256, 512]⟩
abbrev S256x128 : Shape := ⟨2, ![256, 128]⟩
abbrev S1x32 : Shape := ⟨2, ![1, 32]⟩
abbrev S1x1 : Shape := ⟨2, ![1, 1]⟩
abbrev S1x256 : Shape := ⟨2, ![1, 256]⟩
abbrev S1x80 : Shape := ⟨2, ![1, 80]⟩
abbrev S1x4 : Shape := ⟨2, ![1, 4]⟩
abbrev S8x256x80 : Shape := ⟨3, ![8, 256, 80]⟩
abbrev S8x256x4 : Shape := ⟨3, ![8, 256, 4]⟩
abbrev S2048x64 : Shape := ⟨2, ![2048, 64]⟩
abbrev S2048x32 : Shape := ⟨2, ![2048, 32]⟩
abbrev S2048x1 : Shape := ⟨2, ![2048, 1]⟩
abbrev S8x256x1 : Shape := ⟨3, ![8, 256, 1]⟩
abbrev S8x1 : Shape := ⟨2, ![8, 1]⟩
abbrev S8x1x1 : Shape := ⟨3, ![8, 1, 1]⟩
abbrev S8x128 : Shape := ⟨2, ![8, 128]⟩
abbrev S128x256 : Shape := ⟨2, ![128, 256]⟩
abbrev S8x256 : Shape := ⟨2, ![8, 256]⟩
abbrev S2048x128 : Shape := ⟨2, ![2048, 128]⟩
abbrev S2048x256 : Shape := ⟨2, ![2048, 256]⟩
abbrev S8x256x256 : Shape := ⟨3, ![8, 256, 256]⟩
abbrev S8x1x256 : Shape := ⟨3, ![8, 1, 256]⟩
abbrev S1x1x256 : Shape := ⟨3, ![1, 1, 256]⟩
abbrev S2048x80 : Shape := ⟨2, ![2048, 80]⟩
abbrev S2048x4 : Shape := ⟨2, ![2048, 4]⟩

abbrev nBuf : Space → Nat
  | .hbm => 287
  | .vmem => 47
  | .smem => 0
  | _ => 0

abbrev hbmTy0_0 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S8x3x512x512, .f32⟩
  | 28 => ⟨S8x256x3x32x32, .f32⟩
  | 29 => ⟨S64x3x3x3, .f32⟩
  | 30 => ⟨S64, .f32⟩
  | 31 => ⟨S64x64x3x3, .f32⟩
  | 32 => ⟨S64, .f32⟩
  | 33 => ⟨S64x32, .f32⟩
  | 34 => ⟨S32, .f32⟩
  | 35 => ⟨S32x1, .f32⟩
  | 36 => ⟨S1, .f32⟩
  | 37 => ⟨S3072x512, .f32⟩
  | 38 => ⟨S512, .f32⟩
  | 39 => ⟨S512x512, .f32⟩
  | 40 => ⟨S512, .f32⟩
  | 41 => ⟨S512x128, .f32⟩
  | 42 => ⟨S128, .f32⟩
  | 43 => ⟨S3072x128, .f32⟩
  | 44 => ⟨S128, .f32⟩
  | 45 => ⟨S256x256, .f32⟩
  | 46 => ⟨S256, .f32⟩
  | 47 => ⟨S384x256, .f32⟩
  | 48 => ⟨S256, .f32⟩
  | 49 => ⟨S256x80, .f32⟩
  | 50 => ⟨S80, .f32⟩
  | 51 => ⟨S256x4, .f32⟩
  | 52 => ⟨S4, .f32⟩
  | 53 => ⟨S8x3x512x512, .bf16⟩
  | 54 => ⟨S8x3x256x2x128x2x2, .bf16⟩
  | 55 => ⟨S8x256x128x2x2x2x3, .bf16⟩
  | 56 => ⟨S8x256x128x24, .bf16⟩
  | 57 => ⟨S_, .f32⟩
  | 58 => ⟨S72x128, .f32⟩
  | 59 => ⟨S64x3x1x1, .f32⟩
  | 60 => ⟨S64x3, .f32⟩
  | 61 => ⟨S3x64, .f32⟩
  | 62 => ⟨S_, .i32⟩
  | 63 => ⟨S1, .i32⟩
  | 64 => ⟨S_, .i32⟩
  | 65 => ⟨S1, .i32⟩
  | 66 => ⟨S2, .i32⟩
  | 67 => ⟨S72x128, .f32⟩
  | 68 => ⟨S64x3x1x1, .f32⟩
  | 69 => ⟨S64x3, .f32⟩
  | 70 => ⟨S3x64, .f32⟩
  | 71 => ⟨S_, .i32⟩
  | 72 => ⟨S1, .i32⟩
  | 73 => ⟨S_, .i32⟩
  | 74 => ⟨S1, .i32⟩
  | 75 => ⟨S2, .i32⟩
  | 76 => ⟨S72x128, .f32⟩
  | 77 => ⟨S64x3x1x1, .f32⟩
  | 78 => ⟨S64x3, .f32⟩
  | 79 => ⟨S3x64, .f32⟩
  | 80 => ⟨S_, .i32⟩
  | 81 => ⟨S1, .i32⟩
  | 82 => ⟨S_, .i32⟩
  | 83 => ⟨S1, .i32⟩
  | 84 => ⟨S2, .i32⟩
  | 85 => ⟨S72x128, .f32⟩
  | 86 => ⟨S64x3x1x1, .f32⟩
  | 87 => ⟨S64x3, .f32⟩
  | 88 => ⟨S3x64, .f32⟩
  | 89 => ⟨S_, .i32⟩
  | 90 => ⟨S1, .i32⟩
  | 91 => ⟨S_, .i32⟩
  | 92 => ⟨S1, .i32⟩
  | 93 => ⟨S2, .i32⟩
  | 94 => ⟨S72x128, .f32⟩
  | 95 => ⟨S64x3x1x1, .f32⟩
  | 96 => ⟨S64x3, .f32⟩
  | 97 => ⟨S3x64, .f32⟩
  | 98 => ⟨S_, .i32⟩
  | 99 => ⟨S1, .i32⟩
  | 100 => ⟨S_, .i32⟩
  | 101 => ⟨S1, .i32⟩
  | 102 => ⟨S2, .i32⟩
  | 103 => ⟨S72x128, .f32⟩
  | 104 => ⟨S64x3x1x1, .f32⟩
  | 105 => ⟨S64x3, .f32⟩
  | 106 => ⟨S3x64, .f32⟩
  | 107 => ⟨S_, .i32⟩
  | 108 => ⟨S1, .i32⟩
  | 109 => ⟨S_, .i32⟩
  | 110 => ⟨S1, .i32⟩
  | 111 => ⟨S2, .i32⟩
  | 112 => ⟨S72x128, .f32⟩
  | 113 => ⟨S64x3x1x1, .f32⟩
  | 114 => ⟨S64x3, .f32⟩
  | 115 => ⟨S3x64, .f32⟩
  | 116 => ⟨S_, .i32⟩
  | 117 => ⟨S1, .i32⟩
  | 118 => ⟨S_, .i32⟩
  | 119 => ⟨S1, .i32⟩
  | 120 => ⟨S2, .i32⟩
  | 121 => ⟨S72x128, .f32⟩
  | 122 => ⟨S64x3x1x1, .f32⟩
  | 123 => ⟨S64x3, .f32⟩
  | 124 => ⟨S3x64, .f32⟩
  | 125 => ⟨S_, .i32⟩
  | 126 => ⟨S1, .i32⟩
  | 127 => ⟨S_, .i32⟩
  | _ => ⟨S_, .f32⟩

abbrev hbmTy0_1 (i : Nat) : BufTy := match i % 128 with
  | 0 => ⟨S1, .i32⟩
  | 1 => ⟨S2, .i32⟩
  | 2 => ⟨S72x128, .f32⟩
  | 3 => ⟨S64x3x1x1, .f32⟩
  | 4 => ⟨S64x3, .f32⟩
  | 5 => ⟨S3x64, .f32⟩
  | 6 => ⟨S_, .i32⟩
  | 7 => ⟨S1, .i32⟩
  | 8 => ⟨S_, .i32⟩
  | 9 => ⟨S1, .i32⟩
  | 10 => ⟨S2, .i32⟩
  | 11 => ⟨S72x128, .f32⟩
  | 12 => ⟨S64x3x1x1, .f32⟩
  | 13 => ⟨S64x3, .f32⟩
  | 14 => ⟨S3x64, .f32⟩
  | 15 => ⟨S_, .i32⟩
  | 16 => ⟨S1, .i32⟩
  | 17 => ⟨S_, .i32⟩
  | 18 => ⟨S1, .i32⟩
  | 19 => ⟨S2, .i32⟩
  | 20 => ⟨S72x128, .f32⟩
  | 21 => ⟨S64x3x1x1, .f32⟩
  | 22 => ⟨S64x3, .f32⟩
  | 23 => ⟨S3x64, .f32⟩
  | 24 => ⟨S_, .i32⟩
  | 25 => ⟨S1, .i32⟩
  | 26 => ⟨S_, .i32⟩
  | 27 => ⟨S1, .i32⟩
  | 28 => ⟨S2, .i32⟩
  | 29 => ⟨S72x128, .f32⟩
  | 30 => ⟨S64x3x1x1, .f32⟩
  | 31 => ⟨S64x3, .f32⟩
  | 32 => ⟨S3x64, .f32⟩
  | 33 => ⟨S_, .i32⟩
  | 34 => ⟨S1, .i32⟩
  | 35 => ⟨S_, .i32⟩
  | 36 => ⟨S1, .i32⟩
  | 37 => ⟨S2, .i32⟩
  | 38 => ⟨S72x128, .f32⟩
  | 39 => ⟨S64x3x1x1, .f32⟩
  | 40 => ⟨S64x3, .f32⟩
  | 41 => ⟨S3x64, .f32⟩
  | 42 => ⟨S_, .i32⟩
  | 43 => ⟨S1, .i32⟩
  | 44 => ⟨S_, .i32⟩
  | 45 => ⟨S1, .i32⟩
  | 46 => ⟨S2, .i32⟩
  | 47 => ⟨S72x128, .f32⟩
  | 48 => ⟨S64x3x1x1, .f32⟩
  | 49 => ⟨S64x3, .f32⟩
  | 50 => ⟨S3x64, .f32⟩
  | 51 => ⟨S_, .i32⟩
  | 52 => ⟨S1, .i32⟩
  | 53 => ⟨S_, .i32⟩
  | 54 => ⟨S1, .i32⟩
  | 55 => ⟨S2, .i32⟩
  | 56 => ⟨S72x128, .f32⟩
  | 57 => ⟨S64x3x1x1, .f32⟩
  | 58 => ⟨S64x3, .f32⟩
  | 59 => ⟨S3x64, .f32⟩
  | 60 => ⟨S_, .i32⟩
  | 61 => ⟨S1, .i32⟩
  | 62 => ⟨S_, .i32⟩
  | 63 => ⟨S1, .i32⟩
  | 64 => ⟨S2, .i32⟩
  | 65 => ⟨S72x128, .f32⟩
  | 66 => ⟨S64x3x1x1, .f32⟩
  | 67 => ⟨S64x3, .f32⟩
  | 68 => ⟨S3x64, .f32⟩
  | 69 => ⟨S_, .i32⟩
  | 70 => ⟨S1, .i32⟩
  | 71 => ⟨S_, .i32⟩
  | 72 => ⟨S1, .i32⟩
  | 73 => ⟨S2, .i32⟩
  | 74 => ⟨S72x128, .f32⟩
  | 75 => ⟨S64x3x1x1, .f32⟩
  | 76 => ⟨S64x3, .f32⟩
  | 77 => ⟨S3x64, .f32⟩
  | 78 => ⟨S_, .i32⟩
  | 79 => ⟨S1, .i32⟩
  | 80 => ⟨S_, .i32⟩
  | 81 => ⟨S1, .i32⟩
  | 82 => ⟨S2, .i32⟩
  | 83 => ⟨S72x128, .f32⟩
  | 84 => ⟨S64x3x1x1, .f32⟩
  | 85 => ⟨S64x3, .f32⟩
  | 86 => ⟨S3x64, .f32⟩
  | 87 => ⟨S_, .i32⟩
  | 88 => ⟨S1, .i32⟩
  | 89 => ⟨S_, .i32⟩
  | 90 => ⟨S1, .i32⟩
  | 91 => ⟨S2, .i32⟩
  | 92 => ⟨S72x128, .f32⟩
  | 93 => ⟨S72x128, .bf16⟩
  | 94 => ⟨S128, .f32⟩
  | 95 => ⟨S1x128, .f32⟩
  | 96 => ⟨S8x256x128x128, .bf16⟩
  | 97 => ⟨S3x3x64x64, .f32⟩
  | 98 => ⟨S_, .f32⟩
  | 99 => ⟨S64x64, .f32⟩
  | 100 => ⟨S1x1x64x64, .f32⟩
  | 101 => ⟨S64x64, .f32⟩
  | 102 => ⟨S128x64, .f32⟩
  | 103 => ⟨S1x1x64x64, .f32⟩
  | 104 => ⟨S64x64, .f32⟩
  | 105 => ⟨S128x64, .f32⟩
  | 106 => ⟨S1x1x64x64, .f32⟩
  | 107 => ⟨S64x64, .f32⟩
  | 108 => ⟨S128x64, .f32⟩
  | 109 => ⟨S1x128x64, .f32⟩
  | 110 => ⟨S1x128x64, .f32⟩
  | 111 => ⟨S1x128x64, .f32⟩
  | 112 => ⟨S3x128x64, .f32⟩
  | 113 => ⟨S1x1x64x64, .f32⟩
  | 114 => ⟨S64x64, .f32⟩
  | 115 => ⟨S1x1x64x64, .f32⟩
  | 116 => ⟨S64x64, .f32⟩
  | 117 => ⟨S128x64, .f32⟩
  | 118 => ⟨S1x1x64x64, .f32⟩
  | 119 => ⟨S64x64, .f32⟩
  | 120 => ⟨S1x1x64x64, .f32⟩
  | 121 => ⟨S64x64, .f32⟩
  | 122 => ⟨S128x64, .f32⟩
  | 123 => ⟨S1x1x64x64, .f32⟩
  | 124 => ⟨S64x64, .f32⟩
  | 125 => ⟨S1x1x64x64, .f32⟩
  | 126 => ⟨S64x64, .f32⟩
  | 127 => ⟨S128x64, .f32⟩
  | _ => ⟨S_, .f32⟩

abbrev hbmTy0_2 (i : Nat) : BufTy := match i % 128 with
  | 0 => ⟨S1x128x64, .f32⟩
  | 1 => ⟨S1x128x64, .f32⟩
  | 2 => ⟨S1x128x64, .f32⟩
  | 3 => ⟨S3x128x64, .f32⟩
  | 4 => ⟨S3x128x64, .bf16⟩
  | 5 => ⟨S384x64, .bf16⟩
  | 6 => ⟨S3x128x64, .bf16⟩
  | 7 => ⟨S384x64, .bf16⟩
  | 8 => ⟨S1x64, .f32⟩
  | 9 => ⟨S8x16x16x64, .f32⟩
  | 10 => ⟨S8x256x64, .f32⟩
  | 11 => ⟨S8x256x3072, .f32⟩
  | 12 => ⟨S3072x512, .bf16⟩
  | 13 => ⟨S1x512, .f32⟩
  | 14 => ⟨S512x512, .bf16⟩
  | 15 => ⟨S1x512, .f32⟩
  | 16 => ⟨S512x128, .bf16⟩
  | 17 => ⟨S1x128, .f32⟩
  | 18 => ⟨S3072x128, .bf16⟩
  | 19 => ⟨S1x128, .f32⟩
  | 20 => ⟨S8x256x128, .f32⟩
  | 21 => ⟨S8x256x128, .f32⟩
  | 22 => ⟨S1x32, .f32⟩
  | 23 => ⟨S1x1, .f32⟩
  | 24 => ⟨S1x1, .f32⟩
  | 25 => ⟨S1x256, .f32⟩
  | 26 => ⟨S1x256, .f32⟩
  | 27 => ⟨S1x80, .f32⟩
  | 28 => ⟨S1x4, .f32⟩
  | 29 => ⟨S8x256x80, .f32⟩
  | 30 => ⟨S8x256x4, .f32⟩
  | _ => ⟨S_, .f32⟩

abbrev hbmTy (i : Nat) : BufTy := match i / 128 with
  | 0 => hbmTy0_0 i
  | 1 => hbmTy0_1 i
  | 2 => hbmTy0_2 i
  | _ => ⟨S_, .f32⟩

abbrev bufTy : (tb : Table) → Fin (tcTables nBuf tb) → BufTy
  | .hbm, ⟨i, _⟩ => hbmTy i
  | .local _ .vmem, ⟨0, _⟩ => ⟨S1x128x128x24, .bf16⟩
  | .local _ .vmem, ⟨1, _⟩ => ⟨S1x128x128x24, .bf16⟩
  | .local _ .vmem, ⟨2, _⟩ => ⟨S1x8x128x24, .bf16⟩
  | .local _ .vmem, ⟨3, _⟩ => ⟨S1x8x128x24, .bf16⟩
  | .local _ .vmem, ⟨4, _⟩ => ⟨S72x128, .bf16⟩
  | .local _ .vmem, ⟨5, _⟩ => ⟨S1x128, .f32⟩
  | .local _ .vmem, ⟨6, _⟩ => ⟨S1x128x128x128, .bf16⟩
  | .local _ .vmem, ⟨7, _⟩ => ⟨S1x128x128x128, .bf16⟩
  | .local _ .vmem, ⟨8, _⟩ => ⟨S1x256x128x128, .bf16⟩
  | .local _ .vmem, ⟨9, _⟩ => ⟨S1x256x128x128, .bf16⟩
  | .local _ .vmem, ⟨10, _⟩ => ⟨S384x64, .bf16⟩
  | .local _ .vmem, ⟨11, _⟩ => ⟨S384x64, .bf16⟩
  | .local _ .vmem, ⟨12, _⟩ => ⟨S1x64, .f32⟩
  | .local _ .vmem, ⟨13, _⟩ => ⟨S1x16x16x64, .f32⟩
  | .local _ .vmem, ⟨14, _⟩ => ⟨S1x16x16x64, .f32⟩
  | .local _ .vmem, ⟨15, _⟩ => ⟨S1x256x3072, .f32⟩
  | .local _ .vmem, ⟨16, _⟩ => ⟨S1x256x3072, .f32⟩
  | .local _ .vmem, ⟨17, _⟩ => ⟨S3072x512, .bf16⟩
  | .local _ .vmem, ⟨18, _⟩ => ⟨S1x512, .f32⟩
  | .local _ .vmem, ⟨19, _⟩ => ⟨S512x512, .bf16⟩
  | .local _ .vmem, ⟨20, _⟩ => ⟨S1x512, .f32⟩
  | .local _ .vmem, ⟨21, _⟩ => ⟨S512x128, .bf16⟩
  | .local _ .vmem, ⟨22, _⟩ => ⟨S1x128, .f32⟩
  | .local _ .vmem, ⟨23, _⟩ => ⟨S3072x128, .bf16⟩
  | .local _ .vmem, ⟨24, _⟩ => ⟨S1x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S8x256x64, .f32⟩
  | .local _ .vmem, ⟨30, _⟩ => ⟨S8x256x128, .f32⟩
  | .local _ .vmem, ⟨31, _⟩ => ⟨S8x256x128, .f32⟩
  | .local _ .vmem, ⟨32, _⟩ => ⟨S64x32, .f32⟩
  | .local _ .vmem, ⟨33, _⟩ => ⟨S1x32, .f32⟩
  | .local _ .vmem, ⟨34, _⟩ => ⟨S32x1, .f32⟩
  | .local _ .vmem, ⟨35, _⟩ => ⟨S1x1, .f32⟩
  | .local _ .vmem, ⟨36, _⟩ => ⟨S1x1, .f32⟩
  | .local _ .vmem, ⟨37, _⟩ => ⟨S256x256, .f32⟩
  | .local _ .vmem, ⟨38, _⟩ => ⟨S1x256, .f32⟩
  | .local _ .vmem, ⟨39, _⟩ => ⟨S384x256, .f32⟩
  | .local _ .vmem, ⟨40, _⟩ => ⟨S1x256, .f32⟩
  | .local _ .vmem, ⟨41, _⟩ => ⟨S256x80, .f32⟩
  | .local _ .vmem, ⟨42, _⟩ => ⟨S1x80, .f32⟩
  | .local _ .vmem, ⟨43, _⟩ => ⟨S256x4, .f32⟩
  | .local _ .vmem, ⟨44, _⟩ => ⟨S1x4, .f32⟩
  | .local _ .vmem, ⟨45, _⟩ => ⟨S8x256x80, .f32⟩
  | .local _ .vmem, ⟨46, _⟩ => ⟨S8x256x4, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c : Ref sig .tc := ⟨.hbm, 62, rfl⟩
abbrev main_v34 : Ref sig .tc := ⟨.hbm, 63, rfl⟩
abbrev main_c_0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_1 : Ref sig .tc := ⟨.hbm, 71, rfl⟩
abbrev main_v41 : Ref sig .tc := ⟨.hbm, 72, rfl⟩
abbrev main_c_2 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_3 : Ref sig .tc := ⟨.hbm, 80, rfl⟩
abbrev main_v48 : Ref sig .tc := ⟨.hbm, 81, rfl⟩
abbrev main_c_4 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_5 : Ref sig .tc := ⟨.hbm, 89, rfl⟩
abbrev main_v55 : Ref sig .tc := ⟨.hbm, 90, rfl⟩
abbrev main_c_6 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_7 : Ref sig .tc := ⟨.hbm, 98, rfl⟩
abbrev main_v62 : Ref sig .tc := ⟨.hbm, 99, rfl⟩
abbrev main_c_8 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_9 : Ref sig .tc := ⟨.hbm, 107, rfl⟩
abbrev main_v69 : Ref sig .tc := ⟨.hbm, 108, rfl⟩
abbrev main_c_10 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_11 : Ref sig .tc := ⟨.hbm, 116, rfl⟩
abbrev main_v76 : Ref sig .tc := ⟨.hbm, 117, rfl⟩
abbrev main_c_12 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_13 : Ref sig .tc := ⟨.hbm, 125, rfl⟩
abbrev main_v83 : Ref sig .tc := ⟨.hbm, 126, rfl⟩
abbrev main_c_14 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_15 : Ref sig .tc := ⟨.hbm, 134, rfl⟩
abbrev main_v90 : Ref sig .tc := ⟨.hbm, 135, rfl⟩
abbrev main_c_16 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_17 : Ref sig .tc := ⟨.hbm, 143, rfl⟩
abbrev main_v97 : Ref sig .tc := ⟨.hbm, 144, rfl⟩
abbrev main_c_18 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_c_19 : Ref sig .tc := ⟨.hbm, 152, rfl⟩
abbrev main_v104 : Ref sig .tc := ⟨.hbm, 153, rfl⟩
abbrev main_c_20 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_c_21 : Ref sig .tc := ⟨.hbm, 161, rfl⟩
abbrev main_v111 : Ref sig .tc := ⟨.hbm, 162, rfl⟩
abbrev main_c_22 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_c_23 : Ref sig .tc := ⟨.hbm, 170, rfl⟩
abbrev main_v118 : Ref sig .tc := ⟨.hbm, 171, rfl⟩
abbrev main_c_24 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_c_25 : Ref sig .tc := ⟨.hbm, 179, rfl⟩
abbrev main_v125 : Ref sig .tc := ⟨.hbm, 180, rfl⟩
abbrev main_c_26 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_c_27 : Ref sig .tc := ⟨.hbm, 188, rfl⟩
abbrev main_v132 : Ref sig .tc := ⟨.hbm, 189, rfl⟩
abbrev main_c_28 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_c_29 : Ref sig .tc := ⟨.hbm, 197, rfl⟩
abbrev main_v139 : Ref sig .tc := ⟨.hbm, 198, rfl⟩
abbrev main_c_30 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_c_31 : Ref sig .tc := ⟨.hbm, 206, rfl⟩
abbrev main_v146 : Ref sig .tc := ⟨.hbm, 207, rfl⟩
abbrev main_c_32 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_c_33 : Ref sig .tc := ⟨.hbm, 215, rfl⟩
abbrev main_v153 : Ref sig .tc := ⟨.hbm, 216, rfl⟩
abbrev main_c_34 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_cst_35 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211_0 : Ref sig .tc := ⟨.hbm, 276, rfl⟩
abbrev main_v211_1 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219_0 : Ref sig .tc := ⟨.hbm, 285, rfl⟩
abbrev main_v219_1 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc2_stg10_0 : Ref sig .tc := ⟨.vmem, 27, rfl⟩
abbrev cc2_stg10_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg12_0 : Ref sig .tc := ⟨.vmem, 41, rfl⟩
abbrev cc3_stg13_0 : Ref sig .tc := ⟨.vmem, 42, rfl⟩
abbrev cc3_stg14_0 : Ref sig .tc := ⟨.vmem, 43, rfl⟩
abbrev cc3_stg15_0 : Ref sig .tc := ⟨.vmem, 44, rfl⟩
abbrev cc3_stg16_0 : Ref sig .tc := ⟨.vmem, 45, rfl⟩
abbrev cc3_stg17_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26
abbrev cc2_sem10_0 : DmaSem sig := 27
abbrev cc2_sem10_1 : DmaSem sig := 28
abbrev cc3_sem0_0 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40
abbrev cc3_sem12_0 : DmaSem sig := 41
abbrev cc3_sem13_0 : DmaSem sig := 42
abbrev cc3_sem14_0 : DmaSem sig := 43
abbrev cc3_sem15_0 : DmaSem sig := 44
abbrev cc3_sem16_0 : DmaSem sig := 45
abbrev cc3_sem17_0 : DmaSem sig := 46

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg1
  let c16_i32_0 : BitVec 32 := 16#32
  let v1 : BitVec 32 := Scalar.addi v0 c16_i32_0
  let c31_i32 : BitVec 32 := 31#32
  let v2 : BitVec 32 := Scalar.minsi v1 c31_i32
  let c0_i32 : BitVec 32 := 0#32
  let c0_i32_1 : BitVec 32 := 0#32
  let c0_i32_2 : BitVec 32 := 0#32
  ![arg0.toNat, v2.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128x24 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x24 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S72x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x128x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x16x16x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x3072 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3072x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3072x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x256x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x256x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := .none

abbrev stage3_0 : Fin 1 → Memref sig .tc .vmem S8x256x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S8x256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S32x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S256x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S384x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))

abbrev stage3_12 : Fin 1 → Memref sig .tc .vmem S256x80 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))

abbrev stage3_13 : Fin 1 → Memref sig .tc .vmem S1x80 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))

abbrev stage3_14 : Fin 1 → Memref sig .tc .vmem S256x4 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))

abbrev stage3_15 : Fin 1 → Memref sig .tc .vmem S1x4 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))

abbrev stage3_16 : Fin 1 → Memref sig .tc .vmem S8x256x80 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))

abbrev stage3_17 : Fin 1 → Memref sig .tc .vmem S8x256x4 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
-- ==== ReferenceCIdeal.lean ====
abbrev S_ : Shape := ⟨0, ![]⟩
abbrev S8x3x512x512 : Shape := ⟨4, ![8, 3, 512, 512]⟩
abbrev S8x256x3x32x32 : Shape := ⟨5, ![8, 256, 3, 32, 32]⟩
abbrev S64x3x3x3 : Shape := ⟨4, ![64, 3, 3, 3]⟩
abbrev S64 : Shape := ⟨1, ![64]⟩
abbrev S64x64x3x3 : Shape := ⟨4, ![64, 64, 3, 3]⟩
abbrev S64x32 : Shape := ⟨2, ![64, 32]⟩
abbrev S32 : Shape := ⟨1, ![32]⟩
abbrev S32x1 : Shape := ⟨2, ![32, 1]⟩
abbrev S1 : Shape := ⟨1, ![1]⟩
abbrev S3072x512 : Shape := ⟨2, ![3072, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S3072x128 : Shape := ⟨2, ![3072, 128]⟩
abbrev S256x256 : Shape := ⟨2, ![256, 256]⟩
abbrev S256 : Shape := ⟨1, ![256]⟩
abbrev S384x256 : Shape := ⟨2, ![384, 256]⟩
abbrev S256x80 : Shape := ⟨2, ![256, 80]⟩
abbrev S80 : Shape := ⟨1, ![80]⟩
abbrev S256x4 : Shape := ⟨2, ![256, 4]⟩
abbrev S4 : Shape := ⟨1, ![4]⟩
abbrev S8x512x512x3 : Shape := ⟨4, ![8, 512, 512, 3]⟩
abbrev S8x514x514x3 : Shape := ⟨4, ![8, 514, 514, 3]⟩
abbrev S8x256x256x64 : Shape := ⟨4, ![8, 256, 256, 64]⟩
abbrev S8x256x256x3 : Shape := ⟨4, ![8, 256, 256, 3]⟩
abbrev S64x3x1x1 : Shape := ⟨4, ![64, 3, 1, 1]⟩
abbrev S64x3 : Shape := ⟨2, ![64, 3]⟩
abbrev S3x64 : Shape := ⟨2, ![3, 64]⟩
abbrev S1x1x1x64 : Shape := ⟨4, ![1, 1, 1, 64]⟩
abbrev S8x258x258x64 : Shape := ⟨4, ![8, 258, 258, 64]⟩
abbrev S8x128x128x64 : Shape := ⟨4, ![8, 128, 128, 64]⟩
abbrev S64x64x1x1 : Shape := ⟨4, ![64, 64, 1, 1]⟩
abbrev S64x64 : Shape := ⟨2, ![64, 64]⟩
abbrev S8x16x8x16x8x64 : Shape := ⟨6, ![8, 16, 8, 16, 8, 64]⟩
abbrev S8x16x16x64 : Shape := ⟨4, ![8, 16, 16, 64]⟩
abbrev S8x256x64 : Shape := ⟨3, ![8, 256, 64]⟩
abbrev S8x256x32 : Shape := ⟨3, ![8, 256, 32]⟩
abbrev S1x1x32 : Shape := ⟨3, ![1, 1, 32]⟩
abbrev S8x256x1 : Shape := ⟨3, ![8, 256, 1]⟩
abbrev S1x1x1 : Shape := ⟨3, ![1, 1, 1]⟩
abbrev S8x256 : Shape := ⟨2, ![8, 256]⟩
abbrev S8x256x3072 : Shape := ⟨3, ![8, 256, 3072]⟩
abbrev S8x256x512 : Shape := ⟨3, ![8, 256, 512]⟩
abbrev S1x1x512 : Shape := ⟨3, ![1, 1, 512]⟩
abbrev S8x256x128 : Shape := ⟨3, ![8, 256, 128]⟩
abbrev S1x1x128 : Shape := ⟨3, ![1, 1, 128]⟩
abbrev S8 : Shape := ⟨1, ![8]⟩
abbrev S8x1 : Shape := ⟨2, ![8, 1]⟩
abbrev S8x128 : Shape := ⟨2, ![8, 128]⟩
abbrev S1x256 : Shape := ⟨2, ![1, 256]⟩
abbrev S8x1x256 : Shape := ⟨3, ![8, 1, 256]⟩
abbrev S8x256x256 : Shape := ⟨3, ![8, 256, 256]⟩
abbrev S8x256x384 : Shape := ⟨3, ![8, 256, 384]⟩
abbrev S1x1x256 : Shape := ⟨3, ![1, 1, 256]⟩
abbrev S8x256x80 : Shape := ⟨3, ![8, 256, 80]⟩
abbrev S1x1x80 : Shape := ⟨3, ![1, 1, 80]⟩
abbrev S8x256x4 : Shape := ⟨3, ![8, 256, 4]⟩
abbrev S1x1x4 : Shape := ⟨3, ![1, 1, 4]⟩

abbrev nBuf : Space → Nat
  | .hbm => 304
  | .vmem => 0
  | .smem => 0
  | _ => 0

abbrev hbmTy0_0 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S8x3x512x512, .f32⟩
  | 28 => ⟨S8x256x3x32x32, .f32⟩
  | 29 => ⟨S64x3x3x3, .f32⟩
  | 30 => ⟨S64, .f32⟩
  | 31 => ⟨S64x64x3x3, .f32⟩
  | 32 => ⟨S64, .f32⟩
  | 33 => ⟨S64x32, .f32⟩
  | 34 => ⟨S32, .f32⟩
  | 35 => ⟨S32x1, .f32⟩
  | 36 => ⟨S1, .f32⟩
  | 37 => ⟨S3072x512, .f32⟩
  | 38 => ⟨S512, .f32⟩
  | 39 => ⟨S512x512, .f32⟩
  | 40 => ⟨S512, .f32⟩
  | 41 => ⟨S512x128, .f32⟩
  | 42 => ⟨S128, .f32⟩
  | 43 => ⟨S3072x128, .f32⟩
  | 44 => ⟨S128, .f32⟩
  | 45 => ⟨S256x256, .f32⟩
  | 46 => ⟨S256, .f32⟩
  | 47 => ⟨S384x256, .f32⟩
  | 48 => ⟨S256, .f32⟩
  | 49 => ⟨S256x80, .f32⟩
  | 50 => ⟨S80, .f32⟩
  | 51 => ⟨S256x4, .f32⟩
  | 52 => ⟨S4, .f32⟩
  | 53 => ⟨S8x512x512x3, .f32⟩
  | 54 => ⟨S_, .i32⟩
  | 55 => ⟨S_, .f32⟩
  | 56 => ⟨S8x514x514x3, .f32⟩
  | 57 => ⟨S_, .f32⟩
  | 58 => ⟨S8x256x256x64, .f32⟩
  | 59 => ⟨S8x256x256x3, .f32⟩
  | 60 => ⟨S64x3x1x1, .f32⟩
  | 61 => ⟨S64x3, .f32⟩
  | 62 => ⟨S3x64, .f32⟩
  | 63 => ⟨S8x256x256x64, .f32⟩
  | 64 => ⟨S8x256x256x64, .f32⟩
  | 65 => ⟨S8x256x256x3, .f32⟩
  | 66 => ⟨S64x3x1x1, .f32⟩
  | 67 => ⟨S64x3, .f32⟩
  | 68 => ⟨S3x64, .f32⟩
  | 69 => ⟨S8x256x256x64, .f32⟩
  | 70 => ⟨S8x256x256x64, .f32⟩
  | 71 => ⟨S8x256x256x3, .f32⟩
  | 72 => ⟨S64x3x1x1, .f32⟩
  | 73 => ⟨S64x3, .f32⟩
  | 74 => ⟨S3x64, .f32⟩
  | 75 => ⟨S8x256x256x64, .f32⟩
  | 76 => ⟨S8x256x256x64, .f32⟩
  | 77 => ⟨S8x256x256x3, .f32⟩
  | 78 => ⟨S64x3x1x1, .f32⟩
  | 79 => ⟨S64x3, .f32⟩
  | 80 => ⟨S3x64, .f32⟩
  | 81 => ⟨S8x256x256x64, .f32⟩
  | 82 => ⟨S8x256x256x64, .f32⟩
  | 83 => ⟨S8x256x256x3, .f32⟩
  | 84 => ⟨S64x3x1x1, .f32⟩
  | 85 => ⟨S64x3, .f32⟩
  | 86 => ⟨S3x64, .f32⟩
  | 87 => ⟨S8x256x256x64, .f32⟩
  | 88 => ⟨S8x256x256x64, .f32⟩
  | 89 => ⟨S8x256x256x3, .f32⟩
  | 90 => ⟨S64x3x1x1, .f32⟩
  | 91 => ⟨S64x3, .f32⟩
  | 92 => ⟨S3x64, .f32⟩
  | 93 => ⟨S8x256x256x64, .f32⟩
  | 94 => ⟨S8x256x256x64, .f32⟩
  | 95 => ⟨S8x256x256x3, .f32⟩
  | 96 => ⟨S64x3x1x1, .f32⟩
  | 97 => ⟨S64x3, .f32⟩
  | 98 => ⟨S3x64, .f32⟩
  | 99 => ⟨S8x256x256x64, .f32⟩
  | 100 => ⟨S8x256x256x64, .f32⟩
  | 101 => ⟨S8x256x256x3, .f32⟩
  | 102 => ⟨S64x3x1x1, .f32⟩
  | 103 => ⟨S64x3, .f32⟩
  | 104 => ⟨S3x64, .f32⟩
  | 105 => ⟨S8x256x256x64, .f32⟩
  | 106 => ⟨S8x256x256x64, .f32⟩
  | 107 => ⟨S8x256x256x3, .f32⟩
  | 108 => ⟨S64x3x1x1, .f32⟩
  | 109 => ⟨S64x3, .f32⟩
  | 110 => ⟨S3x64, .f32⟩
  | 111 => ⟨S8x256x256x64, .f32⟩
  | 112 => ⟨S8x256x256x64, .f32⟩
  | 113 => ⟨S1x1x1x64, .f32⟩
  | 114 => ⟨S8x256x256x64, .f32⟩
  | 115 => ⟨S8x256x256x64, .f32⟩
  | 116 => ⟨S_, .f32⟩
  | 117 => ⟨S8x256x256x64, .f32⟩
  | 118 => ⟨S8x256x256x64, .f32⟩
  | 119 => ⟨S_, .i32⟩
  | 120 => ⟨S_, .f32⟩
  | 121 => ⟨S8x258x258x64, .f32⟩
  | 122 => ⟨S_, .f32⟩
  | 123 => ⟨S8x128x128x64, .f32⟩
  | 124 => ⟨S8x128x128x64, .f32⟩
  | 125 => ⟨S64x64x1x1, .f32⟩
  | 126 => ⟨S64x64, .f32⟩
  | 127 => ⟨S64x64, .f32⟩
  | _ => ⟨S_, .f32⟩

abbrev hbmTy0_1 (i : Nat) : BufTy := match i % 128 with
  | 0 => ⟨S8x128x128x64, .f32⟩
  | 1 => ⟨S8x128x128x64, .f32⟩
  | 2 => ⟨S8x128x128x64, .f32⟩
  | 3 => ⟨S64x64x1x1, .f32⟩
  | 4 => ⟨S64x64, .f32⟩
  | 5 => ⟨S64x64, .f32⟩
  | 6 => ⟨S8x128x128x64, .f32⟩
  | 7 => ⟨S8x128x128x64, .f32⟩
  | 8 => ⟨S8x128x128x64, .f32⟩
  | 9 => ⟨S64x64x1x1, .f32⟩
  | 10 => ⟨S64x64, .f32⟩
  | 11 => ⟨S64x64, .f32⟩
  | 12 => ⟨S8x128x128x64, .f32⟩
  | 13 => ⟨S8x128x128x64, .f32⟩
  | 14 => ⟨S8x128x128x64, .f32⟩
  | 15 => ⟨S64x64x1x1, .f32⟩
  | 16 => ⟨S64x64, .f32⟩
  | 17 => ⟨S64x64, .f32⟩
  | 18 => ⟨S8x128x128x64, .f32⟩
  | 19 => ⟨S8x128x128x64, .f32⟩
  | 20 => ⟨S8x128x128x64, .f32⟩
  | 21 => ⟨S64x64x1x1, .f32⟩
  | 22 => ⟨S64x64, .f32⟩
  | 23 => ⟨S64x64, .f32⟩
  | 24 => ⟨S8x128x128x64, .f32⟩
  | 25 => ⟨S8x128x128x64, .f32⟩
  | 26 => ⟨S8x128x128x64, .f32⟩
  | 27 => ⟨S64x64x1x1, .f32⟩
  | 28 => ⟨S64x64, .f32⟩
  | 29 => ⟨S64x64, .f32⟩
  | 30 => ⟨S8x128x128x64, .f32⟩
  | 31 => ⟨S8x128x128x64, .f32⟩
  | 32 => ⟨S8x128x128x64, .f32⟩
  | 33 => ⟨S64x64x1x1, .f32⟩
  | 34 => ⟨S64x64, .f32⟩
  | 35 => ⟨S64x64, .f32⟩
  | 36 => ⟨S8x128x128x64, .f32⟩
  | 37 => ⟨S8x128x128x64, .f32⟩
  | 38 => ⟨S8x128x128x64, .f32⟩
  | 39 => ⟨S64x64x1x1, .f32⟩
  | 40 => ⟨S64x64, .f32⟩
  | 41 => ⟨S64x64, .f32⟩
  | 42 => ⟨S8x128x128x64, .f32⟩
  | 43 => ⟨S8x128x128x64, .f32⟩
  | 44 => ⟨S8x128x128x64, .f32⟩
  | 45 => ⟨S64x64x1x1, .f32⟩
  | 46 => ⟨S64x64, .f32⟩
  | 47 => ⟨S64x64, .f32⟩
  | 48 => ⟨S8x128x128x64, .f32⟩
  | 49 => ⟨S8x128x128x64, .f32⟩
  | 50 => ⟨S1x1x1x64, .f32⟩
  | 51 => ⟨S8x128x128x64, .f32⟩
  | 52 => ⟨S8x128x128x64, .f32⟩
  | 53 => ⟨S_, .f32⟩
  | 54 => ⟨S8x128x128x64, .f32⟩
  | 55 => ⟨S8x128x128x64, .f32⟩
  | 56 => ⟨S8x16x8x16x8x64, .f32⟩
  | 57 => ⟨S_, .f32⟩
  | 58 => ⟨S8x16x16x64, .f32⟩
  | 59 => ⟨S_, .f32⟩
  | 60 => ⟨S8x16x16x64, .f32⟩
  | 61 => ⟨S8x16x16x64, .f32⟩
  | 62 => ⟨S8x256x64, .f32⟩
  | 63 => ⟨S8x256x32, .f32⟩
  | 64 => ⟨S1x1x32, .f32⟩
  | 65 => ⟨S8x256x32, .f32⟩
  | 66 => ⟨S8x256x32, .f32⟩
  | 67 => ⟨S_, .f32⟩
  | 68 => ⟨S8x256x32, .f32⟩
  | 69 => ⟨S8x256x32, .f32⟩
  | 70 => ⟨S8x256x1, .f32⟩
  | 71 => ⟨S1x1x1, .f32⟩
  | 72 => ⟨S8x256x1, .f32⟩
  | 73 => ⟨S8x256x1, .f32⟩
  | 74 => ⟨S8x256x1, .f32⟩
  | 75 => ⟨S8x256x1, .f32⟩
  | 76 => ⟨S_, .f32⟩
  | 77 => ⟨S8x256x1, .f32⟩
  | 78 => ⟨S8x256x1, .f32⟩
  | 79 => ⟨S_, .f32⟩
  | 80 => ⟨S8x256x1, .f32⟩
  | 81 => ⟨S8x256x1, .f32⟩
  | 82 => ⟨S8x256, .f32⟩
  | 83 => ⟨S8x256, .f32⟩
  | 84 => ⟨S8x256, .f32⟩
  | 85 => ⟨S_, .f32⟩
  | 86 => ⟨S8x256, .f32⟩
  | 87 => ⟨S8x256, .f32⟩
  | 88 => ⟨S8x256, .f32⟩
  | 89 => ⟨S8x256, .f32⟩
  | 90 => ⟨S_, .f32⟩
  | 91 => ⟨S8x256, .f32⟩
  | 92 => ⟨S8x256, .f32⟩
  | 93 => ⟨S_, .f32⟩
  | 94 => ⟨S8x256, .f32⟩
  | 95 => ⟨S8x256, .f32⟩
  | 96 => ⟨S8x256x3072, .f32⟩
  | 97 => ⟨S8x256x512, .f32⟩
  | 98 => ⟨S1x1x512, .f32⟩
  | 99 => ⟨S8x256x512, .f32⟩
  | 100 => ⟨S8x256x512, .f32⟩
  | 101 => ⟨S_, .f32⟩
  | 102 => ⟨S8x256x512, .f32⟩
  | 103 => ⟨S8x256x512, .f32⟩
  | 104 => ⟨S8x256x512, .f32⟩
  | 105 => ⟨S1x1x512, .f32⟩
  | 106 => ⟨S8x256x512, .f32⟩
  | 107 => ⟨S8x256x512, .f32⟩
  | 108 => ⟨S_, .f32⟩
  | 109 => ⟨S8x256x512, .f32⟩
  | 110 => ⟨S8x256x512, .f32⟩
  | 111 => ⟨S8x256x128, .f32⟩
  | 112 => ⟨S1x1x128, .f32⟩
  | 113 => ⟨S8x256x128, .f32⟩
  | 114 => ⟨S8x256x128, .f32⟩
  | 115 => ⟨S8x256x1, .f32⟩
  | 116 => ⟨S8x256x128, .f32⟩
  | 117 => ⟨S8x256x128, .f32⟩
  | 118 => ⟨S8x256x128, .f32⟩
  | 119 => ⟨S1x1x128, .f32⟩
  | 120 => ⟨S8x256x128, .f32⟩
  | 121 => ⟨S8x256x128, .f32⟩
  | 122 => ⟨S_, .f32⟩
  | 123 => ⟨S8x256, .f32⟩
  | 124 => ⟨S8x256, .f32⟩
  | 125 => ⟨S8x256x1, .f32⟩
  | 126 => ⟨S8x256x128, .f32⟩
  | 127 => ⟨S8x256x128, .f32⟩
  | _ => ⟨S_, .f32⟩

abbrev hbmTy0_2 (i : Nat) : BufTy := match i % 128 with
  | 0 => ⟨S8x256x128, .f32⟩
  | 1 => ⟨S_, .f32⟩
  | 2 => ⟨S8, .f32⟩
  | 3 => ⟨S_, .f32⟩
  | 4 => ⟨S8, .f32⟩
  | 5 => ⟨S8, .f32⟩
  | 6 => ⟨S8x1, .f32⟩
  | 7 => ⟨S8x256, .f32⟩
  | 8 => ⟨S8x256, .f32⟩
  | 9 => ⟨S8x256, .f32⟩
  | 10 => ⟨S_, .f32⟩
  | 11 => ⟨S8, .f32⟩
  | 12 => ⟨S8x1, .f32⟩
  | 13 => ⟨S8x256, .f32⟩
  | 14 => ⟨S8x256, .f32⟩
  | 15 => ⟨S8x256x1, .f32⟩
  | 16 => ⟨S8x256x128, .f32⟩
  | 17 => ⟨S8x256x128, .f32⟩
  | 18 => ⟨S_, .f32⟩
  | 19 => ⟨S8x128, .f32⟩
  | 20 => ⟨S_, .f32⟩
  | 21 => ⟨S8x128, .f32⟩
  | 22 => ⟨S_, .f32⟩
  | 23 => ⟨S8x128, .f32⟩
  | 24 => ⟨S8x128, .f32⟩
  | 25 => ⟨S8x256, .f32⟩
  | 26 => ⟨S8x256, .f32⟩
  | 27 => ⟨S1x256, .f32⟩
  | 28 => ⟨S8x256, .f32⟩
  | 29 => ⟨S8x256, .f32⟩
  | 30 => ⟨S8x1x256, .f32⟩
  | 31 => ⟨S8x256x256, .f32⟩
  | 32 => ⟨S8x256x384, .f32⟩
  | 33 => ⟨S8x256x256, .f32⟩
  | 34 => ⟨S1x1x256, .f32⟩
  | 35 => ⟨S8x256x256, .f32⟩
  | 36 => ⟨S8x256x256, .f32⟩
  | 37 => ⟨S_, .f32⟩
  | 38 => ⟨S8x256x256, .f32⟩
  | 39 => ⟨S8x256x256, .f32⟩
  | 40 => ⟨S8x256x80, .f32⟩
  | 41 => ⟨S1x1x80, .f32⟩
  | 42 => ⟨S8x256x80, .f32⟩
  | 43 => ⟨S8x256x80, .f32⟩
  | 44 => ⟨S8x256x4, .f32⟩
  | 45 => ⟨S1x1x4, .f32⟩
  | 46 => ⟨S8x256x4, .f32⟩
  | 47 => ⟨S8x256x4, .f32⟩
  | _ => ⟨S_, .f32⟩

abbrev hbmTy (i : Nat) : BufTy := match i / 128 with
  | 0 => hbmTy0_0 i
  | 1 => hbmTy0_1 i
  | 2 => hbmTy0_2 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c : Ref sig .tc := ⟨.hbm, 54, rfl⟩
abbrev main_call0_v0 : Ref sig .tc := ⟨.hbm, 55, rfl⟩
abbrev main_v27 : Ref sig .tc := ⟨.hbm, 56, rfl⟩
abbrev main_cst : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_c_0 : Ref sig .tc := ⟨.hbm, 119, rfl⟩
abbrev main_call2_v0 : Ref sig .tc := ⟨.hbm, 120, rfl⟩
abbrev main_v87 : Ref sig .tc := ⟨.hbm, 121, rfl⟩
abbrev main_cst_1 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_call3_cst : Ref sig .tc := ⟨.hbm, 181, rfl⟩
abbrev main_call3_v0 : Ref sig .tc := ⟨.hbm, 182, rfl⟩
abbrev main_v146 : Ref sig .tc := ⟨.hbm, 183, rfl⟩
abbrev main_v147 : Ref sig .tc := ⟨.hbm, 184, rfl⟩
abbrev main_cst_2 : Ref sig .tc := ⟨.hbm, 185, rfl⟩
abbrev main_v148 : Ref sig .tc := ⟨.hbm, 186, rfl⟩
abbrev main_cst_3 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_call4_cst : Ref sig .tc := ⟨.hbm, 195, rfl⟩
abbrev main_call4_v0 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_4 : Ref sig .tc := ⟨.hbm, 204, rfl⟩
abbrev main_v163 : Ref sig .tc := ⟨.hbm, 205, rfl⟩
abbrev main_v164 : Ref sig .tc := ⟨.hbm, 206, rfl⟩
abbrev main_cst_5 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_6 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_7 : Ref sig .tc := ⟨.hbm, 218, rfl⟩
abbrev main_v174 : Ref sig .tc := ⟨.hbm, 219, rfl⟩
abbrev main_v175 : Ref sig .tc := ⟨.hbm, 220, rfl⟩
abbrev main_cst_8 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_call5_cst : Ref sig .tc := ⟨.hbm, 229, rfl⟩
abbrev main_call5_v0 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_call6_cst : Ref sig .tc := ⟨.hbm, 236, rfl⟩
abbrev main_call6_v0 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_9 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_cst_10 : Ref sig .tc := ⟨.hbm, 257, rfl⟩
abbrev main_v206 : Ref sig .tc := ⟨.hbm, 258, rfl⟩
abbrev main_cst_11 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_cst_12 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_cst_13 : Ref sig .tc := ⟨.hbm, 274, rfl⟩
abbrev main_v220 : Ref sig .tc := ⟨.hbm, 275, rfl⟩
abbrev main_cst_14 : Ref sig .tc := ⟨.hbm, 276, rfl⟩
abbrev main_v221 : Ref sig .tc := ⟨.hbm, 277, rfl⟩
abbrev main_cst_15 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_call7_cst : Ref sig .tc := ⟨.hbm, 293, rfl⟩
abbrev main_call7_v0 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩

abbrev nD : Nat := 1
abbrev τ : Topo := Topo.v7x

variable {F : FTy → Type} [FloatOps F]
-- ==== Proof.Spec.lean ====
/-
  What the part of the network after the first convolution computes over the extended reals, element by element, in
  plain sums: the second convolution read from the packed activations, the pooled features, the two expert networks and
  the detection head. Both programs are shown to compute these functions.
-/
module

public import Idealize.ShloMosaic.Lib.Pointwise

@[expose] public section

noncomputable section

namespace Cert.Spec

open Idealize.ShloMosaic

/-- The rectifier. -/
def relu (x : EReal) : EReal := max x 0

/-- The logistic function as both programs state it. -/
def sigm (x : EReal) : EReal := Ideal.div 1 (1 + Ideal.exp (-x))

/-! ### The second convolution, from one image's packed activations `X i j k` (row `i`; column `2j` in the lanes
    `k < 64`, column `2j + 1` in the lanes `64 + k`) and the weights `W d c ky kx` -/

/-- Row `2I + ky - 1` of the activations, zeros above the image. -/
def rowAt (X : Fin 256 → Fin 128 → Fin 128 → EReal) (I : Fin 128) (ky : Fin 3) (J k : Fin 128) : EReal :=
  if h : 2 * I.val + ky.val = 0 then 0 else X ⟨2 * I.val + ky.val - 1, by omega⟩ J k

/-- The tap one column to the left: column `2J - 1`, zero left of the image. -/
def tapL (X : Fin 256 → Fin 128 → Fin 128 → EReal) (W : Fin 64 → Fin 64 → Fin 3 → Fin 3 → EReal)
    (I J : Fin 128) (d : Fin 64) (ky : Fin 3) : EReal :=
  if h : J.val = 0 then 0
  else ∑ c : Fin 64, rowAt X I ky ⟨J.val - 1, by omega⟩ ⟨64 + c.val, by omega⟩ * W d c ky 0

/-- The tap in column `2J`. -/
def tapM (X : Fin 256 → Fin 128 → Fin 128 → EReal) (W : Fin 64 → Fin 64 → Fin 3 → Fin 3 → EReal)
    (I J : Fin 128) (d : Fin 64) (ky : Fin 3) : EReal :=
  ∑ c : Fin 64, rowAt X I ky J ⟨c.val, by omega⟩ * W d c ky 1

/-- The tap in column `2J + 1`. -/
def tapR (X : Fin 256 → Fin 128 → Fin 128 → EReal) (W : Fin 64 → Fin 64 → Fin 3 → Fin 3 → EReal)
    (I J : Fin 128) (d : Fin 64) (ky : Fin 3) : EReal :=
  ∑ c : Fin 64, rowAt X I ky J ⟨64 + c.val, by omega⟩ * W d c ky 2

/-- The second convolution with its bias and rectifier. -/
def conv2 (X : Fin 256 → Fin 128 → Fin 128 → EReal) (W : Fin 64 → Fin 64 → Fin 3 → Fin 3 → EReal)
    (b : Fin 64 → EReal) (I J : Fin 128) (d : Fin 64) : EReal :=
  relu ((∑ ky : Fin 3, (tapL X W I J d ky + tapM X W I J d ky + tapR X W I J d ky)) + b d)

/-- The mean of the second convolution over the 8 × 8 positions of patch `(p, q)`. -/
def feat (X : Fin 256 → Fin 128 → Fin 128 → EReal) (W : Fin 64 → Fin 64 → Fin 3 → Fin 3 → EReal)
    (b : Fin 64 → EReal) (p q : Fin 16) (d : Fin 64) : EReal :=
  Ideal.div (∑ r : Fin 8, ∑ s : Fin 8,
    conv2 X W b ⟨8 * p.val + r.val, by omega⟩ ⟨8 * q.val + s.val, by omega⟩ d) ((64 : ℝ) : EReal)

/-! ### The experts, of one flattened patch `x` -/

/-- The two hidden layers and the output layer of the big expert. -/
def big (x : Fin 3072 → EReal) (w1 : Fin 3072 → Fin 512 → EReal) (b1 : Fin 512 → EReal)
    (w2 : Fin 512 → Fin 512 → EReal) (b2 : Fin 512 → EReal) (w3 : Fin 512 → Fin 128 → EReal) (b3 : Fin 128 → EReal)
    (c : Fin 128) : EReal :=
  (∑ k : Fin 512, relu ((∑ j : Fin 512, relu ((∑ i : Fin 3072, x i * w1 i j) + b1 j) * w2 j k) + b2 k) * w3 k c) + b3 c

/-- The small expert, one layer. -/
def small (x : Fin 3072 → EReal) (w : Fin 3072 → Fin 128 → EReal) (b : Fin 128 → EReal) (c : Fin 128) : EReal :=
  (∑ i : Fin 3072, x i * w i c) + b c

/-! ### The head, of one image's 256 patches -/

/-- The attention score of one patch from its features. -/
def score (f : Fin 64 → EReal) (w1 : Fin 64 → Fin 32 → EReal) (b1 : Fin 32 → EReal) (w2 : Fin 32 → EReal) (b2 : EReal) : EReal :=
  sigm ((∑ k : Fin 32, relu ((∑ i : Fin 64, f i * w1 i k) + b1 k) * w2 k) + b2)

/-- The experts' outputs mixed by the routing mask of a score. -/
def mix (s thr big small : EReal) : EReal :=
  sigm (s - thr) * big + (1 - sigm (s - thr)) * small

/-- The largest of the scores. -/
def top (s : Fin 256 → EReal) : EReal := Finset.univ.fold max ⊥ s

/-- The softmax of the scores. -/
def attn (s : Fin 256 → EReal) (n : Fin 256) : EReal :=
  Ideal.div (Ideal.exp (s n - top s)) (∑ m : Fin 256, Ideal.exp (s m - top s))

/-- The attention-weighted sum of the mixed outputs. -/
def wsum (s : Fin 256 → EReal) (mx : Fin 256 → Fin 128 → EReal) (k : Fin 128) : EReal :=
  ∑ n : Fin 256, mx n k * attn s n

/-- The mean of the mixed outputs. -/
def mean (mx : Fin 256 → Fin 128 → EReal) (k : Fin 128) : EReal :=
  Ideal.div (∑ n : Fin 256, mx n k) ((256 : ℝ) : EReal)

/-- The image's global features. -/
def glob (s : Fin 256 → EReal) (mx : Fin 256 → Fin 128 → EReal) (w : Fin 256 → Fin 256 → EReal) (b : Fin 256 → EReal)
    (j : Fin 256) : EReal :=
  ((∑ k : Fin 128, wsum s mx k * w ⟨k.val, by omega⟩ j) + ∑ k : Fin 128, mean mx k * w ⟨128 + k.val, by omega⟩ j) + b j

/-- The hidden layer of the detection head at patch `n`. -/
def hidden (s : Fin 256 → EReal) (mx : Fin 256 → Fin 128 → EReal) (w : Fin 256 → Fin 256 → EReal) (b : Fin 256 → EReal)
    (dw : Fin 384 → Fin 256 → EReal) (db : Fin 256 → EReal) (n j : Fin 256) : EReal :=
  relu (((∑ k : Fin 128, mx n k * dw ⟨k.val, by omega⟩ j) + ∑ k : Fin 256, glob s mx w b k * dw ⟨128 + k.val, by omega⟩ j) + db j)

/-- The hidden layer of the detection head at patch `n`, from the features `f` and the experts' outputs. -/
def headRow (f : Fin 256 → Fin 64 → EReal) (bg sm : Fin 256 → Fin 128 → EReal)
    (w1 : Fin 64 → Fin 32 → EReal) (b1 : Fin 32 → EReal) (w2 : Fin 32 → EReal) (b2 thr : EReal)
    (aw : Fin 256 → Fin 256 → EReal) (ab : Fin 256 → EReal) (dw : Fin 384 → Fin 256 → EReal) (db : Fin 256 → EReal)
    (n j : Fin 256) : EReal :=
  hidden (fun n => score (f n) w1 b1 w2 b2) (fun n k => mix (score (f n) w1 b1 w2 b2) thr (bg n k) (sm n k)) aw ab dw db n j

/-- One output layer over the hidden layer. -/
def outLayer {C : ℕ} (h : Fin 256 → EReal) (w : Fin 256 → Fin C → EReal) (b : Fin C → EReal) (c : Fin C) : EReal :=
  (∑ k : Fin 256, h k * w k c) + b c

/-! ### The whole, from its arguments -/

/-- The arguments: the first convolution's activations `x`, the flattened patches `pf`, and the weights and biases of the
    second convolution (`w`, `wb`), the attention (`a`), the threshold, the big expert (`b`), the small expert (`s`), the
    aggregation (`g`), the detection head (`d`) and its two output layers (`c`, `r`). -/
structure Net where
  x : Fin 8 → Fin 256 → Fin 128 → Fin 128 → EReal
  pf : Fin 8 → Fin 256 → Fin 3072 → EReal
  w : Fin 64 → Fin 64 → Fin 3 → Fin 3 → EReal
  wb : Fin 64 → EReal
  aw1 : Fin 64 → Fin 32 → EReal
  ab1 : Fin 32 → EReal
  aw2 : Fin 32 → EReal
  ab2 : EReal
  thr : EReal
  bw1 : Fin 3072 → Fin 512 → EReal
  bb1 : Fin 512 → EReal
  bw2 : Fin 512 → Fin 512 → EReal
  bb2 : Fin 512 → EReal
  bw3 : Fin 512 → Fin 128 → EReal
  bb3 : Fin 128 → EReal
  sw : Fin 3072 → Fin 128 → EReal
  sb : Fin 128 → EReal
  gw : Fin 256 → Fin 256 → EReal
  gb : Fin 256 → EReal
  dw : Fin 384 → Fin 256 → EReal
  db : Fin 256 → EReal
  cw : Fin 256 → Fin 80 → EReal
  cb : Fin 80 → EReal
  rw : Fin 256 → Fin 4 → EReal
  rb : Fin 4 → EReal

namespace Net

variable (N : Net)

/-- The features of patch `n = 16 p + q` of image `b`. -/
def feats (b : Fin 8) (n : Fin 256) (k : Fin 64) : EReal :=
  feat (N.x b) N.w N.wb ⟨n.val / 16, by omega⟩ ⟨n.val % 16, by omega⟩ k

/-- The big expert's output. -/
def bigs (b : Fin 8) (n : Fin 256) (k : Fin 128) : EReal := big (N.pf b n) N.bw1 N.bb1 N.bw2 N.bb2 N.bw3 N.bb3 k

/-- The small expert's output. -/
def smalls (b : Fin 8) (n : Fin 256) (k : Fin 128) : EReal := small (N.pf b n) N.sw N.sb k

/-- The detection head's hidden layer. -/
def hid (b : Fin 8) (n j : Fin 256) : EReal :=
  headRow (N.feats b) (N.bigs b) (N.smalls b) N.aw1 N.ab1 N.aw2 N.ab2 N.thr N.gw N.gb N.dw N.db n j

/-- The class logits. -/
def cls (b : Fin 8) (n : Fin 256) (k : Fin 80) : EReal := outLayer (N.hid b n) N.cw N.cb k

/-- The box regressions. -/
def reg (b : Fin 8) (n : Fin 256) (k : Fin 4) : EReal := outLayer (N.hid b n) N.rw N.rb k

end Net

/-! ### Sums -/

/-- A sum over `a + b` indices cut after the first `a`. -/
theorem sum_cut {a b n : ℕ} (h : n = a + b) (f : Fin n → EReal) :
    ∑ k : Fin n, f k = (∑ k : Fin a, f ⟨k.val, by omega⟩) + ∑ k : Fin b, f ⟨a + k.val, by omega⟩ := by
  subst h
  rw [Fin.sum_univ_add]
  rfl

/-- Division by a positive real number distributes over sums of extended reals. -/
theorem div_sum {ι : Type} (s : Finset ι) (f : ι → EReal) (y : ℝ) (hy : 0 < y) :
    Ideal.div (∑ i ∈ s, f i) (y : EReal) = ∑ i ∈ s, Ideal.div (f i) (y : EReal) := by
  have hne : (y : EReal) ≠ 0 := by exact_mod_cast hy.ne'
  have hinv : ((y : EReal))⁻¹ = ((y⁻¹ : ℝ) : EReal) := (EReal.coe_inv y).symm
  have h0 : (0 : EReal) ≤ ((y⁻¹ : ℝ) : EReal) := by exact_mod_cast (inv_pos.mpr hy).le
  have key : ∀ x : EReal, Ideal.div x (y : EReal) = x * ((y⁻¹ : ℝ) : EReal) := fun x => by
    unfold Ideal.div; rw [if_neg hne, hinv]
  simp only [key]
  classical
  induction s using Finset.induction_on with
  | empty => simp
  | insert a t ha ih =>
    rw [Finset.sum_insert ha, Finset.sum_insert ha, EReal.right_distrib_of_nonneg_of_ne_top h0 (EReal.coe_ne_top _), ih]

/-- Dividing twice by eight is dividing by sixty-four. -/
theorem div_div_eight (x : EReal) :
    Ideal.div (Ideal.div x ((8 : ℝ) : EReal)) ((8 : ℝ) : EReal) = Ideal.div x ((64 : ℝ) : EReal) := by
  have h8 : ((8 : ℝ) : EReal) ≠ 0 := by exact_mod_cast (by norm_num : (8 : ℝ) ≠ 0)
  have h64 : ((64 : ℝ) : EReal) ≠ 0 := by exact_mod_cast (by norm_num : (64 : ℝ) ≠ 0)
  unfold Ideal.div
  rw [if_neg h8, if_neg h8, if_neg h64, mul_assoc, ← EReal.coe_inv, ← EReal.coe_inv, ← EReal.coe_mul]
  norm_num

/-- The word of 8. -/
theorem ofBits_eight : Ideal.ofBits .f32 0x41000000#32 = ((8 : ℝ) : EReal) := by
  simp [Ideal.ofBits, Ideal.ieee, -EReal.coe_mul]; norm_num

/-- The word of 64. -/
theorem ofBits_sixtyfour : Ideal.ofBits .f32 0x42800000#32 = ((64 : ℝ) : EReal) := by
  simp [Ideal.ofBits, Ideal.ieee, -EReal.coe_mul]; norm_num

/-- The word of 256. -/
theorem ofBits_256 : Ideal.ofBits .f32 0x43800000#32 = ((256 : ℝ) : EReal) := by
  simp [Ideal.ofBits, Ideal.ieee, -EReal.coe_mul]; norm_num

/-- Division by one. -/
theorem div_one (x : EReal) : Ideal.div x 1 = x := by
  unfold Ideal.div
  rw [if_neg one_ne_zero]
  simp

end Cert.Spec
-- ==== Proof.TailConv.lean ====
/-
  What the second convolution's kernel stores for one image, element by element: the pooled features. The kernel makes two
  products over 384 lanes (three rows of 128), one with the weights of the columns `2J` and `2J + 1`, one, shifted by one
  column, with the weights of the column `2J - 1`, and takes the mean over the rows and then over the columns of a patch.
-/
module

public import proofs.«01_k».proof.Proof.Gen.TailIdeal.Skeleton
public import proofs.«01_k».proof.Proof.Spec

@[expose] public section

set_option maxRecDepth 16384

noncomputable section

namespace Cert.TailIdeal

open Cert.TailIdeal.Gen
open Idealize.ShloMosaic

/-- Lane `k` of the three gathered rows at `(I, J)`. -/
def lane (X : Fin 256 → Fin 128 → Fin 128 → EReal) (I J : Fin 128) (k : Fin 384) : EReal :=
  Spec.rowAt X I ⟨k.val / 128, by omega⟩ J ⟨k.val % 128, by omega⟩

/-- The gathered lanes as the kernel's payload reads them. -/
theorem lane_of (v0 : Vec Ideal S1x256x128x128 .bf16) (I J : Fin 128) (k : Fin 384) (a b : ℕ) (ha : a = I.val) (hb : b = J.val) :
    (if _h : k.val < 128 then
        if _h : a < 1 then (0 : EReal) else v0 (ix4 0 ⟨(a - 1) * 2 + 1, by omega⟩ ⟨b, by omega⟩ ⟨k.val, by omega⟩)
      else if _h : k.val - 128 < 128 then v0 (ix4 0 ⟨a * 2, by omega⟩ ⟨b, by omega⟩ ⟨k.val - 128, by omega⟩)
      else v0 (ix4 0 ⟨a * 2 + 1, by omega⟩ ⟨b, by omega⟩ ⟨k.val - 128 - 128, by omega⟩))
      = lane (fun i j k => v0 (ix4 0 i j k)) I J k := by
  subst ha hb
  have hix : ∀ {i i' : Fin 256} {k k' : Fin 128}, i.val = i'.val → k.val = k'.val →
      v0 (ix4 0 i J k) = v0 (ix4 0 i' J k') := fun h h' => by rw [Fin.ext h, Fin.ext h']
  unfold lane Spec.rowAt
  split_ifs with h1 h2 h3 h4 h5 h6 h7 <;> first
    | rfl
    | (exfalso; simp only [] at *; omega)
    | (apply hix <;> simp only [] <;> omega)

/-- The kernel's value at `(I, J)`, before pooling. -/
def pointK (X : Fin 256 → Fin 128 → Fin 128 → EReal) (w2 w1 : Fin 384 → Fin 64 → EReal) (b : Fin 64 → EReal)
    (I J : Fin 128) (d : Fin 64) : EReal :=
  Spec.relu (((∑ k : Fin 384, lane X I J k * w2 k d) +
    (if h : J.val < 1 then 0 else ∑ k : Fin 384, lane X I ⟨J.val - 1, by omega⟩ k * w1 k d)) + b d)

theorem feat_pay (v0 : Vec Ideal S1x256x128x128 .bf16) (v12 v15 : Vec Ideal S384x64 .bf16) (v25 : Vec Ideal S1x64 .f32)
    (p q : Fin 16) (d : Fin 64) :
    k0_pay2 (F := Ideal) v0 v12 v15 v25 (ix3 p q d)
      = Ideal.div (∑ s : Fin 8, Ideal.div (∑ r : Fin 8,
          pointK (fun i j k => v0 (ix4 0 i j k)) (fun k d => v12 (ix2 k d)) (fun k d => v15 (ix2 k d)) (fun d => v25 (ix2 0 d))
            ⟨8 * p.val + r.val, by omega⟩ ⟨8 * q.val + s.val, by omega⟩ d) ((8 : ℝ) : EReal)) ((8 : ℝ) : EReal) := by
  pointwise [k0_pay2]
  simp only [Spec.ofBits_eight]
  refine congrArg (Ideal.div · _) (Finset.sum_congr rfl fun s _ => congrArg (Ideal.div · _) (Finset.sum_congr rfl fun r _ => ?_))
  unfold pointK Spec.relu
  refine congrArg (max · _) (congrArg (· + _) (congrArg₂ (· + ·) ?_ ?_))
  · refine Finset.sum_congr rfl fun k _ => congrArg (· * _) ?_
    exact lane_of v0 ⟨8 * p.val + r.val, by omega⟩ ⟨8 * q.val + s.val, by omega⟩ k
      ((p.val * 1024 + r.val * 128 + q.val * 8 + s.val) / 128) ((p.val * 1024 + r.val * 128 + q.val * 8 + s.val) % 128) (by simp only []; omega) (by simp only []; omega)
  · by_cases h : 8 * q.val + s.val < 1
    · have hl : (p.val * 1024 + r.val * 128 + q.val * 8 + s.val) % 128 < 1 := by omega
      refine (dif_pos hl).trans (Eq.trans ?_ (dif_pos h).symm)
      simp
    · have hl : ¬(p.val * 1024 + r.val * 128 + q.val * 8 + s.val) % 128 < 1 := by omega
      refine (dif_neg hl).trans (Eq.trans ?_ (dif_neg h).symm)
      refine Finset.sum_congr rfl fun k _ => congrArg (· * _) ?_
      exact lane_of v0 ⟨8 * p.val + r.val, by omega⟩ ⟨8 * q.val + s.val - 1, by omega⟩ k
        (((p.val * 1024 + r.val * 128 + q.val * 8 + s.val) / 128 * 128 + ((p.val * 1024 + r.val * 128 + q.val * 8 + s.val) % 128 - 1)) / 128) (((p.val * 1024 + r.val * 128 + q.val * 8 + s.val) / 128 * 128 + ((p.val * 1024 + r.val * 128 + q.val * 8 + s.val) % 128 - 1)) % 128)
        (by simp only []; omega) (by simp only []; omega)

/-- The 384 lanes, row by row. -/
theorem sum_lanes (X : Fin 256 → Fin 128 → Fin 128 → EReal) (I J : Fin 128) (w : Fin 384 → EReal) :
    ∑ k : Fin 384, lane X I J k * w k
      = ∑ ky : Fin 3, ((∑ c : Fin 64, Spec.rowAt X I ky J ⟨c.val, by omega⟩ * w ⟨128 * ky.val + c.val, by omega⟩)
        + ∑ c : Fin 64, Spec.rowAt X I ky J ⟨64 + c.val, by omega⟩ * w ⟨128 * ky.val + 64 + c.val, by omega⟩) := by
  have row : ∀ ky : Fin 3, ∑ k : Fin 128, lane X I J ⟨128 * ky.val + k.val, by omega⟩ * w ⟨128 * ky.val + k.val, by omega⟩
      = (∑ c : Fin 64, Spec.rowAt X I ky J ⟨c.val, by omega⟩ * w ⟨128 * ky.val + c.val, by omega⟩)
        + ∑ c : Fin 64, Spec.rowAt X I ky J ⟨64 + c.val, by omega⟩ * w ⟨128 * ky.val + 64 + c.val, by omega⟩ := by
    intro ky
    have hl : ∀ k : Fin 128, lane X I J ⟨128 * ky.val + k.val, by omega⟩ = Spec.rowAt X I ky J k := by
      intro k
      unfold lane
      congr 1
      · exact Fin.ext (by simp only []; omega)
      · exact Fin.ext (by simp only []; omega)
    simp only [hl]
    rw [Spec.sum_cut (show 128 = 64 + 64 from rfl)]
    simp only [Nat.add_assoc]
  rw [Fin.sum_univ_three, ← row 0, ← row 1, ← row 2, Spec.sum_cut (show 384 = 128 + 256 from rfl),
    Spec.sum_cut (show 256 = 128 + 128 from rfl), ← add_assoc]
  simp [← Nat.add_assoc]

/-- With the weights laid out as the kernel's host code does, the kernel's value before pooling is the convolution's. -/
theorem pointK_eq (X : Fin 256 → Fin 128 → Fin 128 → EReal) (w2 w1 : Fin 384 → Fin 64 → EReal) (b : Fin 64 → EReal)
    (W : Fin 64 → Fin 64 → Fin 3 → Fin 3 → EReal)
    (h2 : ∀ (ky : Fin 3) (c : Fin 64) (d : Fin 64), w2 ⟨128 * ky.val + c.val, by omega⟩ d = W d c ky 1)
    (h2' : ∀ (ky : Fin 3) (c : Fin 64) (d : Fin 64), w2 ⟨128 * ky.val + 64 + c.val, by omega⟩ d = W d c ky 2)
    (h1 : ∀ (ky : Fin 3) (c : Fin 64) (d : Fin 64), w1 ⟨128 * ky.val + c.val, by omega⟩ d = 0)
    (h1' : ∀ (ky : Fin 3) (c : Fin 64) (d : Fin 64), w1 ⟨128 * ky.val + 64 + c.val, by omega⟩ d = W d c ky 0)
    (I J : Fin 128) (d : Fin 64) : pointK X w2 w1 b I J d = Spec.conv2 X W b I J d := by
  unfold pointK Spec.conv2
  rw [sum_lanes X I J (fun k => w2 k d)]
  simp only [h2, h2']
  refine congrArg Spec.relu (congrArg (· + _) ?_)
  by_cases h : J.val < 1
  · rw [dif_pos h, add_zero]
    refine Finset.sum_congr rfl fun ky _ => ?_
    rw [Spec.tapL, dif_pos (by omega), zero_add]
    rfl
  · rw [dif_neg h, sum_lanes X I _ (fun k => w1 k d)]
    simp only [h1, h1', mul_zero, Finset.sum_const_zero, zero_add]
    rw [← Finset.sum_add_distrib]
    refine Finset.sum_congr rfl fun ky _ => ?_
    rw [Spec.tapL, dif_neg (by omega), add_comm, ← add_assoc]
    rfl

/-- What the kernel stores for one image is the pooled features. -/
theorem feat_eq (v0 : Vec Ideal S1x256x128x128 .bf16) (v12 v15 : Vec Ideal S384x64 .bf16) (v25 : Vec Ideal S1x64 .f32)
    (W : Fin 64 → Fin 64 → Fin 3 → Fin 3 → EReal)
    (h2 : ∀ (ky : Fin 3) (c : Fin 64) (d : Fin 64), v12 (ix2 ⟨128 * ky.val + c.val, by omega⟩ d) = W d c ky 1)
    (h2' : ∀ (ky : Fin 3) (c : Fin 64) (d : Fin 64), v12 (ix2 ⟨128 * ky.val + 64 + c.val, by omega⟩ d) = W d c ky 2)
    (h1 : ∀ (ky : Fin 3) (c : Fin 64) (d : Fin 64), v15 (ix2 ⟨128 * ky.val + c.val, by omega⟩ d) = 0)
    (h1' : ∀ (ky : Fin 3) (c : Fin 64) (d : Fin 64), v15 (ix2 ⟨128 * ky.val + 64 + c.val, by omega⟩ d) = W d c ky 0)
    (p q : Fin 16) (d : Fin 64) :
    k0_pay2 (F := Ideal) v0 v12 v15 v25 (ix3 p q d)
      = Spec.feat (fun i j k => v0 (ix4 0 i j k)) W (fun d => v25 (ix2 0 d)) p q d := by
  rw [feat_pay, ← Spec.div_sum _ _ 8 (by norm_num), Spec.div_div_eight, Spec.feat, Finset.sum_comm]
  refine congrArg (Ideal.div · _) (Finset.sum_congr rfl fun r _ => Finset.sum_congr rfl fun s _ => ?_)
  exact pointK_eq _ _ _ _ W h2 h2' h1 h1' _ _ _

end Cert.TailIdeal
-- ==== Proof.TailRegion0.lean ====
/-
  What the second convolution's call leaves in its result array: the pooled features of every image.
-/
module

public import proofs.«01_k».proof.Proof.Gen.TailIdeal.Frame
public import proofs.«01_k».proof.Proof.TailConv
public import Idealize.ShloMosaic.Lib.Pipeline.ValueKit

@[expose] public section

set_option maxRecDepth 16384

noncomputable section

namespace Cert.TailIdeal

open Cert.TailIdeal.Gen
open Idealize.ShloMosaic Idealize.ShloMosaic.TcCoe

variable (V : (c : Dev nD) → (b : Ref sig .tc) → Buf (Elt Ideal) ((c : Thread nD τ).loc b))

theorem pay1_apply (v : FVec Ideal S16x16x64 .f32) (z : Fin 1) (p q : Fin 16) (d : Fin 64) :
    k0_pay1 (F := Ideal) v (ix4 z p q d) = v (ix3 p q d) := by
  pointwise [k0_pay1]

theorem index0_0 : ∀ t : Fin cfg0.N, win0_0.index t = ![t.val, 0, 0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0, 0, 0] := (by decide +kernel : ∀ t : Fin grid0.N, _)

theorem lt0 (t : Fin cfg0.N) : t.val < 8 := lt_of_lt_of_eq t.isLt N_0

theorem read0_0 (c : Dev nD) (t : Fin cfg0.N) (r : Fin 256) (j k : Fin 128) :
    iblk0 V c 0 t (ix4 (0 : Fin 1) r j k) = V c main_arg0 (ix4 ⟨t.val, lt0 t⟩ r j k) := by
  blk_ext [iblk0, index0_0 t]
theorem read0_1 (c : Dev nD) (t : Fin cfg0.N) (k : Fin 384) (d : Fin 64) :
    iblk0 V c 1 t (ix2 k d) = V c main_v35 (ix2 k d) := by
  blk_ext [iblk0, index0_1 t]
theorem read0_2 (c : Dev nD) (t : Fin cfg0.N) (k : Fin 384) (d : Fin 64) :
    iblk0 V c 2 t (ix2 k d) = V c main_v37 (ix2 k d) := by
  blk_ext [iblk0, index0_2 t]
theorem read0_3 (c : Dev nD) (t : Fin cfg0.N) (d : Fin 64) :
    iblk0 V c 3 t (ix2 (0 : Fin 1) d) = V c main_v38 (ix2 (0 : Fin 1) d) := by
  blk_ext [iblk0, index0_3 t]

/-- The features of image `b` at patch `(p, q)`, from the call's arguments. -/
def featV (W : Fin 64 → Fin 64 → Fin 3 → Fin 3 → EReal) (c : Dev nD) (b : Fin 8) (p q : Fin 16) (d : Fin 64) : EReal :=
  Spec.feat (fun r j k => V c main_arg0 (ix4 b r j k)) W (fun d => V c main_v38 (ix2 0 d)) p q d

/-- The two packed weight arrays of the second convolution hold the taps `W`. -/
structure Packed (W : Fin 64 → Fin 64 → Fin 3 → Fin 3 → EReal) (c : Dev nD) : Prop where
  mid : ∀ (ky : Fin 3) (k : Fin 64) (d : Fin 64), V c main_v37 (ix2 ⟨128 * ky.val + k.val, by omega⟩ d) = W d k ky 1
  right : ∀ (ky : Fin 3) (k : Fin 64) (d : Fin 64), V c main_v37 (ix2 ⟨128 * ky.val + 64 + k.val, by omega⟩ d) = W d k ky 2
  zero : ∀ (ky : Fin 3) (k : Fin 64) (d : Fin 64), V c main_v35 (ix2 ⟨128 * ky.val + k.val, by omega⟩ d) = (0 : EReal)
  left : ∀ (ky : Fin 3) (k : Fin 64) (d : Fin 64), V c main_v35 (ix2 ⟨128 * ky.val + 64 + k.val, by omega⟩ d) = W d k ky 0

/-- One step's block: the features of image `t`. -/
theorem feat_blk (W : Fin 64 → Fin 64 → Fin 3 → Fin 3 → EReal) (c : Dev nD) (h : Packed V W c) (t : Fin cfg0.N)
    (p q : Fin 16) (d : Fin 64) :
    k0_pay1 (F := Ideal) (k0_pay2 (F := Ideal) (iblk0 V c 0 t) (iblk0 V c 2 t) (iblk0 V c 1 t) (iblk0 V c 3 t)) (ix4 0 p q d)
      = featV V W c ⟨t.val, lt0 t⟩ p q d := by
  refine (pay1_apply _ _ _ _ _).trans ((feat_eq _ _ _ _ W ?_ ?_ ?_ ?_ p q d).trans ?_)
  · intro ky k d; exact (read0_2 V c t _ _).trans (h.mid ky k d)
  · intro ky k d; exact (read0_2 V c t _ _).trans (h.right ky k d)
  · intro ky k d; exact (read0_1 V c t _ _).trans (h.zero ky k d)
  · intro ky k d; exact (read0_1 V c t _ _).trans (h.left ky k d)
  · simp only [read0_0, read0_3]
    rfl

/-- The call's result array. -/
theorem region0 (W : Fin 64 → Fin 64 → Fin 3 → Fin 3 → EReal) (c : Dev nD) (h : Packed V W c) :
    (dat0 V c).arrAt 4 cfg0.N = fun i : S8x16x16x64.Idx => featV V W c (i 0) (i 1) (i 2) (i 3) := by
  refine (dat0 V c).arrAt_eq_of_covers 4 _ (by decide +kernel) fun t hf y => ?_
  blk_simp
  rw [after0_4]
  frame_out
  have e : ((View.whole main_v39).slice (win0_4.rect t)).emb y
      = ix4 ⟨t.val, lt0 t⟩ (y 1) (y 2) (y 3) := by
    have h0 : (y 0).val < 1 := (y 0).isLt
    blk_ext [index0_4 t]
  rw [e]
  have hy : y = ix4 (0 : Fin 1) (y 1) (y 2) (y 3) := funext fun a => by
    fin_cases a
    · exact Subsingleton.elim (α := Fin 1) _ _
    · rfl
    · rfl
    · rfl
  exact (congrArg _ hy).trans (feat_blk V W c h t (y 1) (y 2) (y 3))

end Cert.TailIdeal
-- ==== Proof.TailMlp.lean ====
/-
  What the experts' kernel stores for one image, element by element: the big and the small expert of each patch.
-/
module

public import proofs.«01_k».proof.Proof.Gen.TailIdeal.Skeleton
public import proofs.«01_k».proof.Proof.Spec

@[expose] public section

set_option maxRecDepth 16384

noncomputable section

namespace Cert.TailIdeal

open Cert.TailIdeal.Gen
open Idealize.ShloMosaic

/-- The big expert's block at patch `n`, output `c`. -/
theorem big_pay (v0 : Vec Ideal S1x256x3072 .f32) (v3 : Vec Ideal S3072x512 .bf16) (v6 : Vec Ideal S1x512 .f32)
    (v13 : Vec Ideal S512x512 .bf16) (v16 : Vec Ideal S1x512 .f32) (v23 : Vec Ideal S512x128 .bf16) (v26 : Vec Ideal S1x128 .f32)
    (n : Fin 256) (c : Fin 128) :
    k1_pay3 (F := Ideal) v0 v3 v6 v13 v16 v23 v26 (ix3 0 n c)
      = Spec.big (fun i => v0 (ix3 0 n i)) (fun i j => v3 (ix2 i j)) (fun j => v6 (ix2 0 j)) (fun j k => v13 (ix2 j k))
          (fun k => v16 (ix2 0 k)) (fun k c => v23 (ix2 k c)) (fun c => v26 (ix2 0 c)) c := by
  pointwise [k1_pay3, k1_pay2]
  rfl

/-- The small expert's block at patch `n`, output `c`. -/
theorem small_pay (v0 : Vec Ideal S1x256x3072 .f32) (v33 : Vec Ideal S3072x128 .bf16) (v36 : Vec Ideal S1x128 .f32)
    (n : Fin 256) (c : Fin 128) :
    k1_pay1 (F := Ideal) (k1_pay2 (F := Ideal) v0) v33 v36 (ix3 0 n c)
      = Spec.small (fun i => v0 (ix3 0 n i)) (fun i c => v33 (ix2 i c)) (fun c => v36 (ix2 0 c)) c := by
  pointwise [k1_pay1, k1_pay2]
  rfl

end Cert.TailIdeal
-- ==== Proof.TailRegion1.lean ====
/-
  What the experts' call leaves in its two result arrays: the two experts' outputs at every patch.
-/
module

public import proofs.«01_k».proof.Proof.Gen.TailIdeal.Frame
public import proofs.«01_k».proof.Proof.TailMlp
public import Idealize.ShloMosaic.Lib.Pipeline.ValueKit

@[expose] public section

set_option maxRecDepth 16384

noncomputable section

namespace Cert.TailIdeal

open Cert.TailIdeal.Gen
open Idealize.ShloMosaic Idealize.ShloMosaic.TcCoe

variable (V : (c : Dev nD) → (b : Ref sig .tc) → Buf (Elt Ideal) ((c : Thread nD τ).loc b))

theorem lt1 (t : Fin cfg1.N) : t.val < 8 := lt_of_lt_of_eq t.isLt N_1

theorem index1_0 : ∀ t : Fin cfg1.N, win1_0.index t = ![t.val, 0, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![0, 0] := (by decide +kernel : ∀ t : Fin grid1.N, _)
theorem index1_8 : ∀ t : Fin cfg1.N, win1_8.index t = ![0, 0] := (by decide +kernel : ∀ t : Fin grid1.N, _)
theorem index1_9 : ∀ t : Fin cfg1.N, win1_9.index t = ![t.val, 0, 0] := (by decide +kernel : ∀ t : Fin grid1.N, _)
theorem index1_10 : ∀ t : Fin cfg1.N, win1_10.index t = ![t.val, 0, 0] := (by decide +kernel : ∀ t : Fin grid1.N, _)

theorem read1_0 (c : Dev nD) (t : Fin cfg1.N) (n : Fin 256) (i : Fin 3072) :
    iblk1 V c 0 t (ix3 (0 : Fin 1) n i) = V c main_arg1 (ix3 ⟨t.val, lt1 t⟩ n i) := by
  blk_ext [iblk1, index1_0 t]
theorem read1_1 (c : Dev nD) (t : Fin cfg1.N) : iblk1 V c 1 t = V c main_v41 := by
  funext i
  blk_ext [iblk1, index1_1 t]
theorem read1_2 (c : Dev nD) (t : Fin cfg1.N) : iblk1 V c 2 t = V c main_v42 := by
  funext i
  blk_ext [iblk1, index1_2 t]
theorem read1_3 (c : Dev nD) (t : Fin cfg1.N) : iblk1 V c 3 t = V c main_v43 := by
  funext i
  blk_ext [iblk1, index1_3 t]
theorem read1_4 (c : Dev nD) (t : Fin cfg1.N) : iblk1 V c 4 t = V c main_v44 := by
  funext i
  blk_ext [iblk1, index1_4 t]
theorem read1_5 (c : Dev nD) (t : Fin cfg1.N) : iblk1 V c 5 t = V c main_v45 := by
  funext i
  blk_ext [iblk1, index1_5 t]
theorem read1_6 (c : Dev nD) (t : Fin cfg1.N) : iblk1 V c 6 t = V c main_v46 := by
  funext i
  blk_ext [iblk1, index1_6 t]
theorem read1_7 (c : Dev nD) (t : Fin cfg1.N) : iblk1 V c 7 t = V c main_v47 := by
  funext i
  blk_ext [iblk1, index1_7 t]
theorem read1_8 (c : Dev nD) (t : Fin cfg1.N) : iblk1 V c 8 t = V c main_v48 := by
  funext i
  blk_ext [iblk1, index1_8 t]

/-- The big expert's output at patch `n` of image `b`, from the call's arguments. -/
def bigV (c : Dev nD) (b : Fin 8) (n : Fin 256) (k : Fin 128) : EReal :=
  Spec.big (fun k => V c main_arg1 (ix3 b n k)) (fun i j => V c main_v41 (ix2 i j)) (fun j => V c main_v42 (ix2 0 j))
        (fun j k => V c main_v43 (ix2 j k)) (fun k => V c main_v44 (ix2 0 k)) (fun k c' => V c main_v45 (ix2 k c'))
        (fun c' => V c main_v46 (ix2 0 c')) k

/-- One step's block of the big expert. -/
theorem big_blk (c : Dev nD) (t : Fin cfg1.N) (n : Fin 256) (k : Fin 128) :
    k1_pay3 (F := Ideal) (iblk1 V c 0 t) (iblk1 V c 1 t) (iblk1 V c 2 t) (iblk1 V c 3 t) (iblk1 V c 4 t) (iblk1 V c 5 t) (iblk1 V c 6 t) (ix3 0 n k)
      = bigV V c ⟨t.val, lt1 t⟩ n k := by
  rw [read1_1, read1_2, read1_3, read1_4, read1_5, read1_6]
  refine (big_pay _ _ _ _ _ _ _ _ _).trans ?_
  simp only [read1_0]
  rfl

/-- The big expert's result array. -/
theorem region1_big (c : Dev nD) :
    (dat1 V c).arrAt 9 cfg1.N = fun i : S8x256x128.Idx => bigV V c (i 0) (i 1) (i 2) := by
  refine (dat1 V c).arrAt_eq_of_covers 9 _ (by decide +kernel) fun t hf y => ?_
  blk_simp
  rw [after1_9]
  frame_out
  have e : ((View.whole main_v49_0).slice (win1_9.rect t)).emb y = ix3 ⟨t.val, lt1 t⟩ (y 1) (y 2) := by
    have h0 : (y 0).val < 1 := (y 0).isLt
    blk_ext [index1_9 t]
  rw [e]
  have hy : y = ix3 (0 : Fin 1) (y 1) (y 2) := funext fun a => by
    fin_cases a
    · exact Subsingleton.elim (α := Fin 1) _ _
    · rfl
    · rfl
  exact (congrArg _ hy).trans (big_blk V c t (y 1) (y 2))

/-- The small expert's output at patch `n` of image `b`, from the call's arguments. -/
def smallV (c : Dev nD) (b : Fin 8) (n : Fin 256) (k : Fin 128) : EReal :=
  Spec.small (fun k => V c main_arg1 (ix3 b n k)) (fun i c' => V c main_v47 (ix2 i c'))
        (fun c' => V c main_v48 (ix2 0 c')) k

/-- One step's block of the small expert. -/
theorem small_blk (c : Dev nD) (t : Fin cfg1.N) (n : Fin 256) (k : Fin 128) :
    k1_pay1 (F := Ideal) (k1_pay2 (F := Ideal) (iblk1 V c 0 t)) (iblk1 V c 7 t) (iblk1 V c 8 t) (ix3 0 n k)
      = smallV V c ⟨t.val, lt1 t⟩ n k := by
  rw [read1_7, read1_8]
  refine (small_pay _ _ _ _ _).trans ?_
  simp only [read1_0]
  rfl

/-- The small expert's result array. -/
theorem region1_small (c : Dev nD) :
    (dat1 V c).arrAt 10 cfg1.N = fun i : S8x256x128.Idx => smallV V c (i 0) (i 1) (i 2) := by
  refine (dat1 V c).arrAt_eq_of_covers 10 _ (by decide +kernel) fun t hf y => ?_
  blk_simp
  rw [after1_10]
  frame_out
  have e : ((View.whole main_v49_1).slice (win1_10.rect t)).emb y = ix3 ⟨t.val, lt1 t⟩ (y 1) (y 2) := by
    have h0 : (y 0).val < 1 := (y 0).isLt
    blk_ext [index1_10 t]
  rw [e]
  have hy : y = ix3 (0 : Fin 1) (y 1) (y 2) := funext fun a => by
    fin_cases a
    · exact Subsingleton.elim (α := Fin 1) _ _
    · rfl
    · rfl
  exact (congrArg _ hy).trans (small_blk V c t (y 1) (y 2))

end Cert.TailIdeal
-- ==== Proof.TailHead.lean ====
/-
  What the head's kernel stores, element by element: its scores, the mixed expert outputs, the hidden layer and the two
  output layers.
-/
module

public import proofs.«01_k».proof.Proof.Gen.TailIdeal.Skeleton
public import proofs.«01_k».proof.Proof.Spec

@[expose] public section

set_option maxRecDepth 16384

noncomputable section

namespace Cert.TailIdeal

open Cert.TailIdeal.Gen
open Idealize.ShloMosaic

/-- The scores. -/
theorem score_pay (v0 : Vec Ideal S8x256x64 .f32) (v7 : Vec Ideal S64x32 .f32) (v9 : Vec Ideal S1x32 .f32)
    (v15 : Vec Ideal S32x1 .f32) (v17 : Vec Ideal S1x1 .f32) (b : Fin 8) (n : Fin 256) (z : Fin 1) :
    k2_pay3 (F := Ideal) v0 v7 v9 v15 v17 (ix3 b n z)
      = Spec.score (fun i => v0 (ix3 b n i)) (fun i k => v7 (ix2 i k)) (fun k => v9 (ix2 0 k)) (fun k => v15 (ix2 k 0))
          (v17 (ix2 0 0)) := by
  pointwise [k2_pay3]
  rfl

/-- The mixed outputs. -/
theorem mix_pay (v0 : Vec Ideal S8x256x64 .f32) (v3 v5 : Vec Ideal S8x256x128 .f32) (v7 : Vec Ideal S64x32 .f32)
    (v9 : Vec Ideal S1x32 .f32) (v15 : Vec Ideal S32x1 .f32) (v17 v23 : Vec Ideal S1x1 .f32) (b : Fin 8) (n : Fin 256) (c : Fin 128) :
    k2_pay4 (F := Ideal) v0 v3 v5 v7 v9 v15 v17 v23 (ix3 b n c)
      = Spec.mix (k2_pay3 (F := Ideal) v0 v7 v9 v15 v17 (ix3 b n 0)) (v23 (ix2 0 0)) (v3 (ix3 b n c)) (v5 (ix3 b n c)) := by
  unfold k2_pay4
  generalize k2_pay3 (F := Ideal) v0 v7 v9 v15 v17 = s
  pointwise
  rfl

/-- The largest score of an image. -/
theorem top_pay (v0 : Vec Ideal S8x256x64 .f32) (v7 : Vec Ideal S64x32 .f32) (v9 : Vec Ideal S1x32 .f32)
    (v15 : Vec Ideal S32x1 .f32) (v17 : Vec Ideal S1x1 .f32) (b : Fin 8) (z : Fin 1) :
    k2_pay5 (F := Ideal) v0 v7 v9 v15 v17 (ix2 b z)
      = Spec.top fun n => k2_pay3 (F := Ideal) v0 v7 v9 v15 v17 (ix3 b n 0) := by
  unfold k2_pay5
  generalize k2_pay3 (F := Ideal) v0 v7 v9 v15 v17 = s
  pointwise
  rfl

/-- The hidden layer. -/
theorem hidden_pay (s : FVec Ideal S8x256x1 .f32) (mx : FVec Ideal S8x256x128 .f32) (tp : FVec Ideal S8x1 .f32)
    (v50 : Vec Ideal S256x256 .f32) (v56 : Vec Ideal S1x256 .f32) (v60 : Vec Ideal S384x256 .f32) (v70 : Vec Ideal S1x256 .f32)
    (htop : ∀ b, tp (ix2 b 0) = Spec.top fun n => s (ix3 b n 0)) (r : Fin 2048) (j : Fin 256) :
    k2_pay6 (F := Ideal) s mx tp v50 v56 v60 v70 (ix2 r j)
      = Spec.hidden (fun n => s (ix3 ⟨r.val / 256, by omega⟩ n 0)) (fun n k => mx (ix3 ⟨r.val / 256, by omega⟩ n k))
          (fun k j => v50 (ix2 k j)) (fun j => v56 (ix2 0 j)) (fun k j => v60 (ix2 k j)) (fun j => v70 (ix2 0 j))
          ⟨r.val % 256, by omega⟩ j := by
  pointwise [k2_pay6]
  simp only [htop, Spec.ofBits_256]
  rfl

/-- The class logits. -/
theorem cls_pay (h : FVec Ideal S2048x256 .f32) (v78 : Vec Ideal S256x80 .f32) (v80 : Vec Ideal S1x80 .f32)
    (b : Fin 8) (n : Fin 256) (c : Fin 80) :
    k2_pay1 (F := Ideal) h v78 v80 (ix3 b n c)
      = Spec.outLayer (fun k => h (ix2 ⟨b.val * 256 + n.val, by omega⟩ k)) (fun k c => v78 (ix2 k c)) (fun c => v80 (ix2 0 c)) c := by
  pointwise [k2_pay1]
  rfl

/-- The box regressions. -/
theorem reg_pay (h : FVec Ideal S2048x256 .f32) (v84 : Vec Ideal S256x4 .f32) (v86 : Vec Ideal S1x4 .f32)
    (b : Fin 8) (n : Fin 256) (c : Fin 4) :
    k2_pay2 (F := Ideal) h v84 v86 (ix3 b n c)
      = Spec.outLayer (fun k => h (ix2 ⟨b.val * 256 + n.val, by omega⟩ k)) (fun k c => v84 (ix2 k c)) (fun c => v86 (ix2 0 c)) c := by
  pointwise [k2_pay2]
  rfl

end Cert.TailIdeal
-- ==== Proof.TailBody2.lean ====
/-
  What the body of the head's call leaves in its two staging buffers, from the blocks that it reads.
-/
module

public import proofs.«01_k».proof.Proof.Gen.TailIdeal.Frame
public import proofs.«01_k».proof.Proof.TailHead
public import Idealize.ShloMosaic.Lib.Pipeline.ValueKit

@[expose] public section

set_option maxRecDepth 16384

noncomputable section

namespace Cert.TailIdeal

open Cert.TailIdeal.Gen
open Idealize.ShloMosaic Idealize.ShloMosaic.TcCoe

/-- The hidden layer of image `b` from the call's arguments. -/
def hiddenX (x0 : Vec Ideal S8x256x64 .f32) (x1 x2 : Vec Ideal S8x256x128 .f32) (x3 : Vec Ideal S64x32 .f32)
    (x4 : Vec Ideal S1x32 .f32) (x5 : Vec Ideal S32x1 .f32) (x6 x7 : Vec Ideal S1x1 .f32) (x8 : Vec Ideal S256x256 .f32)
    (x9 : Vec Ideal S1x256 .f32) (x10 : Vec Ideal S384x256 .f32) (x11 : Vec Ideal S1x256 .f32) (b : Fin 8) (n j : Fin 256) : EReal :=
  Spec.headRow (fun n k => x0 (ix3 b n k)) (fun n k => x1 (ix3 b n k)) (fun n k => x2 (ix3 b n k))
    (fun i k => x3 (ix2 i k)) (fun k => x4 (ix2 0 k)) (fun k => x5 (ix2 k 0)) (x6 (ix2 0 0)) (x7 (ix2 0 0))
    (fun k j => x8 (ix2 k j)) (fun j => x9 (ix2 0 j)) (fun k j => x10 (ix2 k j)) (fun j => x11 (ix2 0 j)) n j

section Body

variable (x0 : Vec Ideal S8x256x64 .f32) (x1 x2 : Vec Ideal S8x256x128 .f32) (x3 : Vec Ideal S64x32 .f32)
  (x4 : Vec Ideal S1x32 .f32) (x5 : Vec Ideal S32x1 .f32) (x6 x7 : Vec Ideal S1x1 .f32) (x8 : Vec Ideal S256x256 .f32)
  (x9 : Vec Ideal S1x256 .f32) (x10 : Vec Ideal S384x256 .f32) (x11 : Vec Ideal S1x256 .f32)
  (x12 : Vec Ideal S256x80 .f32) (x13 : Vec Ideal S1x80 .f32) (x14 : Vec Ideal S256x4 .f32) (x15 : Vec Ideal S1x4 .f32)

/-- The hidden layer as the call's body computes it. -/
theorem hidden_row (b : Fin 8) (n j : Fin 256) :
    k2_pay6 (F := Ideal) (k2_pay3 (F := Ideal) x0 x3 x4 x5 x6) (k2_pay4 (F := Ideal) x0 x1 x2 x3 x4 x5 x6 x7)
      (k2_pay5 (F := Ideal) x0 x3 x4 x5 x6) x8 x9 x10 x11 (ix2 ⟨b.val * 256 + n.val, by omega⟩ j)
      = hiddenX x0 x1 x2 x3 x4 x5 x6 x7 x8 x9 x10 x11 b n j := by
  refine (hidden_pay _ _ _ _ _ _ _ (fun b => top_pay _ _ _ _ _ b 0) _ _).trans ?_
  have hb : (⟨(b.val * 256 + n.val) / 256, by omega⟩ : Fin 8) = b := Fin.ext (by simp only []; omega)
  have hn : (⟨(b.val * 256 + n.val) % 256, by omega⟩ : Fin 256) = n := Fin.ext (by simp only []; omega)
  simp only [hb, hn, mix_pay, score_pay]
  rfl

/-- The class logits that the body leaves. -/
theorem cls_out (b : Fin 8) (n : Fin 256) (k : Fin 80) :
    out2_16 (F := Ideal) x0 x1 x2 x3 x4 x5 x6 x7 x8 x9 x10 x11 x12 x13 x14 x15 (ix3 b n k)
      = Spec.outLayer (hiddenX x0 x1 x2 x3 x4 x5 x6 x7 x8 x9 x10 x11 b n) (fun k c' => x12 (ix2 k c')) (fun c' => x13 (ix2 0 c')) k := by
  unfold out2_16 k2_pay7
  frame_out
  refine (cls_pay _ _ _ _ _ _).trans ?_
  exact congrArg (fun h => Spec.outLayer h _ _ k) (funext fun j => hidden_row _ _ _ _ _ _ _ _ _ _ _ _ b n j)

/-- The box regressions that the body leaves. -/
theorem reg_out (b : Fin 8) (n : Fin 256) (k : Fin 4) :
    out2_17 (F := Ideal) x0 x1 x2 x3 x4 x5 x6 x7 x8 x9 x10 x11 x12 x13 x14 x15 (ix3 b n k)
      = Spec.outLayer (hiddenX x0 x1 x2 x3 x4 x5 x6 x7 x8 x9 x10 x11 b n) (fun k c' => x14 (ix2 k c')) (fun c' => x15 (ix2 0 c')) k := by
  unfold out2_17 k2_pay7
  frame_out
  refine (reg_pay _ _ _ _ _ _).trans ?_
  exact congrArg (fun h => Spec.outLayer h _ _ k) (funext fun j => hidden_row _ _ _ _ _ _ _ _ _ _ _ _ b n j)

end Body

end Cert.TailIdeal
-- ==== Proof.TailRegion2.lean ====
/-
  What the head's call leaves in its two result arrays: the class logits and the box regressions at every patch.
-/
module

public import proofs.«01_k».proof.Proof.Gen.TailIdeal.Frame
public import proofs.«01_k».proof.Proof.TailBody2
public import Idealize.ShloMosaic.Lib.Pipeline.ValueKit

@[expose] public section

set_option maxRecDepth 16384

noncomputable section

namespace Cert.TailIdeal

open Cert.TailIdeal.Gen
open Idealize.ShloMosaic Idealize.ShloMosaic.TcCoe

variable (V : (c : Dev nD) → (b : Ref sig .tc) → Buf (Elt Ideal) ((c : Thread nD τ).loc b))

theorem index2_0 : ∀ t : Fin cfg2.N, win2_0.index t = ![0, 0, 0] := (by decide +kernel : ∀ t : Fin grid2.N, _)
theorem index2_1 : ∀ t : Fin cfg2.N, win2_1.index t = ![0, 0, 0] := (by decide +kernel : ∀ t : Fin grid2.N, _)
theorem index2_2 : ∀ t : Fin cfg2.N, win2_2.index t = ![0, 0, 0] := (by decide +kernel : ∀ t : Fin grid2.N, _)
theorem index2_3 : ∀ t : Fin cfg2.N, win2_3.index t = ![0, 0] := (by decide +kernel : ∀ t : Fin grid2.N, _)
theorem index2_4 : ∀ t : Fin cfg2.N, win2_4.index t = ![0, 0] := (by decide +kernel : ∀ t : Fin grid2.N, _)
theorem index2_5 : ∀ t : Fin cfg2.N, win2_5.index t = ![0, 0] := (by decide +kernel : ∀ t : Fin grid2.N, _)
theorem index2_6 : ∀ t : Fin cfg2.N, win2_6.index t = ![0, 0] := (by decide +kernel : ∀ t : Fin grid2.N, _)
theorem index2_7 : ∀ t : Fin cfg2.N, win2_7.index t = ![0, 0] := (by decide +kernel : ∀ t : Fin grid2.N, _)
theorem index2_8 : ∀ t : Fin cfg2.N, win2_8.index t = ![0, 0] := (by decide +kernel : ∀ t : Fin grid2.N, _)
theorem index2_9 : ∀ t : Fin cfg2.N, win2_9.index t = ![0, 0] := (by decide +kernel : ∀ t : Fin grid2.N, _)
theorem index2_10 : ∀ t : Fin cfg2.N, win2_10.index t = ![0, 0] := (by decide +kernel : ∀ t : Fin grid2.N, _)
theorem index2_11 : ∀ t : Fin cfg2.N, win2_11.index t = ![0, 0] := (by decide +kernel : ∀ t : Fin grid2.N, _)
theorem index2_12 : ∀ t : Fin cfg2.N, win2_12.index t = ![0, 0] := (by decide +kernel : ∀ t : Fin grid2.N, _)
theorem index2_13 : ∀ t : Fin cfg2.N, win2_13.index t = ![0, 0] := (by decide +kernel : ∀ t : Fin grid2.N, _)
theorem index2_14 : ∀ t : Fin cfg2.N, win2_14.index t = ![0, 0] := (by decide +kernel : ∀ t : Fin grid2.N, _)
theorem index2_15 : ∀ t : Fin cfg2.N, win2_15.index t = ![0, 0] := (by decide +kernel : ∀ t : Fin grid2.N, _)
theorem index2_16 : ∀ t : Fin cfg2.N, win2_16.index t = ![0, 0, 0] := (by decide +kernel : ∀ t : Fin grid2.N, _)
theorem index2_17 : ∀ t : Fin cfg2.N, win2_17.index t = ![0, 0, 0] := (by decide +kernel : ∀ t : Fin grid2.N, _)

theorem read2_0 (c : Dev nD) (t : Fin cfg2.N) : iblk2 V c 0 t = V c main_v40 := by
  funext i
  blk_ext [iblk2, index2_0 t]
theorem read2_1 (c : Dev nD) (t : Fin cfg2.N) : iblk2 V c 1 t = V c main_v49_0 := by
  funext i
  blk_ext [iblk2, index2_1 t]
theorem read2_2 (c : Dev nD) (t : Fin cfg2.N) : iblk2 V c 2 t = V c main_v49_1 := by
  funext i
  blk_ext [iblk2, index2_2 t]
theorem read2_3 (c : Dev nD) (t : Fin cfg2.N) : iblk2 V c 3 t = V c main_arg4 := by
  funext i
  blk_ext [iblk2, index2_3 t]
theorem read2_4 (c : Dev nD) (t : Fin cfg2.N) : iblk2 V c 4 t = V c main_v50 := by
  funext i
  blk_ext [iblk2, index2_4 t]
theorem read2_5 (c : Dev nD) (t : Fin cfg2.N) : iblk2 V c 5 t = V c main_arg6 := by
  funext i
  blk_ext [iblk2, index2_5 t]
theorem read2_6 (c : Dev nD) (t : Fin cfg2.N) : iblk2 V c 6 t = V c main_v51 := by
  funext i
  blk_ext [iblk2, index2_6 t]
theorem read2_7 (c : Dev nD) (t : Fin cfg2.N) : iblk2 V c 7 t = V c main_v52 := by
  funext i
  blk_ext [iblk2, index2_7 t]
theorem read2_8 (c : Dev nD) (t : Fin cfg2.N) : iblk2 V c 8 t = V c main_arg17 := by
  funext i
  blk_ext [iblk2, index2_8 t]
theorem read2_9 (c : Dev nD) (t : Fin cfg2.N) : iblk2 V c 9 t = V c main_v53 := by
  funext i
  blk_ext [iblk2, index2_9 t]
theorem read2_10 (c : Dev nD) (t : Fin cfg2.N) : iblk2 V c 10 t = V c main_arg19 := by
  funext i
  blk_ext [iblk2, index2_10 t]
theorem read2_11 (c : Dev nD) (t : Fin cfg2.N) : iblk2 V c 11 t = V c main_v54 := by
  funext i
  blk_ext [iblk2, index2_11 t]
theorem read2_12 (c : Dev nD) (t : Fin cfg2.N) : iblk2 V c 12 t = V c main_arg21 := by
  funext i
  blk_ext [iblk2, index2_12 t]
theorem read2_13 (c : Dev nD) (t : Fin cfg2.N) : iblk2 V c 13 t = V c main_v55 := by
  funext i
  blk_ext [iblk2, index2_13 t]
theorem read2_14 (c : Dev nD) (t : Fin cfg2.N) : iblk2 V c 14 t = V c main_arg23 := by
  funext i
  blk_ext [iblk2, index2_14 t]
theorem read2_15 (c : Dev nD) (t : Fin cfg2.N) : iblk2 V c 15 t = V c main_v56 := by
  funext i
  blk_ext [iblk2, index2_15 t]

/-- The hidden layer of image `b` from the buffers that the call reads. -/
def hiddenV (c : Dev nD) (b : Fin 8) (n j : Fin 256) : EReal :=
  hiddenX (V c main_v40) (V c main_v49_0) (V c main_v49_1) (V c main_arg4) (V c main_v50) (V c main_arg6) (V c main_v51)
    (V c main_v52) (V c main_arg17) (V c main_v53) (V c main_arg19) (V c main_v54) b n j

/-- The class logits of image `b`, from the buffers that the call reads. -/
def clsV (c : Dev nD) (b : Fin 8) (n : Fin 256) (k : Fin 80) : EReal :=
  Spec.outLayer (hiddenV V c b n) (fun k c' => V c main_arg21 (ix2 k c')) (fun c' => V c main_v55 (ix2 0 c')) k

/-- What the body leaves of them in the staging buffer. -/
theorem cls_blk (c : Dev nD) (t : Fin cfg2.N) (b : Fin 8) (n : Fin 256) (k : Fin 80) :
    (dat2 V c).after 16 t (ix3 b n k) = clsV V c b n k := by
  rw [after2_16, read2_0, read2_1, read2_2, read2_3, read2_4, read2_5, read2_6, read2_7, read2_8, read2_9, read2_10, read2_11, read2_12, read2_13, read2_14, read2_15]
  exact cls_out _ _ _ _ _ _ _ _ _ _ _ _ _ _ _ _ b n k

/-- The result array. -/
theorem region2_cls (c : Dev nD) :
    (dat2 V c).arrAt 16 cfg2.N = fun i : S8x256x80.Idx => clsV V c (i 0) (i 1) (i 2) := by
  refine (dat2 V c).arrAt_eq_of_covers 16 _ (by decide +kernel) fun t hf y => ?_
  blk_simp
  have e : ((View.whole main_v57_0).slice (win2_16.rect t)).emb y = ix3 (y 0) (y 1) (y 2) := by
    blk_ext [index2_16 t]
  rw [e]
  have hy : y = ix3 (y 0) (y 1) (y 2) := funext fun a => by fin_cases a <;> rfl
  exact (congrArg ((dat2 V c).after 16 t) hy).trans (cls_blk V c t (y 0) (y 1) (y 2))

/-- The box regressions of image `b`, from the buffers that the call reads. -/
def regV (c : Dev nD) (b : Fin 8) (n : Fin 256) (k : Fin 4) : EReal :=
  Spec.outLayer (hiddenV V c b n) (fun k c' => V c main_arg23 (ix2 k c')) (fun c' => V c main_v56 (ix2 0 c')) k

/-- What the body leaves of them in the staging buffer. -/
theorem reg_blk (c : Dev nD) (t : Fin cfg2.N) (b : Fin 8) (n : Fin 256) (k : Fin 4) :
    (dat2 V c).after 17 t (ix3 b n k) = regV V c b n k := by
  rw [after2_17, read2_0, read2_1, read2_2, read2_3, read2_4, read2_5, read2_6, read2_7, read2_8, read2_9, read2_10, read2_11, read2_12, read2_13, read2_14, read2_15]
  exact reg_out _ _ _ _ _ _ _ _ _ _ _ _ _ _ _ _ b n k

/-- The result array. -/
theorem region2_reg (c : Dev nD) :
    (dat2 V c).arrAt 17 cfg2.N = fun i : S8x256x4.Idx => regV V c (i 0) (i 1) (i 2) := by
  refine (dat2 V c).arrAt_eq_of_covers 17 _ (by decide +kernel) fun t hf y => ?_
  blk_simp
  have e : ((View.whole main_v57_1).slice (win2_17.rect t)).emb y = ix3 (y 0) (y 1) (y 2) := by
    blk_ext [index2_17 t]
  rw [e]
  have hy : y = ix3 (y 0) (y 1) (y 2) := funext fun a => by fin_cases a <;> rfl
  exact (congrArg ((dat2 V c).after 17 t) hy).trans (reg_blk V c t (y 0) (y 1) (y 2))

end Cert.TailIdeal
-- ==== Proof.TailHost.lean ====
/-
  What the host operations between the calls leave in the buffers that the calls read, from the arguments: the packed
  weights of the second convolution, the features with a patch per row, the weights and the biases.
-/
module

public import proofs.«01_k».proof.Proof.Gen.TailIdeal.Launch
public import Idealize.ShloMosaic.Lib.Pipeline.ValueKit
public import Idealize.ShloMosaic.Lib.Pointwise

@[expose] public section

set_option maxRecDepth 16384

noncomputable section

namespace Cert.TailIdeal

open Cert.TailIdeal.Gen
open Idealize.ShloMosaic Idealize.ShloMosaic.TcCoe

variable (X : Valuation τ sig (Elt Ideal)) (W : Vec Ideal S64x64x3x3 .f32)

/-- The first stretch of host operations, up to the blocks of the packed weights' first array. -/
abbrev opsA : List (HloOp τ sig (Elt Ideal)) := (hostOps0 (F := Ideal)).take 15
/-- The next ones, up to the blocks of the second array. -/
abbrev opsB : List (HloOp τ sig (Elt Ideal)) := ((hostOps0 (F := Ideal)).drop 15).take 19
/-- The rest: both arrays put together, and the bias. -/
abbrev opsC : List (HloOp τ sig (Elt Ideal)) := (hostOps0 (F := Ideal)).drop 34

theorem host0_split : StableHlo.after hostOps0 X = StableHlo.after opsC (StableHlo.after opsB (StableHlo.after opsA X)) := by
  rw [← StableHlo.after_append, ← StableHlo.after_append]
  rfl

/-- The block of zeros over the left taps of row `ky`. -/
def blockL (W : Vec Ideal S64x64x3x3 .f32) (ky : Fin 3) (r : Fin 128) (d : Fin 64) : EReal :=
  if h : r.val < 64 then 0 else W (ix4 d ⟨r.val - 64, by omega⟩ ky 0)

/-- The middle taps of row `ky` over its right taps. -/
def blockR (W : Vec Ideal S64x64x3x3 .f32) (ky : Fin 3) (r : Fin 128) (d : Fin 64) : EReal :=
  if h : r.val < 64 then W (ix4 d ⟨r.val, h⟩ ky 1) else W (ix4 d ⟨r.val - 64, by omega⟩ ky 2)

theorem opsA_v0 : StableHlo.after opsA X (Proc.devRef .tc main_v0)
    = transpose S3x3x64x64 [2, 3, 1, 0] (X (Proc.devRef .tc main_arg2)) transposes_S64x64x3x3_S3x3x64x64_2_3_1_0 := by
  simp only [opsA, hostOps0, List.take_succ_cons, List.take_zero]
  after_results

theorem opsA_v11 (z : Fin 1) (r : Fin 128) (d : Fin 64) :
    StableHlo.after opsA X (Proc.devRef .tc main_v11) (ix3 z r d) = blockL (X (Proc.devRef .tc main_arg2)) 0 r d := by
  simp only [opsA, hostOps0, List.take_succ_cons, List.take_zero]
  after_results
  pointwise
  rfl

theorem opsA_v12 (z : Fin 1) (r : Fin 128) (d : Fin 64) :
    StableHlo.after opsA X (Proc.devRef .tc main_v12) (ix3 z r d) = blockL (X (Proc.devRef .tc main_arg2)) 1 r d := by
  simp only [opsA, hostOps0, List.take_succ_cons, List.take_zero]
  after_results
  pointwise
  rfl

theorem opsA_v13 (z : Fin 1) (r : Fin 128) (d : Fin 64) :
    StableHlo.after opsA X (Proc.devRef .tc main_v13) (ix3 z r d) = blockL (X (Proc.devRef .tc main_arg2)) 2 r d := by
  simp only [opsA, hostOps0, List.take_succ_cons, List.take_zero]
  after_results
  pointwise
  rfl

theorem opsB_v30 (h : X (Proc.devRef .tc main_v0) = transpose S3x3x64x64 [2, 3, 1, 0] W transposes_S64x64x3x3_S3x3x64x64_2_3_1_0)
    (z : Fin 1) (r : Fin 128) (d : Fin 64) :
    StableHlo.after opsB X (Proc.devRef .tc main_v30) (ix3 z r d) = blockR W 0 r d := by
  simp only [opsB, hostOps0, List.take_succ_cons, List.take_zero, List.drop_succ_cons, List.drop_zero]
  after_results
  rw [h]
  pointwise
  rfl

theorem opsB_v31 (h : X (Proc.devRef .tc main_v0) = transpose S3x3x64x64 [2, 3, 1, 0] W transposes_S64x64x3x3_S3x3x64x64_2_3_1_0)
    (z : Fin 1) (r : Fin 128) (d : Fin 64) :
    StableHlo.after opsB X (Proc.devRef .tc main_v31) (ix3 z r d) = blockR W 1 r d := by
  simp only [opsB, hostOps0, List.take_succ_cons, List.take_zero, List.drop_succ_cons, List.drop_zero]
  after_results
  rw [h]
  pointwise
  rfl

theorem opsB_v32 (h : X (Proc.devRef .tc main_v0) = transpose S3x3x64x64 [2, 3, 1, 0] W transposes_S64x64x3x3_S3x3x64x64_2_3_1_0)
    (z : Fin 1) (r : Fin 128) (d : Fin 64) :
    StableHlo.after opsB X (Proc.devRef .tc main_v32) (ix3 z r d) = blockR W 2 r d := by
  simp only [opsB, hostOps0, List.take_succ_cons, List.take_zero, List.drop_succ_cons, List.drop_zero]
  after_results
  rw [h]
  pointwise
  rfl

theorem opsC_v35 (ky : Fin 3) (r : Fin 128) (d : Fin 64) :
    StableHlo.after opsC (StableHlo.after opsB X) (Proc.devRef .tc main_v35) (ix2 ⟨128 * ky.val + r.val, by omega⟩ d)
      = ![(X (Proc.devRef .tc main_v11) (ix3 0 r d) : EReal), X (Proc.devRef .tc main_v12) (ix3 0 r d),
          X (Proc.devRef .tc main_v13) (ix3 0 r d)] ky := by
  simp only [opsB, opsC, hostOps0, List.take_succ_cons, List.take_zero, List.drop_succ_cons, List.drop_zero]
  after_results
  pointwise
  fin_cases ky <;> rfl

theorem opsC_v37 (ky : Fin 3) (r : Fin 128) (d : Fin 64) :
    StableHlo.after opsC X (Proc.devRef .tc main_v37) (ix2 ⟨128 * ky.val + r.val, by omega⟩ d)
      = ![(X (Proc.devRef .tc main_v30) (ix3 0 r d) : EReal), X (Proc.devRef .tc main_v31) (ix3 0 r d),
          X (Proc.devRef .tc main_v32) (ix3 0 r d)] ky := by
  simp only [opsC, hostOps0, List.drop_succ_cons, List.drop_zero]
  after_results
  pointwise
  fin_cases ky <;> rfl

/-- The first packed array: zeros over the left taps, per row of the window. -/
theorem host0_wd1 (ky : Fin 3) (r : Fin 128) (d : Fin 64) :
    StableHlo.after hostOps0 X (Proc.devRef .tc main_v35) (ix2 ⟨128 * ky.val + r.val, by omega⟩ d)
      = blockL (X (Proc.devRef .tc main_arg2)) ky r d := by
  rw [host0_split]
  refine (opsC_v35 _ ky r d).trans ?_
  fin_cases ky
  · exact opsA_v11 X 0 r d
  · exact opsA_v12 X 0 r d
  · exact opsA_v13 X 0 r d

/-- The second packed array: the middle taps over the right taps, per row of the window. -/
theorem host0_wd2 (ky : Fin 3) (r : Fin 128) (d : Fin 64) :
    StableHlo.after hostOps0 X (Proc.devRef .tc main_v37) (ix2 ⟨128 * ky.val + r.val, by omega⟩ d)
      = blockR (X (Proc.devRef .tc main_arg2)) ky r d := by
  rw [host0_split]
  refine (opsC_v37 _ ky r d).trans ?_
  fin_cases ky
  · exact opsB_v30 _ _ (opsA_v0 X) 0 r d
  · exact opsB_v31 _ _ (opsA_v0 X) 0 r d
  · exact opsB_v32 _ _ (opsA_v0 X) 0 r d

theorem host0_bias (d : Fin 64) :
    StableHlo.after hostOps0 X (Proc.devRef .tc main_v38) (ix2 0 d) = X (Proc.devRef .tc main_arg3) (ix1 d) := by
  after_results
  pointwise

/-- The features, with image and patch as the rows. -/
theorem host1_feat (b : Fin 8) (n : Fin 256) (k : Fin 64) :
    StableHlo.after hostOps1 X (Proc.devRef .tc main_v40) (ix3 b n k)
      = X (Proc.devRef .tc main_v39) (ix4 b ⟨n.val / 16, by omega⟩ ⟨n.val % 16, by omega⟩ k) := by
  after_results
  pointwise

theorem host1_v41 (i : Fin 3072) (j : Fin 512) :
    StableHlo.after hostOps1 X (Proc.devRef .tc main_v41) (ix2 i j) = (X (Proc.devRef .tc main_arg9) (ix2 i j) : EReal) := by
  after_results
  pointwise

theorem host1_v43 (i : Fin 512) (j : Fin 512) :
    StableHlo.after hostOps1 X (Proc.devRef .tc main_v43) (ix2 i j) = (X (Proc.devRef .tc main_arg11) (ix2 i j) : EReal) := by
  after_results
  pointwise

theorem host1_v45 (i : Fin 512) (j : Fin 128) :
    StableHlo.after hostOps1 X (Proc.devRef .tc main_v45) (ix2 i j) = (X (Proc.devRef .tc main_arg13) (ix2 i j) : EReal) := by
  after_results
  pointwise

theorem host1_v47 (i : Fin 3072) (j : Fin 128) :
    StableHlo.after hostOps1 X (Proc.devRef .tc main_v47) (ix2 i j) = (X (Proc.devRef .tc main_arg15) (ix2 i j) : EReal) := by
  after_results
  pointwise

theorem host1_v42 (j : Fin 512) :
    StableHlo.after hostOps1 X (Proc.devRef .tc main_v42) (ix2 0 j) = X (Proc.devRef .tc main_arg10) (ix1 j) := by
  after_results
  pointwise

theorem host1_v44 (j : Fin 512) :
    StableHlo.after hostOps1 X (Proc.devRef .tc main_v44) (ix2 0 j) = X (Proc.devRef .tc main_arg12) (ix1 j) := by
  after_results
  pointwise

theorem host1_v46 (j : Fin 128) :
    StableHlo.after hostOps1 X (Proc.devRef .tc main_v46) (ix2 0 j) = X (Proc.devRef .tc main_arg14) (ix1 j) := by
  after_results
  pointwise

theorem host1_v48 (j : Fin 128) :
    StableHlo.after hostOps1 X (Proc.devRef .tc main_v48) (ix2 0 j) = X (Proc.devRef .tc main_arg16) (ix1 j) := by
  after_results
  pointwise

theorem host2_v50 (j : Fin 32) :
    StableHlo.after hostOps2 X (Proc.devRef .tc main_v50) (ix2 0 j) = X (Proc.devRef .tc main_arg5) (ix1 j) := by
  after_results
  pointwise

theorem host2_v53 (j : Fin 256) :
    StableHlo.after hostOps2 X (Proc.devRef .tc main_v53) (ix2 0 j) = X (Proc.devRef .tc main_arg18) (ix1 j) := by
  after_results
  pointwise

theorem host2_v54 (j : Fin 256) :
    StableHlo.after hostOps2 X (Proc.devRef .tc main_v54) (ix2 0 j) = X (Proc.devRef .tc main_arg20) (ix1 j) := by
  after_results
  pointwise

theorem host2_v55 (j : Fin 80) :
    StableHlo.after hostOps2 X (Proc.devRef .tc main_v55) (ix2 0 j) = X (Proc.devRef .tc main_arg22) (ix1 j) := by
  after_results
  pointwise

theorem host2_v56 (j : Fin 4) :
    StableHlo.after hostOps2 X (Proc.devRef .tc main_v56) (ix2 0 j) = X (Proc.devRef .tc main_arg24) (ix1 j) := by
  after_results
  pointwise

theorem host2_v51 :
    StableHlo.after hostOps2 X (Proc.devRef .tc main_v51) (ix2 0 0) = X (Proc.devRef .tc main_arg7) (ix1 0) := by
  after_results
  pointwise

theorem host2_v52 :
    StableHlo.after hostOps2 X (Proc.devRef .tc main_v52) (ix2 0 0) = X (Proc.devRef .tc main_arg8) ix0 := by
  after_results
  pointwise

end Cert.TailIdeal
-- ==== Proof.TailValue.lean ====
/-
  What the two result arrays of the network after the first convolution hold at the end of a run, in the plain sums over
  the launch's arguments.
-/
module

public import proofs.«01_k».proof.Proof.TailRegion0
public import proofs.«01_k».proof.Proof.TailRegion1
public import proofs.«01_k».proof.Proof.TailRegion2
public import proofs.«01_k».proof.Proof.TailHost

@[expose] public section

set_option maxRecDepth 16384

noncomputable section

namespace Cert.TailIdeal

open Cert.TailIdeal.Gen
open Idealize.ShloMosaic Idealize.ShloMosaic.TcCoe

/-- The arguments that a memory holds. -/
def net (m : (ℓ : Loc nD τ sig) → Buf (Elt Ideal) ℓ) (c : Dev nD) : Spec.Net where
  x := fun b r j k => m ((c : Thread nD τ).loc main_arg0) (ix4 b r j k)
  pf := fun b n i => m ((c : Thread nD τ).loc main_arg1) (ix3 b n i)
  w := fun d k ky kx => m ((c : Thread nD τ).loc main_arg2) (ix4 d k ky kx)
  wb := fun d => m ((c : Thread nD τ).loc main_arg3) (ix1 d)
  aw1 := fun i k => m ((c : Thread nD τ).loc main_arg4) (ix2 i k)
  ab1 := fun k => m ((c : Thread nD τ).loc main_arg5) (ix1 k)
  aw2 := fun k => m ((c : Thread nD τ).loc main_arg6) (ix2 k 0)
  ab2 := m ((c : Thread nD τ).loc main_arg7) (ix1 0)
  thr := m ((c : Thread nD τ).loc main_arg8) ix0
  bw1 := fun i j => m ((c : Thread nD τ).loc main_arg9) (ix2 i j)
  bb1 := fun j => m ((c : Thread nD τ).loc main_arg10) (ix1 j)
  bw2 := fun i j => m ((c : Thread nD τ).loc main_arg11) (ix2 i j)
  bb2 := fun j => m ((c : Thread nD τ).loc main_arg12) (ix1 j)
  bw3 := fun i j => m ((c : Thread nD τ).loc main_arg13) (ix2 i j)
  bb3 := fun j => m ((c : Thread nD τ).loc main_arg14) (ix1 j)
  sw := fun i j => m ((c : Thread nD τ).loc main_arg15) (ix2 i j)
  sb := fun j => m ((c : Thread nD τ).loc main_arg16) (ix1 j)
  gw := fun i j => m ((c : Thread nD τ).loc main_arg17) (ix2 i j)
  gb := fun j => m ((c : Thread nD τ).loc main_arg18) (ix1 j)
  dw := fun i j => m ((c : Thread nD τ).loc main_arg19) (ix2 i j)
  db := fun j => m ((c : Thread nD τ).loc main_arg20) (ix1 j)
  cw := fun i j => m ((c : Thread nD τ).loc main_arg21) (ix2 i j)
  cb := fun j => m ((c : Thread nD τ).loc main_arg22) (ix1 j)
  rw := fun i j => m ((c : Thread nD τ).loc main_arg23) (ix2 i j)
  rb := fun j => m ((c : Thread nD τ).loc main_arg24) (ix1 j)

section Calls

variable (V : (c : Dev nD) → (b : Ref sig .tc) → Buf (Elt Ideal) ((c : Thread nD τ).loc b)) (N : Spec.Net) (c : Dev nD)

/-- The buffers that the first call reads hold the arguments `N`. -/
structure Holds0 : Prop where
  x : ∀ b r j k, V c main_arg0 (ix4 b r j k) = N.x b r j k
  l : ∀ (ky : Fin 3) (r : Fin 128) (d : Fin 64), V c main_v35 (ix2 ⟨128 * ky.val + r.val, by omega⟩ d)
        = if h : r.val < 64 then (0 : EReal) else N.w d ⟨r.val - 64, by omega⟩ ky 0
  r : ∀ (ky : Fin 3) (r : Fin 128) (d : Fin 64), V c main_v37 (ix2 ⟨128 * ky.val + r.val, by omega⟩ d)
        = if h : r.val < 64 then N.w d ⟨r.val, h⟩ ky 1 else N.w d ⟨r.val - 64, by omega⟩ ky 2
  b : ∀ d, V c main_v38 (ix2 0 d) = N.wb d

theorem Holds0.packed {V N c} (h : Holds0 V N c) : Packed V N.w c where
  mid ky k d := (h.r ky ⟨k.val, by omega⟩ d).trans (dif_pos k.isLt)
  right ky k d := by
    have e : (⟨128 * ky.val + 64 + k.val, by omega⟩ : Fin 384) = ⟨128 * ky.val + (⟨64 + k.val, by omega⟩ : Fin 128).val, by simp only []; omega⟩ :=
      Fin.ext (by simp only []; omega)
    rw [e]
    refine (h.r ky ⟨64 + k.val, by omega⟩ d).trans ((dif_neg (by simp only []; omega)).trans ?_)
    exact congrArg (fun i => N.w d i ky 2) (Fin.ext (by simp only []; omega))
  zero ky k d := (h.l ky ⟨k.val, by omega⟩ d).trans (dif_pos k.isLt)
  left ky k d := by
    have e : (⟨128 * ky.val + 64 + k.val, by omega⟩ : Fin 384) = ⟨128 * ky.val + (⟨64 + k.val, by omega⟩ : Fin 128).val, by simp only []; omega⟩ :=
      Fin.ext (by simp only []; omega)
    rw [e]
    refine (h.l ky ⟨64 + k.val, by omega⟩ d).trans ((dif_neg (by simp only []; omega)).trans ?_)
    exact congrArg (fun i => N.w d i ky 0) (Fin.ext (by simp only []; omega))

theorem feat_of {V N c} (h : Holds0 V N c) (b : Fin 8) (p q : Fin 16) (d : Fin 64) :
    featV V N.w c b p q d = Spec.feat (N.x b) N.w N.wb p q d := by
  simp only [featV, h.x, h.b]

/-- The buffers that the second call reads hold the arguments `N`. -/
structure Holds1 : Prop where
  pf : ∀ b n i, V c main_arg1 (ix3 b n i) = N.pf b n i
  w1 : ∀ i j, V c main_v41 (ix2 i j) = N.bw1 i j
  b1 : ∀ j, V c main_v42 (ix2 0 j) = N.bb1 j
  w2 : ∀ i j, V c main_v43 (ix2 i j) = N.bw2 i j
  b2 : ∀ j, V c main_v44 (ix2 0 j) = N.bb2 j
  w3 : ∀ i j, V c main_v45 (ix2 i j) = N.bw3 i j
  b3 : ∀ j, V c main_v46 (ix2 0 j) = N.bb3 j
  sw : ∀ i j, V c main_v47 (ix2 i j) = N.sw i j
  sb : ∀ j, V c main_v48 (ix2 0 j) = N.sb j

theorem big_of {V N c} (h : Holds1 V N c) (b : Fin 8) (n : Fin 256) (k : Fin 128) : bigV V c b n k = N.bigs b n k := by
  simp only [bigV, h.pf, h.w1, h.b1, h.w2, h.b2, h.w3, h.b3]
  rfl

theorem small_of {V N c} (h : Holds1 V N c) (b : Fin 8) (n : Fin 256) (k : Fin 128) : smallV V c b n k = N.smalls b n k := by
  simp only [smallV, h.pf, h.sw, h.sb]
  rfl

/-- The buffers that the third call reads hold the features, the experts' outputs and the arguments `N`. -/
structure Holds2 : Prop where
  f : ∀ b n k, V c main_v40 (ix3 b n k) = N.feats b n k
  bg : ∀ b n k, V c main_v49_0 (ix3 b n k) = N.bigs b n k
  sm : ∀ b n k, V c main_v49_1 (ix3 b n k) = N.smalls b n k
  aw1 : ∀ i j, V c main_arg4 (ix2 i j) = N.aw1 i j
  ab1 : ∀ j, V c main_v50 (ix2 0 j) = N.ab1 j
  aw2 : ∀ j, V c main_arg6 (ix2 j 0) = N.aw2 j
  ab2 : V c main_v51 (ix2 0 0) = N.ab2
  thr : V c main_v52 (ix2 0 0) = N.thr
  gw : ∀ i j, V c main_arg17 (ix2 i j) = N.gw i j
  gb : ∀ j, V c main_v53 (ix2 0 j) = N.gb j
  dw : ∀ i j, V c main_arg19 (ix2 i j) = N.dw i j
  db : ∀ j, V c main_v54 (ix2 0 j) = N.db j
  cw : ∀ i j, V c main_arg21 (ix2 i j) = N.cw i j
  cb : ∀ j, V c main_v55 (ix2 0 j) = N.cb j
  rw : ∀ i j, V c main_arg23 (ix2 i j) = N.rw i j
  rb : ∀ j, V c main_v56 (ix2 0 j) = N.rb j

theorem hidden_of {V N c} (h : Holds2 V N c) (b : Fin 8) : hiddenV V c b = N.hid b := by
  funext n j
  simp only [hiddenV, hiddenX, h.f, h.bg, h.sm, h.aw1, h.ab1, h.aw2, h.ab2, h.thr, h.gw, h.gb, h.dw, h.db]
  rfl

theorem cls_of {V N c} (h : Holds2 V N c) (b : Fin 8) (n : Fin 256) (k : Fin 80) : clsV V c b n k = N.cls b n k := by
  simp only [clsV, hidden_of h, h.cw, h.cb]
  rfl

theorem reg_of {V N c} (h : Holds2 V N c) (b : Fin 8) (n : Fin 256) (k : Fin 4) : regV V c b n k = N.reg b n k := by
  simp only [regV, hidden_of h, h.rw, h.rb]
  rfl

end Calls

section Run

variable (m : (ℓ : Loc nD τ sig) → Buf (Elt Ideal) ℓ) (ρ : Dev nD → PrngReg) (c : Dev nD)

theorem holds0 : Holds0 (V1 m ρ) (net m c) c where
  x b r j k := congrFun (W1_args m ρ c main_arg0 (by decide)) (ix4 b r j k)
  l ky r d := host0_wd1 (W0 m ρ c) ky r d
  r ky r d := host0_wd2 (W0 m ρ c) ky r d
  b d := host0_bias (W0 m ρ c) d

theorem holds1 : Holds1 (V3 m ρ) (net m c) c where
  pf b n i := congrFun (W3_args m ρ c main_arg1 (by decide)) (ix3 b n i)
  w1 i j := (host1_v41 (W2 m ρ c) i j).trans (congrFun (W2_args m ρ c main_arg9 (by decide)) (ix2 i j))
  b1 j := (host1_v42 (W2 m ρ c) j).trans (congrFun (W2_args m ρ c main_arg10 (by decide)) (ix1 j))
  w2 i j := (host1_v43 (W2 m ρ c) i j).trans (congrFun (W2_args m ρ c main_arg11 (by decide)) (ix2 i j))
  b2 j := (host1_v44 (W2 m ρ c) j).trans (congrFun (W2_args m ρ c main_arg12 (by decide)) (ix1 j))
  w3 i j := (host1_v45 (W2 m ρ c) i j).trans (congrFun (W2_args m ρ c main_arg13 (by decide)) (ix2 i j))
  b3 j := (host1_v46 (W2 m ρ c) j).trans (congrFun (W2_args m ρ c main_arg14 (by decide)) (ix1 j))
  sw i j := (host1_v47 (W2 m ρ c) i j).trans (congrFun (W2_args m ρ c main_arg15 (by decide)) (ix2 i j))
  sb j := (host1_v48 (W2 m ρ c) j).trans (congrFun (W2_args m ρ c main_arg16 (by decide)) (ix1 j))

theorem holds2 : Holds2 (V5 m ρ) (net m c) c where
  f b n k := by
    refine (congrFun (W5_of m ρ c main_v40 (by decide)) (ix3 b n k)).trans ?_
    refine (congrFun (W4_of m ρ c main_v40 (by decide)) (ix3 b n k)).trans ?_
    refine (host1_feat (W2 m ρ c) b n k).trans ?_
    refine (congrFun ((W2_arr m ρ c 4).trans (region0 (V1 m ρ) (net m c).w c (holds0 m ρ c).packed)) (ix4 b _ _ k)).trans ?_
    exact feat_of (holds0 m ρ c) b _ _ k
  bg b n k := by
    refine (congrFun (W5_of m ρ c main_v49_0 (by decide)) (ix3 b n k)).trans ?_
    refine (congrFun ((W4_arr m ρ c 9).trans (region1_big (V3 m ρ) c)) (ix3 b n k)).trans ?_
    exact big_of (holds1 m ρ c) b n k
  sm b n k := by
    refine (congrFun (W5_of m ρ c main_v49_1 (by decide)) (ix3 b n k)).trans ?_
    refine (congrFun ((W4_arr m ρ c 10).trans (region1_small (V3 m ρ) c)) (ix3 b n k)).trans ?_
    exact small_of (holds1 m ρ c) b n k
  aw1 i j := congrFun (W5_args m ρ c main_arg4 (by decide)) (ix2 i j)
  ab1 j := (host2_v50 (W4 m ρ c) j).trans (congrFun (W4_args m ρ c main_arg5 (by decide)) (ix1 j))
  aw2 j := congrFun (W5_args m ρ c main_arg6 (by decide)) (ix2 j 0)
  ab2 := (host2_v51 (W4 m ρ c)).trans (congrFun (W4_args m ρ c main_arg7 (by decide)) (ix1 0))
  thr := (host2_v52 (W4 m ρ c)).trans (congrFun (W4_args m ρ c main_arg8 (by decide)) ix0)
  gw i j := congrFun (W5_args m ρ c main_arg17 (by decide)) (ix2 i j)
  gb j := (host2_v53 (W4 m ρ c) j).trans (congrFun (W4_args m ρ c main_arg18 (by decide)) (ix1 j))
  dw i j := congrFun (W5_args m ρ c main_arg19 (by decide)) (ix2 i j)
  db j := (host2_v54 (W4 m ρ c) j).trans (congrFun (W4_args m ρ c main_arg20 (by decide)) (ix1 j))
  cw i j := congrFun (W5_args m ρ c main_arg21 (by decide)) (ix2 i j)
  cb j := (host2_v55 (W4 m ρ c) j).trans (congrFun (W4_args m ρ c main_arg22 (by decide)) (ix1 j))
  rw i j := congrFun (W5_args m ρ c main_arg23 (by decide)) (ix2 i j)
  rb j := (host2_v56 (W4 m ρ c) j).trans (congrFun (W4_args m ρ c main_arg24 (by decide)) (ix1 j))

/-- The class logits at the end of a run. -/
theorem W6_cls : W6 m ρ c (Proc.devRef .tc main_v57_0) = fun i : S8x256x80.Idx => (net m c).cls (i 0) (i 1) (i 2) :=
  (W6_arr m ρ c 16).trans ((region2_cls (V5 m ρ) c).trans (funext fun i => cls_of (holds2 m ρ c) (i 0) (i 1) (i 2)))

/-- The box regressions at the end of a run. -/
theorem W6_reg : W6 m ρ c (Proc.devRef .tc main_v57_1) = fun i : S8x256x4.Idx => (net m c).reg (i 0) (i 1) (i 2) :=
  (W6_arr m ρ c 17).trans ((region2_reg (V5 m ρ) c).trans (funext fun i => reg_of (holds2 m ρ c) (i 0) (i 1) (i 2)))

end Run

end Cert.TailIdeal
-- ==== Proof.TailRun.lean ====
/-
  The run of the network after the first convolution: the two result arrays hold the network's class logits and box
  regressions, and the arguments are as they were.
-/
module

public import proofs.«01_k».proof.Proof.TailValue

@[expose] public section

set_option maxRecDepth 16384

noncomputable section

namespace Cert.TailIdeal

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Every run ends with the network's two results, as `Spec` states them, and leaves the arguments unchanged. -/
theorem run : θ_run defs (onTc (τ := τ) (main (F := Ideal))) ⟨m, fun _ => 0, ρ⟩ (fun r => ∀ c : Dev nD,
      r.2.mem ((c.tc : Thread nD τ).loc main_v57_0) = (fun i : S8x256x80.Idx => (net m c).cls (i 0) (i 1) (i 2))
      ∧ r.2.mem ((c.tc : Thread nD τ).loc main_v57_1) = (fun i : S8x256x4.Idx => (net m c).reg (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨(h c _ (mem_uc main_v57_0 (by decide))).trans (W6_cls m ρ c),
       (h c _ (mem_uc main_v57_1 (by decide))).trans (W6_reg m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c)⟩)

end Cert.TailIdeal
-- ==== Proof.RefConv.lean ====
/-
  The second convolution and the pooled features as the reference computes them: `Spec.conv2` and `Spec.feat`.
-/
module

public import proofs.«01_k».proof.Proof.Gen.ReferenceTailIdeal.Read
public import proofs.«01_k».proof.Proof.Spec
public import Idealize.ShloMosaic.Lib.Pointwise

@[expose] public section

set_option maxRecDepth 16384

noncomputable section

namespace Cert.ReferenceTailIdeal

open Cert.ReferenceTailIdeal.Gen Cert.ReferenceTailIdeal.Read
open Idealize.ShloMosaic

variable (x0 : (⟨S8x256x128x128, .bf16⟩ : BufTy).Contents (Elt Ideal))
  (x2 : (⟨S64x64x3x3, .f32⟩ : BufTy).Contents (Elt Ideal))
  (x3 : (⟨S64, .f32⟩ : BufTy).Contents (Elt Ideal))

/-- The sum over the third and the fifth axis of a rank-six array, as a double sum. -/
theorem sum_two_axes (h : S8x16x8x16x8x64.ReducesTo [2, 4] S8x16x16x64) (v : S8x16x8x16x8x64.Idx → EReal) (z : EReal)
    (b : Fin 8) (p q : Fin 16) (d : Fin 64) :
    Ideal.hostReduceAdd h v z (ix4 b p q d) = z + ∑ r : Fin 8, ∑ s : Fin 8, v (ix6 b p r q s d) := by
  unfold Ideal.hostReduceAdd
  refine congrArg (z + ·) ?_
  refine (Finset.sum_filter_eq_sum_of_fiber _ (fun k : Fin 8 × Fin 8 => (ix6 b p k.1 q k.2 d : S8x16x8x16x8x64.Idx))
    (fun k l e => Prod.ext (congrFun e 2) (congrFun e 4)) (fun i => ?_) v).trans (Fintype.sum_prod_type _)
  constructor
  · intro e
    refine ⟨(i 2, i 4), ?_⟩
    funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
    | ⟨5, _⟩ => exact (congrArg Fin.val (congrFun e 3)).symm
  · rintro ⟨k, rfl⟩
    funext a; apply Fin.ext
    match a with
    | ⟨0, _⟩ => rfl
    | ⟨1, _⟩ => rfl
    | ⟨2, _⟩ => rfl
    | ⟨3, _⟩ => rfl

/-- Rows and columns cut into sixteen runs of eight. -/
theorem cut_read (h : S8x128x128x64.ShapeCasts S8x16x8x16x8x64) (v : S8x128x128x64.Idx → EReal)
    (b : Fin 8) (p q : Fin 16) (r s : Fin 8) (d : Fin 64) :
    shapeCast S8x16x8x16x8x64 v h (ix6 b p r q s d)
      = v (ix4 b (⟨8 * p.val + r.val, by omega⟩ : Fin 128) (⟨8 * q.val + s.val, by omega⟩ : Fin 128) d) := by
  pointwise
  refine congrArg v ?_
  congr 1 <;> apply Fin.ext <;> simp only <;> omega

/-- The activations with a zero row and a zero column around them. -/
theorem pad_read (b : Fin 8) (r c : Fin 258) (k : Fin 64) :
    val_main_v2 (F := Ideal) x0 (ix4 b r c k)
      = if h : (1 ≤ r.val ∧ r.val - 1 < 256) ∧ 1 ≤ c.val ∧ c.val - 1 < 256
        then x0 (ix4 b ⟨r.val - 1, by omega⟩ ⟨(c.val - 1) / 2, by omega⟩ ⟨(c.val - 1) % 2 * 64 + k.val, by omega⟩)
        else (0 : EReal) := by
  pointwise [val_main_v2, val_main_v1, val_main_v0, val_main_call0_v0, val_main_c]
  split
  · rfl
  · show ((BitVec.toInt 0#32 : ℝ) : EReal) = 0
    simp

/-- One image's activations. -/
abbrev act (b : Fin 8) : Fin 256 → Fin 128 → Fin 128 → EReal := fun i j k => x0 (ix4 b i j k)

/-- The second convolution's weights. -/
abbrev wts : Fin 64 → Fin 64 → Fin 3 → Fin 3 → EReal := fun d k ky kx => x2 (ix4 d k ky kx)

/-- A position of the padded activations in row `2I + ky` and an even column. -/
theorem pad_even (b : Fin 8) (I J : Fin 128) (ky : Fin 3) (k : Fin 64) (r c : Fin 258)
    (hr : r.val = 2 * I.val + ky.val) (hc : c.val = 2 * J.val) :
    val_main_v2 (F := Ideal) x0 (ix4 b r c k)
      = if h : J.val = 0 then (0 : EReal)
        else Spec.rowAt (act x0 b) I ky ⟨J.val - 1, by omega⟩ ⟨64 + k.val, by omega⟩ := by
  rw [pad_read]
  unfold Spec.rowAt
  by_cases hJ : J.val = 0
  · rw [dif_pos hJ, dif_neg (by omega)]
  by_cases hI : 2 * I.val + ky.val = 0
  · rw [dif_neg hJ, dif_pos hI, dif_neg (by omega)]
  refine (dif_pos (by omega)).trans ?_
  rw [dif_neg hJ, dif_neg hI]
  refine congrArg x0 ?_
  congr 1 <;> apply Fin.ext <;> simp only <;> omega

/-- A position of the padded activations in row `2I + ky` and column `2J + 1`. -/
theorem pad_odd (b : Fin 8) (I J : Fin 128) (ky : Fin 3) (k : Fin 64) (r c : Fin 258)
    (hr : r.val = 2 * I.val + ky.val) (hc : c.val = 2 * J.val + 1) :
    val_main_v2 (F := Ideal) x0 (ix4 b r c k) = Spec.rowAt (act x0 b) I ky J ⟨k.val, by omega⟩ := by
  rw [pad_read]
  unfold Spec.rowAt
  by_cases hI : 2 * I.val + ky.val = 0
  · rw [dif_pos hI, dif_neg (by omega)]
  refine (dif_pos (by omega)).trans ?_
  rw [dif_neg hI]
  refine congrArg x0 ?_
  congr 1 <;> apply Fin.ext <;> simp only <;> omega

/-- A position of the padded activations in row `2I + ky` and column `2J + 2`. -/
theorem pad_even_next (b : Fin 8) (I J : Fin 128) (ky : Fin 3) (k : Fin 64) (r c : Fin 258)
    (hr : r.val = 2 * I.val + ky.val) (hc : c.val = 2 * J.val + 2) :
    val_main_v2 (F := Ideal) x0 (ix4 b r c k) = Spec.rowAt (act x0 b) I ky J ⟨64 + k.val, by omega⟩ := by
  rw [pad_read]
  unfold Spec.rowAt
  by_cases hI : 2 * I.val + ky.val = 0
  · rw [dif_pos hI, dif_neg (by omega)]
  refine (dif_pos (by omega)).trans ?_
  rw [dif_neg hI]
  refine congrArg x0 ?_
  congr 1 <;> apply Fin.ext <;> simp only <;> omega

/-- The left tap as a sum over the padded activations. -/
theorem tapL_pad (b : Fin 8) (I J : Fin 128) (d : Fin 64) (ky : Fin 3) (r c : Fin 258)
    (hr : r.val = 2 * I.val + ky.val) (hc : c.val = 2 * J.val) :
    (∑ k : Fin 64, val_main_v2 (F := Ideal) x0 (ix4 b r c k) * x2 (ix4 d k ky (0 : Fin 3)) : EReal)
      = Spec.tapL (act x0 b) (wts x2) I J d ky := by
  unfold Spec.tapL
  by_cases hJ : J.val = 0
  · rw [dif_pos hJ]
    refine Finset.sum_eq_zero fun k _ => ?_
    rw [pad_even x0 b I J ky k r c hr hc, dif_pos hJ, zero_mul]
  · rw [dif_neg hJ]
    refine Finset.sum_congr rfl fun k _ => ?_
    rw [pad_even x0 b I J ky k r c hr hc, dif_neg hJ]

/-- The middle tap as a sum over the padded activations. -/
theorem tapM_pad (b : Fin 8) (I J : Fin 128) (d : Fin 64) (ky : Fin 3) (r c : Fin 258)
    (hr : r.val = 2 * I.val + ky.val) (hc : c.val = 2 * J.val + 1) :
    (∑ k : Fin 64, val_main_v2 (F := Ideal) x0 (ix4 b r c k) * x2 (ix4 d k ky (1 : Fin 3)) : EReal)
      = Spec.tapM (act x0 b) (wts x2) I J d ky := by
  refine Finset.sum_congr rfl fun k _ => ?_
  rw [pad_odd x0 b I J ky k r c hr hc]

/-- The right tap as a sum over the padded activations. -/
theorem tapR_pad (b : Fin 8) (I J : Fin 128) (d : Fin 64) (ky : Fin 3) (r c : Fin 258)
    (hr : r.val = 2 * I.val + ky.val) (hc : c.val = 2 * J.val + 2) :
    (∑ k : Fin 64, val_main_v2 (F := Ideal) x0 (ix4 b r c k) * x2 (ix4 d k ky (2 : Fin 3)) : EReal)
      = Spec.tapR (act x0 b) (wts x2) I J d ky := by
  refine Finset.sum_congr rfl fun k _ => ?_
  rw [pad_even_next x0 b I J ky k r c hr hc]

/-- The product of tap (0, 0). -/
theorem tap_0 (b : Fin 8) (I J : Fin 128) (d : Fin 64) :
    val_main_v8 (F := Ideal) x0 x2 (ix4 b I J d) = Spec.tapL (act x0 b) (wts x2) I J d 0 := by
  refine Eq.trans ?_ (tapL_pad x0 x2 b I J d 0 ⟨2 * I.val + 0, by omega⟩ ⟨2 * J.val + 0, by omega⟩ rfl rfl)
  unfold val_main_v8 val_main_v4
  generalize val_main_v2 (F := Ideal) x0 = P
  pointwise [val_main_v7, val_main_v6, val_main_v5]

/-- The product of tap (0, 1). -/
theorem tap_1 (b : Fin 8) (I J : Fin 128) (d : Fin 64) :
    val_main_v14 (F := Ideal) x0 x2 (ix4 b I J d) = Spec.tapM (act x0 b) (wts x2) I J d 0 := by
  refine Eq.trans ?_ (tapM_pad x0 x2 b I J d 0 ⟨2 * I.val + 0, by omega⟩ ⟨2 * J.val + 1, by omega⟩ rfl rfl)
  unfold val_main_v14 val_main_v10
  generalize val_main_v2 (F := Ideal) x0 = P
  pointwise [val_main_v13, val_main_v12, val_main_v11]
  refine Finset.sum_congr rfl fun k _ => ?_
  refine congrArg₂ (· * ·) (congrArg P ?_) rfl
  congr 1 <;> apply Fin.ext <;> simp only <;> omega

/-- The product of tap (0, 2). -/
theorem tap_2 (b : Fin 8) (I J : Fin 128) (d : Fin 64) :
    val_main_v20 (F := Ideal) x0 x2 (ix4 b I J d) = Spec.tapR (act x0 b) (wts x2) I J d 0 := by
  refine Eq.trans ?_ (tapR_pad x0 x2 b I J d 0 ⟨2 * I.val + 0, by omega⟩ ⟨2 * J.val + 2, by omega⟩ rfl rfl)
  unfold val_main_v20 val_main_v16
  generalize val_main_v2 (F := Ideal) x0 = P
  pointwise [val_main_v19, val_main_v18, val_main_v17]
  refine Finset.sum_congr rfl fun k _ => ?_
  refine congrArg₂ (· * ·) (congrArg P ?_) rfl
  congr 1 <;> apply Fin.ext <;> simp only <;> omega

/-- The product of tap (1, 0). -/
theorem tap_3 (b : Fin 8) (I J : Fin 128) (d : Fin 64) :
    val_main_v26 (F := Ideal) x0 x2 (ix4 b I J d) = Spec.tapL (act x0 b) (wts x2) I J d 1 := by
  refine Eq.trans ?_ (tapL_pad x0 x2 b I J d 1 ⟨2 * I.val + 1, by omega⟩ ⟨2 * J.val + 0, by omega⟩ rfl rfl)
  unfold val_main_v26 val_main_v22
  generalize val_main_v2 (F := Ideal) x0 = P
  pointwise [val_main_v25, val_main_v24, val_main_v23]
  refine Finset.sum_congr rfl fun k _ => ?_
  refine congrArg₂ (· * ·) (congrArg P ?_) rfl
  congr 1 <;> apply Fin.ext <;> simp only <;> omega

/-- The product of tap (1, 1). -/
theorem tap_4 (b : Fin 8) (I J : Fin 128) (d : Fin 64) :
    val_main_v32 (F := Ideal) x0 x2 (ix4 b I J d) = Spec.tapM (act x0 b) (wts x2) I J d 1 := by
  refine Eq.trans ?_ (tapM_pad x0 x2 b I J d 1 ⟨2 * I.val + 1, by omega⟩ ⟨2 * J.val + 1, by omega⟩ rfl rfl)
  unfold val_main_v32 val_main_v28
  generalize val_main_v2 (F := Ideal) x0 = P
  pointwise [val_main_v31, val_main_v30, val_main_v29]
  refine Finset.sum_congr rfl fun k _ => ?_
  refine congrArg₂ (· * ·) (congrArg P ?_) rfl
  congr 1 <;> apply Fin.ext <;> simp only <;> omega

/-- The product of tap (1, 2). -/
theorem tap_5 (b : Fin 8) (I J : Fin 128) (d : Fin 64) :
    val_main_v38 (F := Ideal) x0 x2 (ix4 b I J d) = Spec.tapR (act x0 b) (wts x2) I J d 1 := by
  refine Eq.trans ?_ (tapR_pad x0 x2 b I J d 1 ⟨2 * I.val + 1, by omega⟩ ⟨2 * J.val + 2, by omega⟩ rfl rfl)
  unfold val_main_v38 val_main_v34
  generalize val_main_v2 (F := Ideal) x0 = P
  pointwise [val_main_v37, val_main_v36, val_main_v35]
  refine Finset.sum_congr rfl fun k _ => ?_
  refine congrArg₂ (· * ·) (congrArg P ?_) rfl
  congr 1 <;> apply Fin.ext <;> simp only <;> omega

/-- The product of tap (2, 0). -/
theorem tap_6 (b : Fin 8) (I J : Fin 128) (d : Fin 64) :
    val_main_v44 (F := Ideal) x0 x2 (ix4 b I J d) = Spec.tapL (act x0 b) (wts x2) I J d 2 := by
  refine Eq.trans ?_ (tapL_pad x0 x2 b I J d 2 ⟨2 * I.val + 2, by omega⟩ ⟨2 * J.val + 0, by omega⟩ rfl rfl)
  unfold val_main_v44 val_main_v40
  generalize val_main_v2 (F := Ideal) x0 = P
  pointwise [val_main_v43, val_main_v42, val_main_v41]
  refine Finset.sum_congr rfl fun k _ => ?_
  refine congrArg₂ (· * ·) (congrArg P ?_) rfl
  congr 1 <;> apply Fin.ext <;> simp only <;> omega

/-- The product of tap (2, 1). -/
theorem tap_7 (b : Fin 8) (I J : Fin 128) (d : Fin 64) :
    val_main_v50 (F := Ideal) x0 x2 (ix4 b I J d) = Spec.tapM (act x0 b) (wts x2) I J d 2 := by
  refine Eq.trans ?_ (tapM_pad x0 x2 b I J d 2 ⟨2 * I.val + 2, by omega⟩ ⟨2 * J.val + 1, by omega⟩ rfl rfl)
  unfold val_main_v50 val_main_v46
  generalize val_main_v2 (F := Ideal) x0 = P
  pointwise [val_main_v49, val_main_v48, val_main_v47]
  refine Finset.sum_congr rfl fun k _ => ?_
  refine congrArg₂ (· * ·) (congrArg P ?_) rfl
  congr 1 <;> apply Fin.ext <;> simp only <;> omega

/-- The product of tap (2, 2). -/
theorem tap_8 (b : Fin 8) (I J : Fin 128) (d : Fin 64) :
    val_main_v56 (F := Ideal) x0 x2 (ix4 b I J d) = Spec.tapR (act x0 b) (wts x2) I J d 2 := by
  refine Eq.trans ?_ (tapR_pad x0 x2 b I J d 2 ⟨2 * I.val + 2, by omega⟩ ⟨2 * J.val + 2, by omega⟩ rfl rfl)
  unfold val_main_v56 val_main_v52
  generalize val_main_v2 (F := Ideal) x0 = P
  pointwise [val_main_v55, val_main_v54, val_main_v53]
  refine Finset.sum_congr rfl fun k _ => ?_
  refine congrArg₂ (· * ·) (congrArg P ?_) rfl
  congr 1 <;> apply Fin.ext <;> simp only <;> omega

/-- The second convolution with its bias and rectifier. -/
theorem conv_eq (b : Fin 8) (I J : Fin 128) (d : Fin 64) :
    val_main_v61 (F := Ideal) x0 x2 x3 (ix4 b I J d) = Spec.conv2 (act x0 b) (wts x2) (fun d => x3 (ix1 d)) I J d := by
  unfold Spec.conv2
  rw [Fin.sum_univ_three]
  rw [← tap_0 x0 x2 b I J d]
  rw [← tap_1 x0 x2 b I J d]
  rw [← tap_2 x0 x2 b I J d]
  rw [← tap_3 x0 x2 b I J d]
  rw [← tap_4 x0 x2 b I J d]
  rw [← tap_5 x0 x2 b I J d]
  rw [← tap_6 x0 x2 b I J d]
  rw [← tap_7 x0 x2 b I J d]
  rw [← tap_8 x0 x2 b I J d]
  unfold val_main_v61 val_main_v60 val_main_v57 val_main_v51 val_main_v45 val_main_v39 val_main_v33 val_main_v27 val_main_v21 val_main_v15 val_main_v9
  generalize val_main_v8 (F := Ideal) x0 x2 = t0
  generalize val_main_v14 (F := Ideal) x0 x2 = t1
  generalize val_main_v20 (F := Ideal) x0 x2 = t2
  generalize val_main_v26 (F := Ideal) x0 x2 = t3
  generalize val_main_v32 (F := Ideal) x0 x2 = t4
  generalize val_main_v38 (F := Ideal) x0 x2 = t5
  generalize val_main_v44 (F := Ideal) x0 x2 = t6
  generalize val_main_v50 (F := Ideal) x0 x2 = t7
  generalize val_main_v56 (F := Ideal) x0 x2 = t8
  pointwise [val_main_v3, val_main_cst, val_main_v58, val_main_v59, val_main_call1_cst, val_main_call1_v0]
  unfold Spec.relu
  simp only [add_assoc]

/-- The pooled features. -/
theorem feat_eq (b : Fin 8) (n : Fin 256) (d : Fin 64) :
    val_main_v66 (F := Ideal) x0 x2 x3 (ix3 b n d)
      = Spec.feat (act x0 b) (wts x2) (fun d => x3 (ix1 d)) ⟨n.val / 16, by omega⟩ ⟨n.val % 16, by omega⟩ d := by
  unfold Spec.feat
  have hc := fun I J => conv_eq x0 x2 x3 b I J d
  simp only [← hc]
  unfold val_main_v66 val_main_v65 val_main_v63 val_main_v62
  generalize val_main_v61 (F := Ideal) x0 x2 x3 = P
  pointwise [val_main_v64, val_main_cst_1, val_main_cst_0]
  refine congrArg₂ Ideal.div ?_ Spec.ofBits_sixtyfour
  refine (sum_two_axes _ _ _ _ _ _ _).trans ((zero_add _).trans ?_)
  refine Finset.sum_congr rfl fun r _ => Finset.sum_congr rfl fun s _ => ?_
  exact cut_read _ _ _ _ _ _ _ _

end Cert.ReferenceTailIdeal
-- ==== Proof.RefHead.lean ====
/-
  The experts, the routing and the detection head as the reference computes them, in the functions of `Spec`.
-/
module

public import proofs.«01_k».proof.Proof.Gen.ReferenceTailIdeal.Read
public import proofs.«01_k».proof.Proof.RefConv
public import proofs.«01_k».proof.Proof.Spec
public import Idealize.ShloMosaic.Lib.Pointwise

@[expose] public section

set_option maxRecDepth 16384

noncomputable section

namespace Cert.ReferenceTailIdeal

open Cert.ReferenceTailIdeal.Gen Cert.ReferenceTailIdeal.Read
open Idealize.ShloMosaic

variable (x0 : (⟨S8x256x128x128, .bf16⟩ : BufTy).Contents (Elt Ideal))
  (x1 : (⟨S8x256x3072, .f32⟩ : BufTy).Contents (Elt Ideal))
  (x2 : (⟨S64x64x3x3, .f32⟩ : BufTy).Contents (Elt Ideal))
  (x3 : (⟨S64, .f32⟩ : BufTy).Contents (Elt Ideal))
  (x4 : (⟨S64x32, .f32⟩ : BufTy).Contents (Elt Ideal))
  (x5 : (⟨S32, .f32⟩ : BufTy).Contents (Elt Ideal))
  (x6 : (⟨S32x1, .f32⟩ : BufTy).Contents (Elt Ideal))
  (x7 : (⟨S1, .f32⟩ : BufTy).Contents (Elt Ideal))
  (x8 : (⟨S_, .f32⟩ : BufTy).Contents (Elt Ideal))
  (x9 : (⟨S3072x512, .f32⟩ : BufTy).Contents (Elt Ideal))
  (x10 : (⟨S512, .f32⟩ : BufTy).Contents (Elt Ideal))
  (x11 : (⟨S512x512, .f32⟩ : BufTy).Contents (Elt Ideal))
  (x12 : (⟨S512, .f32⟩ : BufTy).Contents (Elt Ideal))
  (x13 : (⟨S512x128, .f32⟩ : BufTy).Contents (Elt Ideal))
  (x14 : (⟨S128, .f32⟩ : BufTy).Contents (Elt Ideal))
  (x15 : (⟨S3072x128, .f32⟩ : BufTy).Contents (Elt Ideal))
  (x16 : (⟨S128, .f32⟩ : BufTy).Contents (Elt Ideal))
  (x17 : (⟨S256x256, .f32⟩ : BufTy).Contents (Elt Ideal))
  (x18 : (⟨S256, .f32⟩ : BufTy).Contents (Elt Ideal))
  (x19 : (⟨S384x256, .f32⟩ : BufTy).Contents (Elt Ideal))
  (x20 : (⟨S256, .f32⟩ : BufTy).Contents (Elt Ideal))
  (x21 : (⟨S256x80, .f32⟩ : BufTy).Contents (Elt Ideal))
  (x22 : (⟨S80, .f32⟩ : BufTy).Contents (Elt Ideal))
  (x23 : (⟨S256x4, .f32⟩ : BufTy).Contents (Elt Ideal))
  (x24 : (⟨S4, .f32⟩ : BufTy).Contents (Elt Ideal))

/-- The attention score of a patch, from its features. -/
theorem score_r (b : Fin 8) (n : Fin 256) :
    val_main_v82 (F := Ideal) x0 x2 x3 x4 x5 x6 x7 (ix2 b n) = Spec.score (fun i => val_main_v66 (F := Ideal) x0 x2 x3 (ix3 b n i)) (fun i k => x4 (ix2 i k)) (fun k => x5 (ix1 k))
        (fun k => x6 (ix2 k (0 : Fin 1))) (x7 (ix1 (0 : Fin 1))) := by
  unfold val_main_v82
  pointwise [val_main_v81, val_main_v80, val_main_v79, val_main_v78, val_main_v77, val_main_v76, val_main_v75, val_main_v74, val_main_v73, val_main_v72, val_main_v71, val_main_v70, val_main_v69, val_main_v68, val_main_v67, val_main_cst_2, val_main_cst_3, val_main_call2_cst, val_main_call2_v0]
  rfl

/-- The routing mask. -/
theorem mask_r (b : Fin 8) (n : Fin 256) :
    val_main_v92 (F := Ideal) x0 x2 x3 x4 x5 x6 x7 x8 (ix2 b n) = Spec.sigm (val_main_v82 (F := Ideal) x0 x2 x3 x4 x5 x6 x7 (ix2 b n) - x8 ix0) := by
  unfold val_main_v92 val_main_v90
  pointwise [val_main_v91, val_main_v90, val_main_v89, val_main_v88, val_main_v87, val_main_v86, val_main_v85, val_main_v84, val_main_v83, val_main_cst_4, val_main_cst_5, val_main_cst_6]
  unfold Spec.sigm
  rw [Spec.div_one]

/-- The big expert. -/
theorem big_r (b : Fin 8) (n : Fin 256) (k : Fin 128) :
    val_main_v106 (F := Ideal) x1 x9 x10 x11 x12 x13 x14 (ix3 b n k) = Spec.big (fun i => x1 (ix3 b n i)) (fun i j => x9 (ix2 i j)) (fun j => x10 (ix1 j)) (fun i j => x11 (ix2 i j))
        (fun j => x12 (ix1 j)) (fun i j => x13 (ix2 i j)) (fun j => x14 (ix1 j)) k := by
  unfold val_main_v106
  pointwise [val_main_v105, val_main_v104, val_main_v103, val_main_v102, val_main_v101, val_main_v100, val_main_v99, val_main_v98, val_main_v97, val_main_v96, val_main_v95, val_main_v94, val_main_v93, val_main_call3_cst, val_main_call3_v0, val_main_call4_cst, val_main_call4_v0]
  rfl

/-- The small expert. -/
theorem small_r (b : Fin 8) (n : Fin 256) (k : Fin 128) :
    val_main_v113 (F := Ideal) x1 x15 x16 (ix3 b n k) = Spec.small (fun i => x1 (ix3 b n i)) (fun i j => x15 (ix2 i j)) (fun j => x16 (ix1 j)) k := by
  unfold val_main_v113
  pointwise [val_main_v112, val_main_v111, val_main_v110]
  rfl

/-- The mixed outputs. -/
theorem mix_r (b : Fin 8) (n : Fin 256) (k : Fin 128) :
    val_main_v119 (F := Ideal) x0 x1 x2 x3 x4 x5 x6 x7 x8 x9 x10 x11 x12 x13 x14 x15 x16 (ix3 b n k) = val_main_v92 (F := Ideal) x0 x2 x3 x4 x5 x6 x7 x8 (ix2 b n) * val_main_v106 (F := Ideal) x1 x9 x10 x11 x12 x13 x14 (ix3 b n k) + (1 - val_main_v92 (F := Ideal) x0 x2 x3 x4 x5 x6 x7 x8 (ix2 b n)) * val_main_v113 (F := Ideal) x1 x15 x16 (ix3 b n k) := by
  unfold val_main_v119 val_main_v118 val_main_v109 val_main_v117 val_main_v116 val_main_v115 val_main_v108 val_main_v107
  generalize val_main_v106 (F := Ideal) x1 x9 x10 x11 x12 x13 x14 = t106
  generalize val_main_v113 (F := Ideal) x1 x15 x16 = t113
  generalize val_main_v92 (F := Ideal) x0 x2 x3 x4 x5 x6 x7 x8 = t92
  pointwise [val_main_v114, val_main_cst_7]
  exact congrArg₂ (· + ·) (mul_comm _ _) (mul_comm _ _)

/-- The largest score. -/
theorem top_r (b : Fin 8) :
    val_main_v120 (F := Ideal) x0 x2 x3 x4 x5 x6 x7 (ix1 b) = Spec.top (fun n => val_main_v82 (F := Ideal) x0 x2 x3 x4 x5 x6 x7 (ix2 b n)) := by
  unfold val_main_v120
  generalize val_main_v82 (F := Ideal) x0 x2 x3 x4 x5 x6 x7 = t82
  pointwise [val_main_cst_8]
  rfl

/-- The attention-weighted sum. -/
theorem wsum_r (b : Fin 8) (k : Fin 128) :
    val_main_v134 (F := Ideal) x0 x1 x2 x3 x4 x5 x6 x7 x8 x9 x10 x11 x12 x13 x14 x15 x16 (ix2 b k) = Spec.wsum (fun n => val_main_v82 (F := Ideal) x0 x2 x3 x4 x5 x6 x7 (ix2 b n)) (fun n k => val_main_v119 (F := Ideal) x0 x1 x2 x3 x4 x5 x6 x7 x8 x9 x10 x11 x12 x13 x14 x15 x16 (ix3 b n k)) k := by
  unfold val_main_v134 val_main_v133 val_main_v132 val_main_v131 val_main_v130 val_main_v129 val_main_v128 val_main_v127 val_main_v126 val_main_v125 val_main_v124 val_main_v123 val_main_v122
  generalize val_main_v119 (F := Ideal) x0 x1 x2 x3 x4 x5 x6 x7 x8 x9 x10 x11 x12 x13 x14 x15 x16 = t119
  pointwise [val_main_v121, val_main_cst_9, val_main_cst_10, val_main_cst_11]
  have ht : max (Ideal.ofBits .f32 4286578688#32) (val_main_v120 (F := Ideal) x0 x2 x3 x4 x5 x6 x7 (ix1 b)) = Spec.top (fun n => val_main_v82 (F := Ideal) x0 x2 x3 x4 x5 x6 x7 (ix2 b n)) := by
    rw [top_r]; exact max_eq_right bot_le
  rw [ht]
  rfl

/-- The mean. -/
theorem mean_r (b : Fin 8) (k : Fin 128) :
    val_main_v137 (F := Ideal) x0 x1 x2 x3 x4 x5 x6 x7 x8 x9 x10 x11 x12 x13 x14 x15 x16 (ix2 b k) = Spec.mean (fun n k => val_main_v119 (F := Ideal) x0 x1 x2 x3 x4 x5 x6 x7 x8 x9 x10 x11 x12 x13 x14 x15 x16 (ix3 b n k)) k := by
  unfold val_main_v137 val_main_v135
  generalize val_main_v119 (F := Ideal) x0 x1 x2 x3 x4 x5 x6 x7 x8 x9 x10 x11 x12 x13 x14 x15 x16 = t119
  pointwise [val_main_v136, val_main_cst_12, val_main_cst_13]
  unfold Spec.mean
  rw [Spec.ofBits_256]

/-- The global features before they are cut. -/
theorem glob_r (b : Fin 8) (j : Fin 256) :
    val_main_v142 (F := Ideal) x0 x1 x2 x3 x4 x5 x6 x7 x8 x9 x10 x11 x12 x13 x14 x15 x16 x17 x18 (ix2 b j) = (∑ k : Fin 256, val_main_v138 (F := Ideal) x0 x1 x2 x3 x4 x5 x6 x7 x8 x9 x10 x11 x12 x13 x14 x15 x16 (ix2 b k) * x17 (ix2 k j)) + x18 (ix1 j) := by
  unfold val_main_v142 val_main_v139
  generalize val_main_v138 (F := Ideal) x0 x1 x2 x3 x4 x5 x6 x7 x8 x9 x10 x11 x12 x13 x14 x15 x16 = t138
  pointwise [val_main_v141, val_main_v140]

/-- The hidden layer before it is cut. -/
theorem hid_r (b : Fin 8) (n j : Fin 256) :
    val_main_v150 (F := Ideal) x0 x1 x2 x3 x4 x5 x6 x7 x8 x9 x10 x11 x12 x13 x14 x15 x16 x17 x18 x19 x20 (ix3 b n j) = Spec.relu ((∑ k : Fin 384, val_main_v145 (F := Ideal) x0 x1 x2 x3 x4 x5 x6 x7 x8 x9 x10 x11 x12 x13 x14 x15 x16 x17 x18 (ix3 b n k) * x19 (ix2 k j)) + x20 (ix1 j)) := by
  unfold val_main_v150 val_main_v149 val_main_v146
  generalize val_main_v145 (F := Ideal) x0 x1 x2 x3 x4 x5 x6 x7 x8 x9 x10 x11 x12 x13 x14 x15 x16 x17 x18 = t145
  pointwise [val_main_v148, val_main_v147, val_main_call5_cst, val_main_call5_v0]
  rfl

/-- The class logits. -/
theorem cls_r (b : Fin 8) (n : Fin 256) (k : Fin 80) :
    val_main_v154 (F := Ideal) x0 x1 x2 x3 x4 x5 x6 x7 x8 x9 x10 x11 x12 x13 x14 x15 x16 x17 x18 x19 x20 x21 x22 (ix3 b n k) = Spec.outLayer (fun j => val_main_v150 (F := Ideal) x0 x1 x2 x3 x4 x5 x6 x7 x8 x9 x10 x11 x12 x13 x14 x15 x16 x17 x18 x19 x20 (ix3 b n j)) (fun j c => x21 (ix2 j c)) (fun c => x22 (ix1 c)) k := by
  unfold val_main_v154 val_main_v151
  generalize val_main_v150 (F := Ideal) x0 x1 x2 x3 x4 x5 x6 x7 x8 x9 x10 x11 x12 x13 x14 x15 x16 x17 x18 x19 x20 = t150
  pointwise [val_main_v153, val_main_v152]
  rfl

/-- The box regressions. -/
theorem reg_r (b : Fin 8) (n : Fin 256) (k : Fin 4) :
    val_main_v158 (F := Ideal) x0 x1 x2 x3 x4 x5 x6 x7 x8 x9 x10 x11 x12 x13 x14 x15 x16 x17 x18 x19 x20 x23 x24 (ix3 b n k) = Spec.outLayer (fun j => val_main_v150 (F := Ideal) x0 x1 x2 x3 x4 x5 x6 x7 x8 x9 x10 x11 x12 x13 x14 x15 x16 x17 x18 x19 x20 (ix3 b n j)) (fun j c => x23 (ix2 j c)) (fun c => x24 (ix1 c)) k := by
  unfold val_main_v158 val_main_v155
  generalize val_main_v150 (F := Ideal) x0 x1 x2 x3 x4 x5 x6 x7 x8 x9 x10 x11 x12 x13 x14 x15 x16 x17 x18 x19 x20 = t150
  pointwise [val_main_v157, val_main_v156]
  rfl

/-- The first half of the joined row. -/
theorem cat_sum (b : Fin 8) (k : Fin 128) :
    val_main_v138 (F := Ideal) x0 x1 x2 x3 x4 x5 x6 x7 x8 x9 x10 x11 x12 x13 x14 x15 x16 (ix2 b ⟨k.val, by omega⟩) = val_main_v134 (F := Ideal) x0 x1 x2 x3 x4 x5 x6 x7 x8 x9 x10 x11 x12 x13 x14 x15 x16 (ix2 b k) := by
  unfold val_main_v138
  generalize val_main_v134 (F := Ideal) x0 x1 x2 x3 x4 x5 x6 x7 x8 x9 x10 x11 x12 x13 x14 x15 x16 = t134
  generalize val_main_v137 (F := Ideal) x0 x1 x2 x3 x4 x5 x6 x7 x8 x9 x10 x11 x12 x13 x14 x15 x16 = t137
  pointwise []

/-- The second half of the joined row. -/
theorem cat_mean (b : Fin 8) (k : Fin 128) :
    val_main_v138 (F := Ideal) x0 x1 x2 x3 x4 x5 x6 x7 x8 x9 x10 x11 x12 x13 x14 x15 x16 (ix2 b ⟨128 + k.val, by omega⟩) = val_main_v137 (F := Ideal) x0 x1 x2 x3 x4 x5 x6 x7 x8 x9 x10 x11 x12 x13 x14 x15 x16 (ix2 b k) := by
  unfold val_main_v138
  generalize val_main_v134 (F := Ideal) x0 x1 x2 x3 x4 x5 x6 x7 x8 x9 x10 x11 x12 x13 x14 x15 x16 = t134
  generalize val_main_v137 (F := Ideal) x0 x1 x2 x3 x4 x5 x6 x7 x8 x9 x10 x11 x12 x13 x14 x15 x16 = t137
  pointwise []

/-- The first part of the joined rows. -/
theorem cat_mix (b : Fin 8) (n : Fin 256) (k : Fin 128) :
    val_main_v145 (F := Ideal) x0 x1 x2 x3 x4 x5 x6 x7 x8 x9 x10 x11 x12 x13 x14 x15 x16 x17 x18 (ix3 b n ⟨k.val, by omega⟩) = val_main_v119 (F := Ideal) x0 x1 x2 x3 x4 x5 x6 x7 x8 x9 x10 x11 x12 x13 x14 x15 x16 (ix3 b n k) := by
  unfold val_main_v145 val_main_v144 val_main_v143
  generalize val_main_v119 (F := Ideal) x0 x1 x2 x3 x4 x5 x6 x7 x8 x9 x10 x11 x12 x13 x14 x15 x16 = t119
  generalize val_main_v142 (F := Ideal) x0 x1 x2 x3 x4 x5 x6 x7 x8 x9 x10 x11 x12 x13 x14 x15 x16 x17 x18 = t142
  pointwise []

/-- The second part of the joined rows. -/
theorem cat_glob (b : Fin 8) (n k : Fin 256) :
    val_main_v145 (F := Ideal) x0 x1 x2 x3 x4 x5 x6 x7 x8 x9 x10 x11 x12 x13 x14 x15 x16 x17 x18 (ix3 b n ⟨128 + k.val, by omega⟩) = val_main_v142 (F := Ideal) x0 x1 x2 x3 x4 x5 x6 x7 x8 x9 x10 x11 x12 x13 x14 x15 x16 x17 x18 (ix2 b k) := by
  unfold val_main_v145 val_main_v144 val_main_v143
  generalize val_main_v119 (F := Ideal) x0 x1 x2 x3 x4 x5 x6 x7 x8 x9 x10 x11 x12 x13 x14 x15 x16 = t119
  generalize val_main_v142 (F := Ideal) x0 x1 x2 x3 x4 x5 x6 x7 x8 x9 x10 x11 x12 x13 x14 x15 x16 x17 x18 = t142
  pointwise []

/-- The network of the reference's arguments. -/
abbrev net : Spec.Net where
  x := fun b r j k => x0 (ix4 b r j k)
  pf := fun b n i => x1 (ix3 b n i)
  w := fun d k ky kx => x2 (ix4 d k ky kx)
  wb := fun d => x3 (ix1 d)
  aw1 := fun i k => x4 (ix2 i k)
  ab1 := fun k => x5 (ix1 k)
  aw2 := fun k => x6 (ix2 k 0)
  ab2 := x7 (ix1 0)
  thr := x8 ix0
  bw1 := fun i j => x9 (ix2 i j)
  bb1 := fun j => x10 (ix1 j)
  bw2 := fun i j => x11 (ix2 i j)
  bb2 := fun j => x12 (ix1 j)
  bw3 := fun i j => x13 (ix2 i j)
  bb3 := fun j => x14 (ix1 j)
  sw := fun i j => x15 (ix2 i j)
  sb := fun j => x16 (ix1 j)
  gw := fun i j => x17 (ix2 i j)
  gb := fun j => x18 (ix1 j)
  dw := fun i j => x19 (ix2 i j)
  db := fun j => x20 (ix1 j)
  cw := fun i j => x21 (ix2 i j)
  cb := fun j => x22 (ix1 j)
  rw := fun i j => x23 (ix2 i j)
  rb := fun j => x24 (ix1 j)

/-- The detection head's hidden layer is that of the network. -/
theorem hid_eq (b : Fin 8) (n j : Fin 256) :
    val_main_v150 (F := Ideal) x0 x1 x2 x3 x4 x5 x6 x7 x8 x9 x10 x11 x12 x13 x14 x15 x16 x17 x18 x19 x20 (ix3 b n j) = (net x0 x1 x2 x3 x4 x5 x6 x7 x8 x9 x10 x11 x12 x13 x14 x15 x16 x17 x18 x19 x20 x21 x22 x23 x24).hid b n j := by
  have hs : (fun n : Fin 256 => val_main_v82 (F := Ideal) x0 x2 x3 x4 x5 x6 x7 (ix2 b n)) = fun n => Spec.score ((net x0 x1 x2 x3 x4 x5 x6 x7 x8 x9 x10 x11 x12 x13 x14 x15 x16 x17 x18 x19 x20 x21 x22 x23 x24).feats b n) (fun i k => x4 (ix2 i k)) (fun k => x5 (ix1 k))
      (fun k => x6 (ix2 k (0 : Fin 1))) (x7 (ix1 (0 : Fin 1))) := by
    funext n
    rw [score_r]
    refine congrArg (fun f => Spec.score f _ _ _ _) ?_
    funext i
    exact feat_eq x0 x2 x3 b n i
  have hm : (fun (n : Fin 256) (k : Fin 128) => val_main_v119 (F := Ideal) x0 x1 x2 x3 x4 x5 x6 x7 x8 x9 x10 x11 x12 x13 x14 x15 x16 (ix3 b n k)) = fun n k => Spec.mix (Spec.score ((net x0 x1 x2 x3 x4 x5 x6 x7 x8 x9 x10 x11 x12 x13 x14 x15 x16 x17 x18 x19 x20 x21 x22 x23 x24).feats b n) (fun i k => x4 (ix2 i k)) (fun k => x5 (ix1 k))
      (fun k => x6 (ix2 k (0 : Fin 1))) (x7 (ix1 (0 : Fin 1)))) (x8 ix0) ((net x0 x1 x2 x3 x4 x5 x6 x7 x8 x9 x10 x11 x12 x13 x14 x15 x16 x17 x18 x19 x20 x21 x22 x23 x24).bigs b n k) ((net x0 x1 x2 x3 x4 x5 x6 x7 x8 x9 x10 x11 x12 x13 x14 x15 x16 x17 x18 x19 x20 x21 x22 x23 x24).smalls b n k) := by
    funext n k
    rw [mix_r, mask_r, big_r, small_r, congrFun hs n]
    rfl
  rw [hid_r]
  unfold Spec.Net.hid Spec.headRow Spec.hidden
  rw [← hs, ← hm, Spec.sum_cut (a := 128) (b := 256) rfl]
  simp only [cat_mix, cat_glob, glob_r]
  refine congrArg Spec.relu (congrArg (· + _) (congrArg (_ + ·) (Finset.sum_congr rfl fun k _ => congrArg (· * _) ?_)))
  unfold Spec.glob
  rw [Spec.sum_cut (a := 128) (b := 128) rfl]
  simp only [cat_sum, cat_mean, wsum_r, mean_r]

/-- The reference's class logits are those of the network of its arguments. -/
theorem cls_eq : val_main_v154 (F := Ideal) x0 x1 x2 x3 x4 x5 x6 x7 x8 x9 x10 x11 x12 x13 x14 x15 x16 x17 x18 x19 x20 x21 x22
    = fun i : S8x256x80.Idx => (net x0 x1 x2 x3 x4 x5 x6 x7 x8 x9 x10 x11 x12 x13 x14 x15 x16 x17 x18 x19 x20 x21 x22 x23 x24).cls (i 0) (i 1) (i 2) := by
  funext i
  rw [eq_ix3 i]
  refine (cls_r x0 x1 x2 x3 x4 x5 x6 x7 x8 x9 x10 x11 x12 x13 x14 x15 x16 x17 x18 x19 x20 x21 x22 _ _ _).trans ?_
  exact congrArg (fun h => Spec.outLayer h _ _ _) (funext fun j => hid_eq x0 x1 x2 x3 x4 x5 x6 x7 x8 x9 x10 x11 x12 x13 x14 x15 x16 x17 x18 x19 x20 x21 x22 x23 x24 _ _ j)

/-- The reference's box regressions are those of the network of its arguments. -/
theorem reg_eq : val_main_v158 (F := Ideal) x0 x1 x2 x3 x4 x5 x6 x7 x8 x9 x10 x11 x12 x13 x14 x15 x16 x17 x18 x19 x20 x23 x24
    = fun i : S8x256x4.Idx => (net x0 x1 x2 x3 x4 x5 x6 x7 x8 x9 x10 x11 x12 x13 x14 x15 x16 x17 x18 x19 x20 x21 x22 x23 x24).reg (i 0) (i 1) (i 2) := by
  funext i
  rw [eq_ix3 i]
  refine (reg_r x0 x1 x2 x3 x4 x5 x6 x7 x8 x9 x10 x11 x12 x13 x14 x15 x16 x17 x18 x19 x20 x23 x24 _ _ _).trans ?_
  exact congrArg (fun h => Spec.outLayer h _ _ _) (funext fun j => hid_eq x0 x1 x2 x3 x4 x5 x6 x7 x8 x9 x10 x11 x12 x13 x14 x15 x16 x17 x18 x19 x20 x21 x22 x23 x24 _ _ j)

end Cert.ReferenceTailIdeal
-- ==== Proof.Conv1Host.lean ====
/-
  The weights of the first convolution as the kernel's host code lays them out for its two products over four by four
  pixels, when the filter is one number everywhere: that number on the eighteen windows that the filter's taps are
  written to, zero elsewhere.
-/
module

public import proofs.«01_k».proof.Proof.Gen.KernelCIdeal.Launch
public import proofs.«01_k».proof.Proof.Spec
public import Idealize.ShloMosaic.Lib.Pipeline.ValueKit
public import Idealize.ShloMosaic.Lib.Pointwise
public import Idealize.ShloMosaic.Lib.Routing.OpsOne

@[expose] public section

set_option maxRecDepth 16384

noncomputable section

namespace Cert.KernelCIdeal

open Cert.KernelCIdeal.Gen
open Idealize.ShloMosaic Idealize.ShloMosaic.TcCoe Idealize.ShloMosaic.Routing

/-- Element `(r, c)` lies in the window of three rows and 64 columns that starts at `p`. -/
def inWin (p : ℕ × ℕ) (r : Fin 72) (c : Fin 128) : Bool :=
  decide (p.1 ≤ r.val) && decide (r.val < p.1 + 3) && decide (p.2 ≤ c.val) && decide (c.val < p.2 + 64)

/-- One window written into the array: the number `v` there, the array's own elements elsewhere. -/
theorem scatter_window (x : S72x128.Idx → EReal) (idx : IVec S2 32) (u : S3x64.Idx → EReal) (p : ℕ × ℕ) (v : EReal)
    (h0 : (idx (ix1 (0 : Fin 2))).toInt = p.1) (h1 : (idx (ix1 (1 : Fin 2))).toInt = p.2) (hu : ∀ i, u i = v)
    (r : Fin 72) (c : Fin 128) :
    Host.scatter scatter_S72x128_S2_S3x64_01_n_01_0 (fun _ b => b) x idx u (ix2 r c)
      = if inWin p r c then v else x (ix2 r c) := by
  have lands : ∀ k : S3x64.Idx, scatter_S72x128_S2_S3x64_01_n_01_0.resultIdx? k idx = some (ix2 r c)
      ↔ (p.1 : Int) + (k 0).val = r.val ∧ (p.2 : Int) + (k 1).val = c.val := by
    intro k
    refine (resultIdx?_ix2 _ k idx r c).trans ?_
    rw [start_pair _ rfl rfl, start_pair _ rfl rfl, ← h0, ← h1]
    exact Iff.rfl
  by_cases h : inWin p r c = true
  · rw [if_pos h]
    simp only [inWin, Bool.and_eq_true, decide_eq_true_eq] at h
    refine scatter_set_hit _ x idx u _ _ (fun k _ => hu k) (ix2 ⟨r.val - p.1, by omega⟩ ⟨c.val - p.2, by omega⟩) ((lands _).2 ⟨?_, ?_⟩)
    · show (p.1 : Int) + ((r.val - p.1 : ℕ) : Int) = r.val
      omega
    · show (p.2 : Int) + ((c.val - p.2 : ℕ) : Int) = c.val
      omega
  · rw [if_neg h]
    refine scatter_set_miss _ x idx u _ fun k hk => h ?_
    obtain ⟨q0, q1⟩ := (lands k).1 hk
    have hk0 : (k 0).val < 3 := (k 0).isLt
    have hk1 : (k 1).val < 64 := (k 1).isLt
    simp only [inWin, Bool.and_eq_true, decide_eq_true_eq]
    omega

/-- The windows, the last written first. -/
def windows : List (ℕ × ℕ) :=
  [(69, 64), (66, 64), (63, 64), (60, 64), (57, 64), (57, 0), (54, 0), (51, 64), (51, 0), (48, 0), (45, 0), (39, 0), (33, 64), (30, 64), (21, 64), (21, 0), (18, 0), (9, 0)]

/-- The two start indices as the host code puts them together. -/
abbrev starts (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

theorem starts_0 (a b : BitVec 32) : starts a b (ix1 (0 : Fin 2)) = a := by
  pointwise

theorem starts_1 (a b : BitVec 32) : starts a b (ix1 (1 : Fin 2)) = b := by
  pointwise

/-- A further window over an array that holds `v` on the windows `L` and zero elsewhere. -/
theorem scatter_cons (L : List (ℕ × ℕ)) (x : S72x128.Idx → EReal) (a b : BitVec 32) (u : S3x64.Idx → EReal) (p : ℕ × ℕ) (v : EReal)
    (r : Fin 72) (c : Fin 128) (hx : x (ix2 r c) = if L.any (fun p => inWin p r c) then v else 0)
    (h0 : a.toInt = p.1) (h1 : b.toInt = p.2) (hu : ∀ i, u i = v) :
    Host.scatter scatter_S72x128_S2_S3x64_01_n_01_0 (fun _ b => b) x (starts a b) u (ix2 r c)
      = if (p :: L).any (fun p => inWin p r c) then v else 0 := by
  rw [scatter_window x _ u p v (by rw [starts_0, h0]) (by rw [starts_1, h1]) hu, hx, List.any_cons]
  cases inWin p r c <;> rfl

theorem narrow (x : FVec Ideal S72x128 .f32) (h) (i : S72x128.Idx) : truncf .bf16 x h i = (x i : EReal) := rfl

variable (X : Valuation τ sig (Elt Ideal))

set_option maxHeartbeats 2000000 in
/-- The packed weights of a constant filter. -/
theorem host0_weights (r : Fin 72) (c : Fin 128) :
    StableHlo.after hostOps0 X (Proc.devRef .tc main_v157) (ix2 r c)
      = if windows.any (fun p => inWin p r c) then X (Proc.devRef .tc main_arg2) ix0 else (0 : EReal) := by
  after_results
  have hu : ∀ i j : S_.Idx, X (Proc.devRef .tc main_arg2) i = X (Proc.devRef .tc main_arg2) j := fun i j => congrArg _ (funext fun a => a.elim0)
  unfold windows
  refine (narrow _ _ _).trans ?_
  iterate 18 refine scatter_cons _ _ _ _ _ _ _ _ _ ?_ ?_ ?_ (fun i => hu _ _)
  · exact Ideal.ofBits_zero .f32
  all_goals decide

/-- The pixels, four by four with their channels, of a constant image. -/
theorem host0_pixels (b : Fin 8) (i : Fin 256) (j : Fin 128) (k : Fin 24) :
    StableHlo.after hostOps0 X (Proc.devRef .tc main_v29) (ix4 b i j k) = (X (Proc.devRef .tc main_arg0) ix0 : EReal) := by
  after_results
  exact congrArg (X (Proc.devRef .tc main_arg0)) (funext fun a => a.elim0)

/-- The bias, once per column of a pair. -/
theorem host0_bias (l : Fin 128) :
    StableHlo.after hostOps0 X (Proc.devRef .tc main_v159) (ix2 0 l) = (X (Proc.devRef .tc main_arg3) ix0 : EReal) := by
  after_results
  pointwise
  split_ifs <;> exact congrArg _ (funext fun a => a.elim0)

end Cert.KernelCIdeal
-- ==== Proof.Conv1.lean ====
/-
  What the first convolution's kernel stores for one block of rows, element by element: two products over the lanes of four
  by four pixels, the second one of the next pair of rows.
-/
module

public import proofs.«01_k».proof.Proof.Gen.KernelCIdeal.Skeleton
public import proofs.«01_k».proof.Proof.Spec
public import Idealize.ShloMosaic.Lib.Pointwise

@[expose] public section

set_option maxRecDepth 16384

noncomputable section

namespace Cert.KernelCIdeal

open Cert.KernelCIdeal.Gen
open Idealize.ShloMosaic

theorem conv1_store (v : FVec Ideal S16384x128 .bf16) (z : Fin 1) (i j l : Fin 128) :
    k0_pay1 (F := Ideal) v (ix4 z i j l) = v (ix2 ⟨i.val * 128 + j.val, by omega⟩ l) := by
  pointwise [k0_pay1]

/-- The value at column pair `j` when every pixel is `y`: the lanes of the previous column pair are zero at `j = 0`, the
    second product's are zero in the last row pair. `wt` is the packed weights' column, `b` the bias. -/
def constVal (last : Bool) (y : EReal) (wt : Fin 72 → EReal) (b : EReal) (j : ℕ) : EReal :=
  Spec.relu (((∑ x : Fin 12, (if j < 1 then 0 else y) * wt ⟨x.val, by omega⟩) + ∑ x : Fin 24, y * wt ⟨12 + x.val, by omega⟩)
    + ((∑ x : Fin 12, (if last then 0 else if j < 1 then 0 else y) * wt ⟨36 + x.val, by omega⟩)
      + ∑ x : Fin 24, (if last then 0 else y) * wt ⟨36 + (12 + x.val), by omega⟩) + b)

/-- The stored value, when every pixel is `y`. -/
theorem conv1_pay (t : grid0.Coords) (v0 : Vec Ideal S1x128x128x24 .bf16) (v4 : Vec Ideal S1x1x128x24 .bf16)
    (v23 v26 : Vec Ideal S36x128 .bf16) (v30 : Vec Ideal S1x128 .f32) (i j l : Fin 128) (y b : EReal) (wt : Fin 72 → EReal)
    (h0 : ∀ i j k, v0 (ix4 0 i j k) = y) (h4 : ∀ j k, v4 (ix4 0 0 j k) = y)
    (h23 : ∀ k : Fin 36, v23 (ix2 k l) = wt ⟨k.val, by omega⟩) (h26 : ∀ k : Fin 36, v26 (ix2 k l) = wt ⟨36 + k.val, by omega⟩)
    (h30 : v30 (ix2 0 l) = b) :
    k0_pay2 (F := Ideal) t v0 v4 v23 v26 v30 (ix2 ⟨i.val * 128 + j.val, by omega⟩ l)
      = constVal (decide (¬ i.val < 127 ∧ (t 1).val = 1)) y wt b j.val := by
  have ht : (t 1).val < 2 := (t 1).isLt
  have hsel : ∀ a : EReal, Scalar.select (Scalar.cmpi .eq (BitVec.ofNat 32 (t 1).val) 1#32) 0 a = if (t 1).val = 1 then 0 else a := by
    intro a
    generalize (t 1).val = n at ht
    interval_cases n <;> rfl
  pointwise [k0_pay2]
  simp only [h0, h4, h23, h26, h30, hsel]
  unfold constVal Spec.relu
  have hz : (((((0#32 : BitVec 32).toInt : ℤ) : ℝ)) : EReal) = 0 := by simp
  simp only [hz, dite_eq_ite]
  by_cases hi : i.val < 127
  · simp [hi]
  · by_cases hj : (t 1).val = 1 <;> simp [hi, hj]

end Cert.KernelCIdeal
-- ==== Proof.WholeRegion0.lean ====
/-
  What the first convolution's call leaves in its result array, when every pixel of the images is the same number.
-/
module

public import proofs.«01_k».proof.Proof.Gen.KernelCIdeal.Frame
public import proofs.«01_k».proof.Proof.Conv1
public import Idealize.ShloMosaic.Lib.Pipeline.ValueKit

@[expose] public section

set_option maxRecDepth 16384

noncomputable section

namespace Cert.KernelCIdeal

open Cert.KernelCIdeal.Gen
open Idealize.ShloMosaic Idealize.ShloMosaic.TcCoe

variable (V : (c : Dev nD) → (b : Ref sig .tc) → Buf (Elt Ideal) ((c : Thread nD τ).loc b))

theorem index0_0 : ∀ t : Fin cfg0.N, win0_0.index t = ![t.val / 2, t.val % 2, 0, 0] := (by decide +kernel : ∀ t : Fin grid0.N, _)
theorem index0_1 : ∀ t : Fin cfg0.N, win0_1.index t = ![t.val / 2, if t.val % 2 = 0 then 16 else 31, 0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val / 2, t.val % 2, 0, 0] := (by decide +kernel : ∀ t : Fin grid0.N, _)
theorem coord0_1 : ∀ t : Fin cfg0.N, (grid0.coords t 1).val = t.val % 2 := (by decide +kernel : ∀ t : Fin grid0.N, _)

theorem lt0 (t : Fin cfg0.N) : t.val < 16 := lt_of_lt_of_eq t.isLt N_0

theorem read0_2 (c : Dev nD) (t : Fin cfg0.N) (k : Fin 72) (l : Fin 128) :
    iblk0 V c 2 t (ix2 k l) = V c main_v157 (ix2 k l) := by
  blk_ext [iblk0, index0_2 t]
theorem read0_3 (c : Dev nD) (t : Fin cfg0.N) (l : Fin 128) :
    iblk0 V c 3 t (ix2 (0 : Fin 1) l) = V c main_v159 (ix2 (0 : Fin 1) l) := by
  blk_ext [iblk0, index0_3 t]

/-- The call reads pixels that are all `y`. -/
theorem read0_0 (c : Dev nD) (t : Fin cfg0.N) (y : EReal) (h : ∀ i, V c main_v29 i = y) (i : S1x128x128x24.Idx) :
    iblk0 V c 0 t i = y := h _
theorem read0_1 (c : Dev nD) (t : Fin cfg0.N) (y : EReal) (h : ∀ i, V c main_v29 i = y) (i : S1x8x128x24.Idx) :
    iblk0 V c 1 t i = y := h _

/-- The value at row pair `i`, column pair `j` and lane `l`. -/
def rowVal (y : EReal) (wt : Fin 72 → Fin 128 → EReal) (b : Fin 128 → EReal) (i : Fin 256) (j l : Fin 128) : EReal :=
  constVal (decide (i.val = 255)) y (fun k => wt k l) (b l) j.val

/-- What the body leaves in its staging buffer. -/
theorem out_blk (t : grid0.Coords) (x0 : Vec Ideal S1x128x128x24 .bf16) (x1 : Vec Ideal S1x8x128x24 .bf16) (x2 : Vec Ideal S72x128 .bf16)
    (x3 : Vec Ideal S1x128 .f32) (y : EReal) (h0 : ∀ i, x0 i = y) (h1 : ∀ i, x1 i = y) (i j l : Fin 128) :
    out0_4 (F := Ideal) t x0 x1 x2 x3 (ix4 0 i j l)
      = constVal (decide (¬ i.val < 127 ∧ (t 1).val = 1)) y (fun k => x2 (ix2 k l)) (x3 (ix2 0 l)) j.val := by
  unfold out0_4
  frame_out
  refine (conv1_store _ 0 i j l).trans ?_
  refine conv1_pay t _ _ _ _ _ i j l y _ (fun k => x2 (ix2 k l)) ?_ ?_ ?_ ?_ ?_
  · intro i j k; exact h0 _
  · intro j k; exact h1 _
  · intro k
    blk_ext [View.ld]
    · exact (LoadRect.idx_apply _ _ _).trans (by simp [Rect.unit])
    · exact (LoadRect.idx_apply _ _ _).trans (by simp [Rect.unit])
  · intro k
    blk_ext [View.ld]
    · exact (LoadRect.idx_apply _ _ _).trans (by simp [Rect.unit])
    · exact (LoadRect.idx_apply _ _ _).trans (by simp [Rect.unit])
  · rfl

/-- The same of a point of the grid. -/
theorem blk0 (c : Dev nD) (y : EReal) (wt : Fin 72 → Fin 128 → EReal) (b : Fin 128 → EReal) (h : ∀ i, V c main_v29 i = y)
    (hw : ∀ k l, V c main_v157 (ix2 k l) = wt k l) (hb : ∀ l, V c main_v159 (ix2 0 l) = b l) (t : Fin cfg0.N) (i j l : Fin 128) :
    (dat0 V c).after 4 t (ix4 0 i j l) = rowVal y wt b ⟨t.val % 2 * 128 + i.val, by omega⟩ j l := by
  rw [after0_4]
  refine (out_blk _ _ _ _ _ y (read0_0 V c t y h) (read0_1 V c t y h) i j l).trans ?_
  have ht := lt0 t
  have e : (¬ i.val < 127 ∧ (grid0.coords t 1).val = 1) ↔ t.val % 2 * 128 + i.val = 255 := by
    rw [coord0_1]
    omega
  simp only [read0_2, read0_3, hw, hb, e]
  rfl

/-- The call's result array. -/
theorem region0 (c : Dev nD) (y : EReal) (wt : Fin 72 → Fin 128 → EReal) (b : Fin 128 → EReal) (h : ∀ i, V c main_v29 i = y)
    (hw : ∀ k l, V c main_v157 (ix2 k l) = wt k l) (hb : ∀ l, V c main_v159 (ix2 0 l) = b l) :
    (dat0 V c).arrAt 4 cfg0.N = fun i : S8x256x128x128.Idx => rowVal y wt b (i 1) (i 2) (i 3) := by
  refine (dat0 V c).arrAt_eq_of_covers 4 _ (by decide +kernel) fun t hf y' => ?_
  blk_simp
  have ht := lt0 t
  have h0 : (y' 0).val < 1 := (y' 0).isLt
  have h1 : (y' 1).val < 128 := (y' 1).isLt
  have e : ((View.whole main_v160).slice (win0_4.rect t)).emb y'
      = ix4 ⟨t.val / 2, by omega⟩ ⟨t.val % 2 * 128 + (y' 1).val, by omega⟩ (y' 2) (y' 3) := by
    blk_ext [index0_4 t]
  rw [e]
  have hy : y' = ix4 (0 : Fin 1) (y' 1) (y' 2) (y' 3) := funext fun a => by
    fin_cases a
    · exact Subsingleton.elim (α := Fin 1) _ _
    · rfl
    · rfl
    · rfl
  exact (congrArg ((dat0 V c).after 4 t) hy).trans (blk0 V c y wt b h hw hb t (y' 1) (y' 2) (y' 3))

end Cert.KernelCIdeal
-- ==== Proof.WholePay.lean ====
/-
  The bodies of the second convolution's and the experts' calls, in the program of all four calls: they are the bodies of
  the program of the last three, so what was proved of those holds of them.
-/
module

public import proofs.«01_k».proof.Proof.Gen.KernelCIdeal.Skeleton
public import proofs.«01_k».proof.Proof.TailConv
public import proofs.«01_k».proof.Proof.TailMlp

@[expose] public section

set_option maxRecDepth 16384

noncomputable section

namespace Cert.KernelCIdeal

open Cert.KernelCIdeal.Gen
open Idealize.ShloMosaic Idealize.ShloMosaic.TcCoe

theorem pay2_same : k1_pay2 (F := Ideal) = Cert.TailIdeal.Gen.k0_pay2 (F := Ideal) := rfl

/-- What the kernel stores for one image is the pooled features. -/
theorem feat_eq (v0 : Vec Ideal S1x256x128x128 .bf16) (v12 v15 : Vec Ideal S384x64 .bf16) (v25 : Vec Ideal S1x64 .f32)
    (W : Fin 64 → Fin 64 → Fin 3 → Fin 3 → EReal)
    (h2 : ∀ (ky : Fin 3) (c : Fin 64) (d : Fin 64), v12 (ix2 ⟨128 * ky.val + c.val, by omega⟩ d) = W d c ky 1)
    (h2' : ∀ (ky : Fin 3) (c : Fin 64) (d : Fin 64), v12 (ix2 ⟨128 * ky.val + 64 + c.val, by omega⟩ d) = W d c ky 2)
    (h1 : ∀ (ky : Fin 3) (c : Fin 64) (d : Fin 64), v15 (ix2 ⟨128 * ky.val + c.val, by omega⟩ d) = 0)
    (h1' : ∀ (ky : Fin 3) (c : Fin 64) (d : Fin 64), v15 (ix2 ⟨128 * ky.val + 64 + c.val, by omega⟩ d) = W d c ky 0)
    (p q : Fin 16) (d : Fin 64) :
    k1_pay2 (F := Ideal) v0 v12 v15 v25 (ix3 p q d)
      = Spec.feat (fun i j k => v0 (ix4 0 i j k)) W (fun d => v25 (ix2 0 d)) p q d :=
  (congrFun (congrFun (congrFun (congrFun (congrFun pay2_same v0) v12) v15) v25) (ix3 p q d)).trans
    (Cert.TailIdeal.feat_eq v0 v12 v15 v25 W h2 h2' h1 h1' p q d)

/-- The big expert's block at patch `n`, output `c`. -/
theorem big_pay (v0 : Vec Ideal S1x256x3072 .f32) (v3 : Vec Ideal S3072x512 .bf16) (v6 : Vec Ideal S1x512 .f32)
    (v13 : Vec Ideal S512x512 .bf16) (v16 : Vec Ideal S1x512 .f32) (v23 : Vec Ideal S512x128 .bf16) (v26 : Vec Ideal S1x128 .f32)
    (n : Fin 256) (c : Fin 128) :
    k2_pay3 (F := Ideal) v0 v3 v6 v13 v16 v23 v26 (ix3 0 n c)
      = Spec.big (fun i => v0 (ix3 0 n i)) (fun i j => v3 (ix2 i j)) (fun j => v6 (ix2 0 j)) (fun j k => v13 (ix2 j k))
          (fun k => v16 (ix2 0 k)) (fun k c => v23 (ix2 k c)) (fun c => v26 (ix2 0 c)) c :=
  Cert.TailIdeal.big_pay v0 v3 v6 v13 v16 v23 v26 n c

/-- The small expert's block at patch `n`, output `c`. -/
theorem small_pay (v0 : Vec Ideal S1x256x3072 .f32) (v33 : Vec Ideal S3072x128 .bf16) (v36 : Vec Ideal S1x128 .f32)
    (n : Fin 256) (c : Fin 128) :
    k2_pay1 (F := Ideal) (k2_pay2 (F := Ideal) v0) v33 v36 (ix3 0 n c)
      = Spec.small (fun i => v0 (ix3 0 n i)) (fun i c => v33 (ix2 i c)) (fun c => v36 (ix2 0 c)) c :=
  Cert.TailIdeal.small_pay v0 v33 v36 n c

end Cert.KernelCIdeal
-- ==== Proof.WholeRegion1.lean ====
/-
  What the second convolution's call leaves in its result array: the pooled features of every image.
  In the program of all four calls.
-/
module

public import proofs.«01_k».proof.Proof.Gen.KernelCIdeal.Frame
public import proofs.«01_k».proof.Proof.WholePay
public import Idealize.ShloMosaic.Lib.Pipeline.ValueKit

@[expose] public section

set_option maxRecDepth 16384

noncomputable section

namespace Cert.KernelCIdeal

open Cert.KernelCIdeal.Gen
open Idealize.ShloMosaic Idealize.ShloMosaic.TcCoe

variable (V : (c : Dev nD) → (b : Ref sig .tc) → Buf (Elt Ideal) ((c : Thread nD τ).loc b))

theorem pay1_apply (v : FVec Ideal S16x16x64 .f32) (z : Fin 1) (p q : Fin 16) (d : Fin 64) :
    k1_pay1 (F := Ideal) v (ix4 z p q d) = v (ix3 p q d) := by
  pointwise [k1_pay1]

theorem index1_0 : ∀ t : Fin cfg1.N, win1_0.index t = ![t.val, 0, 0, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![t.val, 0, 0, 0] := (by decide +kernel : ∀ t : Fin grid1.N, _)

theorem lt1 (t : Fin cfg1.N) : t.val < 8 := lt_of_lt_of_eq t.isLt N_1

theorem read1_0 (c : Dev nD) (t : Fin cfg1.N) (r : Fin 256) (j k : Fin 128) :
    iblk1 V c 0 t (ix4 (0 : Fin 1) r j k) = V c main_v160 (ix4 ⟨t.val, lt1 t⟩ r j k) := by
  blk_ext [iblk1, index1_0 t]
theorem read1_1 (c : Dev nD) (t : Fin cfg1.N) (k : Fin 384) (d : Fin 64) :
    iblk1 V c 1 t (ix2 k d) = V c main_v196 (ix2 k d) := by
  blk_ext [iblk1, index1_1 t]
theorem read1_2 (c : Dev nD) (t : Fin cfg1.N) (k : Fin 384) (d : Fin 64) :
    iblk1 V c 2 t (ix2 k d) = V c main_v198 (ix2 k d) := by
  blk_ext [iblk1, index1_2 t]
theorem read1_3 (c : Dev nD) (t : Fin cfg1.N) (d : Fin 64) :
    iblk1 V c 3 t (ix2 (0 : Fin 1) d) = V c main_v199 (ix2 (0 : Fin 1) d) := by
  blk_ext [iblk1, index1_3 t]

/-- The features of image `b` at patch `(p, q)`, from the call's arguments. -/
def featV (W : Fin 64 → Fin 64 → Fin 3 → Fin 3 → EReal) (c : Dev nD) (b : Fin 8) (p q : Fin 16) (d : Fin 64) : EReal :=
  Spec.feat (fun r j k => V c main_v160 (ix4 b r j k)) W (fun d => V c main_v199 (ix2 0 d)) p q d

/-- The two packed weight arrays of the second convolution hold the taps `W`. -/
structure Packed (W : Fin 64 → Fin 64 → Fin 3 → Fin 3 → EReal) (c : Dev nD) : Prop where
  mid : ∀ (ky : Fin 3) (k : Fin 64) (d : Fin 64), V c main_v198 (ix2 ⟨128 * ky.val + k.val, by omega⟩ d) = W d k ky 1
  right : ∀ (ky : Fin 3) (k : Fin 64) (d : Fin 64), V c main_v198 (ix2 ⟨128 * ky.val + 64 + k.val, by omega⟩ d) = W d k ky 2
  zero : ∀ (ky : Fin 3) (k : Fin 64) (d : Fin 64), V c main_v196 (ix2 ⟨128 * ky.val + k.val, by omega⟩ d) = (0 : EReal)
  left : ∀ (ky : Fin 3) (k : Fin 64) (d : Fin 64), V c main_v196 (ix2 ⟨128 * ky.val + 64 + k.val, by omega⟩ d) = W d k ky 0

/-- One step's block: the features of image `t`. -/
theorem feat_blk (W : Fin 64 → Fin 64 → Fin 3 → Fin 3 → EReal) (c : Dev nD) (h : Packed V W c) (t : Fin cfg1.N)
    (p q : Fin 16) (d : Fin 64) :
    k1_pay1 (F := Ideal) (k1_pay2 (F := Ideal) (iblk1 V c 0 t) (iblk1 V c 2 t) (iblk1 V c 1 t) (iblk1 V c 3 t)) (ix4 0 p q d)
      = featV V W c ⟨t.val, lt1 t⟩ p q d := by
  refine (pay1_apply _ _ _ _ _).trans ((feat_eq _ _ _ _ W ?_ ?_ ?_ ?_ p q d).trans ?_)
  · intro ky k d; exact (read1_2 V c t _ _).trans (h.mid ky k d)
  · intro ky k d; exact (read1_2 V c t _ _).trans (h.right ky k d)
  · intro ky k d; exact (read1_1 V c t _ _).trans (h.zero ky k d)
  · intro ky k d; exact (read1_1 V c t _ _).trans (h.left ky k d)
  · simp only [read1_0, read1_3]
    rfl

/-- The call's result array. -/
theorem region1 (W : Fin 64 → Fin 64 → Fin 3 → Fin 3 → EReal) (c : Dev nD) (h : Packed V W c) :
    (dat1 V c).arrAt 4 cfg1.N = fun i : S8x16x16x64.Idx => featV V W c (i 0) (i 1) (i 2) (i 3) := by
  refine (dat1 V c).arrAt_eq_of_covers 4 _ (by decide +kernel) fun t hf y => ?_
  blk_simp
  rw [after1_4]
  frame_out
  have e : ((View.whole main_v200).slice (win1_4.rect t)).emb y
      = ix4 ⟨t.val, lt1 t⟩ (y 1) (y 2) (y 3) := by
    have h0 : (y 0).val < 1 := (y 0).isLt
    blk_ext [index1_4 t]
  rw [e]
  have hy : y = ix4 (0 : Fin 1) (y 1) (y 2) (y 3) := funext fun a => by
    fin_cases a
    · exact Subsingleton.elim (α := Fin 1) _ _
    · rfl
    · rfl
    · rfl
  exact (congrArg _ hy).trans (feat_blk V W c h t (y 1) (y 2) (y 3))

end Cert.KernelCIdeal
-- ==== Proof.WholeRegion2.lean ====
/-
  What the experts' call leaves in its two result arrays: the two experts' outputs at every patch.
  In the program of all four calls.
-/
module

public import proofs.«01_k».proof.Proof.Gen.KernelCIdeal.Frame
public import proofs.«01_k».proof.Proof.WholePay
public import Idealize.ShloMosaic.Lib.Pipeline.ValueKit

@[expose] public section

set_option maxRecDepth 16384

noncomputable section

namespace Cert.KernelCIdeal

open Cert.KernelCIdeal.Gen
open Idealize.ShloMosaic Idealize.ShloMosaic.TcCoe

variable (V : (c : Dev nD) → (b : Ref sig .tc) → Buf (Elt Ideal) ((c : Thread nD τ).loc b))

theorem lt2 (t : Fin cfg2.N) : t.val < 8 := lt_of_lt_of_eq t.isLt N_2

theorem index2_0 : ∀ t : Fin cfg2.N, win2_0.index t = ![t.val, 0, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![0, 0] := (by decide +kernel : ∀ t : Fin grid2.N, _)
theorem index2_3 : ∀ t : Fin cfg2.N, win2_3.index t = ![0, 0] := (by decide +kernel : ∀ t : Fin grid2.N, _)
theorem index2_4 : ∀ t : Fin cfg2.N, win2_4.index t = ![0, 0] := (by decide +kernel : ∀ t : Fin grid2.N, _)
theorem index2_5 : ∀ t : Fin cfg2.N, win2_5.index t = ![0, 0] := (by decide +kernel : ∀ t : Fin grid2.N, _)
theorem index2_6 : ∀ t : Fin cfg2.N, win2_6.index t = ![0, 0] := (by decide +kernel : ∀ t : Fin grid2.N, _)
theorem index2_7 : ∀ t : Fin cfg2.N, win2_7.index t = ![0, 0] := (by decide +kernel : ∀ t : Fin grid2.N, _)
theorem index2_8 : ∀ t : Fin cfg2.N, win2_8.index t = ![0, 0] := (by decide +kernel : ∀ t : Fin grid2.N, _)
theorem index2_9 : ∀ t : Fin cfg2.N, win2_9.index t = ![t.val, 0, 0] := (by decide +kernel : ∀ t : Fin grid2.N, _)
theorem index2_10 : ∀ t : Fin cfg2.N, win2_10.index t = ![t.val, 0, 0] := (by decide +kernel : ∀ t : Fin grid2.N, _)

theorem read2_0 (c : Dev nD) (t : Fin cfg2.N) (n : Fin 256) (i : Fin 3072) :
    iblk2 V c 0 t (ix3 (0 : Fin 1) n i) = V c main_v202 (ix3 ⟨t.val, lt2 t⟩ n i) := by
  blk_ext [iblk2, index2_0 t]
theorem read2_1 (c : Dev nD) (t : Fin cfg2.N) : iblk2 V c 1 t = V c main_v203 := by
  funext i
  blk_ext [iblk2, index2_1 t]
theorem read2_2 (c : Dev nD) (t : Fin cfg2.N) : iblk2 V c 2 t = V c main_v204 := by
  funext i
  blk_ext [iblk2, index2_2 t]
theorem read2_3 (c : Dev nD) (t : Fin cfg2.N) : iblk2 V c 3 t = V c main_v205 := by
  funext i
  blk_ext [iblk2, index2_3 t]
theorem read2_4 (c : Dev nD) (t : Fin cfg2.N) : iblk2 V c 4 t = V c main_v206 := by
  funext i
  blk_ext [iblk2, index2_4 t]
theorem read2_5 (c : Dev nD) (t : Fin cfg2.N) : iblk2 V c 5 t = V c main_v207 := by
  funext i
  blk_ext [iblk2, index2_5 t]
theorem read2_6 (c : Dev nD) (t : Fin cfg2.N) : iblk2 V c 6 t = V c main_v208 := by
  funext i
  blk_ext [iblk2, index2_6 t]
theorem read2_7 (c : Dev nD) (t : Fin cfg2.N) : iblk2 V c 7 t = V c main_v209 := by
  funext i
  blk_ext [iblk2, index2_7 t]
theorem read2_8 (c : Dev nD) (t : Fin cfg2.N) : iblk2 V c 8 t = V c main_v210 := by
  funext i
  blk_ext [iblk2, index2_8 t]

/-- The big expert's output at patch `n` of image `b`, from the call's arguments. -/
def bigV (c : Dev nD) (b : Fin 8) (n : Fin 256) (k : Fin 128) : EReal :=
  Spec.big (fun k => V c main_v202 (ix3 b n k)) (fun i j => V c main_v203 (ix2 i j)) (fun j => V c main_v204 (ix2 0 j))
        (fun j k => V c main_v205 (ix2 j k)) (fun k => V c main_v206 (ix2 0 k)) (fun k c' => V c main_v207 (ix2 k c'))
        (fun c' => V c main_v208 (ix2 0 c')) k

/-- One step's block of the big expert. -/
theorem big_blk (c : Dev nD) (t : Fin cfg2.N) (n : Fin 256) (k : Fin 128) :
    k2_pay3 (F := Ideal) (iblk2 V c 0 t) (iblk2 V c 1 t) (iblk2 V c 2 t) (iblk2 V c 3 t) (iblk2 V c 4 t) (iblk2 V c 5 t) (iblk2 V c 6 t) (ix3 0 n k)
      = bigV V c ⟨t.val, lt2 t⟩ n k := by
  rw [read2_1, read2_2, read2_3, read2_4, read2_5, read2_6]
  refine (big_pay _ _ _ _ _ _ _ _ _).trans ?_
  simp only [read2_0]
  rfl

/-- The big expert's result array. -/
theorem region2_big (c : Dev nD) :
    (dat2 V c).arrAt 9 cfg2.N = fun i : S8x256x128.Idx => bigV V c (i 0) (i 1) (i 2) := by
  refine (dat2 V c).arrAt_eq_of_covers 9 _ (by decide +kernel) fun t hf y => ?_
  blk_simp
  rw [after2_9]
  frame_out
  have e : ((View.whole main_v211_0).slice (win2_9.rect t)).emb y = ix3 ⟨t.val, lt2 t⟩ (y 1) (y 2) := by
    have h0 : (y 0).val < 1 := (y 0).isLt
    blk_ext [index2_9 t]
  rw [e]
  have hy : y = ix3 (0 : Fin 1) (y 1) (y 2) := funext fun a => by
    fin_cases a
    · exact Subsingleton.elim (α := Fin 1) _ _
    · rfl
    · rfl
  exact (congrArg _ hy).trans (big_blk V c t (y 1) (y 2))

/-- The small expert's output at patch `n` of image `b`, from the call's arguments. -/
def smallV (c : Dev nD) (b : Fin 8) (n : Fin 256) (k : Fin 128) : EReal :=
  Spec.small (fun k => V c main_v202 (ix3 b n k)) (fun i c' => V c main_v209 (ix2 i c'))
        (fun c' => V c main_v210 (ix2 0 c')) k

/-- One step's block of the small expert. -/
theorem small_blk (c : Dev nD) (t : Fin cfg2.N) (n : Fin 256) (k : Fin 128) :
    k2_pay1 (F := Ideal) (k2_pay2 (F := Ideal) (iblk2 V c 0 t)) (iblk2 V c 7 t) (iblk2 V c 8 t) (ix3 0 n k)
      = smallV V c ⟨t.val, lt2 t⟩ n k := by
  rw [read2_7, read2_8]
  refine (small_pay _ _ _ _ _).trans ?_
  simp only [read2_0]
  rfl

/-- The small expert's result array. -/
theorem region2_small (c : Dev nD) :
    (dat2 V c).arrAt 10 cfg2.N = fun i : S8x256x128.Idx => smallV V c (i 0) (i 1) (i 2) := by
  refine (dat2 V c).arrAt_eq_of_covers 10 _ (by decide +kernel) fun t hf y => ?_
  blk_simp
  rw [after2_10]
  frame_out
  have e : ((View.whole main_v211_1).slice (win2_10.rect t)).emb y = ix3 ⟨t.val, lt2 t⟩ (y 1) (y 2) := by
    have h0 : (y 0).val < 1 := (y 0).isLt
    blk_ext [index2_10 t]
  rw [e]
  have hy : y = ix3 (0 : Fin 1) (y 1) (y 2) := funext fun a => by
    fin_cases a
    · exact Subsingleton.elim (α := Fin 1) _ _
    · rfl
    · rfl
  exact (congrArg _ hy).trans (small_blk V c t (y 1) (y 2))

end Cert.KernelCIdeal
-- ==== Proof.WholeHead.lean ====
/-
  What the body of the head's call leaves of the class logits in its staging buffer, from the blocks that it reads. In the
  program of all four calls.
-/
module

public import proofs.«01_k».proof.Proof.Gen.KernelCIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelCIdeal

open Cert.KernelCIdeal.Gen
open Idealize.ShloMosaic

/-- The scores. -/
theorem score_pay (v0 : Vec Ideal S8x256x64 .f32) (v7 : Vec Ideal S64x32 .f32) (v9 : Vec Ideal S1x32 .f32)
    (v15 : Vec Ideal S32x1 .f32) (v17 : Vec Ideal S1x1 .f32) (b : Fin 8) (n : Fin 256) (z : Fin 1) :
    k3_pay4 (F := Ideal) v0 v7 v9 v15 v17 (ix3 b n z)
      = Spec.score (fun i => v0 (ix3 b n i)) (fun i k => v7 (ix2 i k)) (fun k => v9 (ix2 0 k)) (fun k => v15 (ix2 k 0))
          (v17 (ix2 0 0)) := by
  pointwise [k3_pay4]
  rfl

/-- The mixed outputs. -/
theorem mix_pay (v0 : Vec Ideal S8x256x64 .f32) (v3 v5 : Vec Ideal S8x256x128 .f32) (v7 : Vec Ideal S64x32 .f32)
    (v9 : Vec Ideal S1x32 .f32) (v15 : Vec Ideal S32x1 .f32) (v17 v23 : Vec Ideal S1x1 .f32) (b : Fin 8) (n : Fin 256) (c : Fin 128) :
    k3_pay5 (F := Ideal) v0 v3 v5 v7 v9 v15 v17 v23 (ix3 b n c)
      = Spec.mix (k3_pay4 (F := Ideal) v0 v7 v9 v15 v17 (ix3 b n 0)) (v23 (ix2 0 0)) (v3 (ix3 b n c)) (v5 (ix3 b n c)) := by
  unfold k3_pay5
  generalize k3_pay4 (F := Ideal) v0 v7 v9 v15 v17 = s
  pointwise
  rfl

/-- The hidden layer. -/
theorem hidden_pay (s : FVec Ideal S8x256x1 .f32) (mx : FVec Ideal S8x256x128 .f32)
    (v52 : Vec Ideal S256x256 .f32) (v59 : Vec Ideal S1x256 .f32) (v63 : Vec Ideal S384x256 .f32) (v74 : Vec Ideal S1x256 .f32)
    (r : Fin 2048) (j : Fin 256) :
    k3_pay1 (F := Ideal) (k3_pay6 (F := Ideal) s mx v52 v59 v63 v74) (Scalar.ofBits .f32 0x00000000#32) (ix2 r j)
      = Spec.hidden (fun n => s (ix3 ⟨r.val / 256, by omega⟩ n 0)) (fun n k => mx (ix3 ⟨r.val / 256, by omega⟩ n k))
          (fun k j => v52 (ix2 k j)) (fun j => v59 (ix2 0 j)) (fun k j => v63 (ix2 k j)) (fun j => v74 (ix2 0 j))
          ⟨r.val % 256, by omega⟩ j := by
  pointwise [k3_pay1, k3_pay6]
  simp only [Spec.ofBits_256]
  rfl

/-- The class logits. -/
theorem cls_pay (v : FVec Ideal S8x256x256 .f32) (z : EReal) (v82 : Vec Ideal S256x80 .f32) (v85 : Vec Ideal S1x80 .f32)
    (b : Fin 8) (n : Fin 256) (c : Fin 80) :
    k3_pay2 (F := Ideal) v z v82 v85 (ix3 b n c)
      = Spec.outLayer (fun k => k3_pay1 (F := Ideal) v z (ix2 ⟨b.val * 256 + n.val, by omega⟩ k)) (fun k c => v82 (ix2 k c))
          (fun c => v85 (ix2 0 c)) c := by
  unfold k3_pay2
  generalize k3_pay1 (F := Ideal) v z = h
  pointwise
  rfl

open Idealize.ShloMosaic.TcCoe

/-- The hidden layer of image `b` from the call's arguments. -/
def hiddenX (x0 : Vec Ideal S8x256x64 .f32) (x1 x2 : Vec Ideal S8x256x128 .f32) (x3 : Vec Ideal S64x32 .f32)
    (x4 : Vec Ideal S1x32 .f32) (x5 : Vec Ideal S32x1 .f32) (x6 x7 : Vec Ideal S1x1 .f32) (x8 : Vec Ideal S256x256 .f32)
    (x9 : Vec Ideal S1x256 .f32) (x10 : Vec Ideal S384x256 .f32) (x11 : Vec Ideal S1x256 .f32) (b : Fin 8) (n j : Fin 256) : EReal :=
  Spec.headRow (fun n k => x0 (ix3 b n k)) (fun n k => x1 (ix3 b n k)) (fun n k => x2 (ix3 b n k))
    (fun i k => x3 (ix2 i k)) (fun k => x4 (ix2 0 k)) (fun k => x5 (ix2 k 0)) (x6 (ix2 0 0)) (x7 (ix2 0 0))
    (fun k j => x8 (ix2 k j)) (fun j => x9 (ix2 0 j)) (fun k j => x10 (ix2 k j)) (fun j => x11 (ix2 0 j)) n j

section Body

variable (x0 : Vec Ideal S8x256x64 .f32) (x1 x2 : Vec Ideal S8x256x128 .f32) (x3 : Vec Ideal S64x32 .f32)
  (x4 : Vec Ideal S1x32 .f32) (x5 : Vec Ideal S32x1 .f32) (x6 x7 : Vec Ideal S1x1 .f32) (x8 : Vec Ideal S256x256 .f32)
  (x9 : Vec Ideal S1x256 .f32) (x10 : Vec Ideal S384x256 .f32) (x11 : Vec Ideal S1x256 .f32)
  (x12 : Vec Ideal S256x80 .f32) (x13 : Vec Ideal S1x80 .f32) (x14 : Vec Ideal S256x4 .f32) (x15 : Vec Ideal S1x4 .f32)

/-- The hidden layer as the call's body computes it. -/
theorem hidden_row (b : Fin 8) (n j : Fin 256) :
    k3_pay1 (F := Ideal) (k3_pay6 (F := Ideal) (k3_pay4 (F := Ideal) x0 x3 x4 x5 x6) (k3_pay5 (F := Ideal) x0 x1 x2 x3 x4 x5 x6 x7)
      x8 x9 x10 x11) (Scalar.ofBits .f32 0x00000000#32) (ix2 ⟨b.val * 256 + n.val, by omega⟩ j)
      = hiddenX x0 x1 x2 x3 x4 x5 x6 x7 x8 x9 x10 x11 b n j := by
  refine (hidden_pay _ _ _ _ _ _ _ _).trans ?_
  have hb : (⟨(b.val * 256 + n.val) / 256, by omega⟩ : Fin 8) = b := Fin.ext (by simp only []; omega)
  have hn : (⟨(b.val * 256 + n.val) % 256, by omega⟩ : Fin 256) = n := Fin.ext (by simp only []; omega)
  simp only [hb, hn, mix_pay, score_pay]
  rfl

/-- The class logits that the body leaves. -/
theorem cls_out (b : Fin 8) (n : Fin 256) (k : Fin 80) :
    out3_16 (F := Ideal) x0 x1 x2 x3 x4 x5 x6 x7 x8 x9 x10 x11 x12 x13 x14 x15 (ix3 b n k)
      = Spec.outLayer (hiddenX x0 x1 x2 x3 x4 x5 x6 x7 x8 x9 x10 x11 b n) (fun k c' => x12 (ix2 k c')) (fun c' => x13 (ix2 0 c')) k := by
  unfold out3_16 k3_pay7
  frame_out
  refine (cls_pay _ _ _ _ _ _ _).trans ?_
  exact congrArg (fun h => Spec.outLayer h _ _ k) (funext fun j => hidden_row _ _ _ _ _ _ _ _ _ _ _ _ b n j)

end Body

end Cert.KernelCIdeal
-- ==== Proof.WholeRegion3.lean ====
/-
  What the head's call leaves in its result array of the class logits and the box regressions at every patch.
  In the program of all four calls.
-/
module

public import proofs.«01_k».proof.Proof.Gen.KernelCIdeal.Frame
public import proofs.«01_k».proof.Proof.WholeHead
public import Idealize.ShloMosaic.Lib.Pipeline.ValueKit

@[expose] public section

set_option maxRecDepth 16384

noncomputable section

namespace Cert.KernelCIdeal

open Cert.KernelCIdeal.Gen
open Idealize.ShloMosaic Idealize.ShloMosaic.TcCoe

variable (V : (c : Dev nD) → (b : Ref sig .tc) → Buf (Elt Ideal) ((c : Thread nD τ).loc b))

theorem index3_0 : ∀ t : Fin cfg3.N, win3_0.index t = ![0, 0, 0] := (by decide +kernel : ∀ t : Fin grid3.N, _)
theorem index3_1 : ∀ t : Fin cfg3.N, win3_1.index t = ![0, 0, 0] := (by decide +kernel : ∀ t : Fin grid3.N, _)
theorem index3_2 : ∀ t : Fin cfg3.N, win3_2.index t = ![0, 0, 0] := (by decide +kernel : ∀ t : Fin grid3.N, _)
theorem index3_3 : ∀ t : Fin cfg3.N, win3_3.index t = ![0, 0] := (by decide +kernel : ∀ t : Fin grid3.N, _)
theorem index3_4 : ∀ t : Fin cfg3.N, win3_4.index t = ![0, 0] := (by decide +kernel : ∀ t : Fin grid3.N, _)
theorem index3_5 : ∀ t : Fin cfg3.N, win3_5.index t = ![0, 0] := (by decide +kernel : ∀ t : Fin grid3.N, _)
theorem index3_6 : ∀ t : Fin cfg3.N, win3_6.index t = ![0, 0] := (by decide +kernel : ∀ t : Fin grid3.N, _)
theorem index3_7 : ∀ t : Fin cfg3.N, win3_7.index t = ![0, 0] := (by decide +kernel : ∀ t : Fin grid3.N, _)
theorem index3_8 : ∀ t : Fin cfg3.N, win3_8.index t = ![0, 0] := (by decide +kernel : ∀ t : Fin grid3.N, _)
theorem index3_9 : ∀ t : Fin cfg3.N, win3_9.index t = ![0, 0] := (by decide +kernel : ∀ t : Fin grid3.N, _)
theorem index3_10 : ∀ t : Fin cfg3.N, win3_10.index t = ![0, 0] := (by decide +kernel : ∀ t : Fin grid3.N, _)
theorem index3_11 : ∀ t : Fin cfg3.N, win3_11.index t = ![0, 0] := (by decide +kernel : ∀ t : Fin grid3.N, _)
theorem index3_12 : ∀ t : Fin cfg3.N, win3_12.index t = ![0, 0] := (by decide +kernel : ∀ t : Fin grid3.N, _)
theorem index3_13 : ∀ t : Fin cfg3.N, win3_13.index t = ![0, 0] := (by decide +kernel : ∀ t : Fin grid3.N, _)
theorem index3_14 : ∀ t : Fin cfg3.N, win3_14.index t = ![0, 0] := (by decide +kernel : ∀ t : Fin grid3.N, _)
theorem index3_15 : ∀ t : Fin cfg3.N, win3_15.index t = ![0, 0] := (by decide +kernel : ∀ t : Fin grid3.N, _)
theorem index3_16 : ∀ t : Fin cfg3.N, win3_16.index t = ![0, 0, 0] := (by decide +kernel : ∀ t : Fin grid3.N, _)
theorem index3_17 : ∀ t : Fin cfg3.N, win3_17.index t = ![0, 0, 0] := (by decide +kernel : ∀ t : Fin grid3.N, _)

theorem read3_0 (c : Dev nD) (t : Fin cfg3.N) : iblk3 V c 0 t = V c main_v201 := by
  funext i
  blk_ext [iblk3, index3_0 t]
theorem read3_1 (c : Dev nD) (t : Fin cfg3.N) : iblk3 V c 1 t = V c main_v211_0 := by
  funext i
  blk_ext [iblk3, index3_1 t]
theorem read3_2 (c : Dev nD) (t : Fin cfg3.N) : iblk3 V c 2 t = V c main_v211_1 := by
  funext i
  blk_ext [iblk3, index3_2 t]
theorem read3_3 (c : Dev nD) (t : Fin cfg3.N) : iblk3 V c 3 t = V c main_v6 := by
  funext i
  blk_ext [iblk3, index3_3 t]
theorem read3_4 (c : Dev nD) (t : Fin cfg3.N) : iblk3 V c 4 t = V c main_v212 := by
  funext i
  blk_ext [iblk3, index3_4 t]
theorem read3_5 (c : Dev nD) (t : Fin cfg3.N) : iblk3 V c 5 t = V c main_v8 := by
  funext i
  blk_ext [iblk3, index3_5 t]
theorem read3_6 (c : Dev nD) (t : Fin cfg3.N) : iblk3 V c 6 t = V c main_v213 := by
  funext i
  blk_ext [iblk3, index3_6 t]
theorem read3_7 (c : Dev nD) (t : Fin cfg3.N) : iblk3 V c 7 t = V c main_v214 := by
  funext i
  blk_ext [iblk3, index3_7 t]
theorem read3_8 (c : Dev nD) (t : Fin cfg3.N) : iblk3 V c 8 t = V c main_v18 := by
  funext i
  blk_ext [iblk3, index3_8 t]
theorem read3_9 (c : Dev nD) (t : Fin cfg3.N) : iblk3 V c 9 t = V c main_v215 := by
  funext i
  blk_ext [iblk3, index3_9 t]
theorem read3_10 (c : Dev nD) (t : Fin cfg3.N) : iblk3 V c 10 t = V c main_v20 := by
  funext i
  blk_ext [iblk3, index3_10 t]
theorem read3_11 (c : Dev nD) (t : Fin cfg3.N) : iblk3 V c 11 t = V c main_v216 := by
  funext i
  blk_ext [iblk3, index3_11 t]
theorem read3_12 (c : Dev nD) (t : Fin cfg3.N) : iblk3 V c 12 t = V c main_v22 := by
  funext i
  blk_ext [iblk3, index3_12 t]
theorem read3_13 (c : Dev nD) (t : Fin cfg3.N) : iblk3 V c 13 t = V c main_v217 := by
  funext i
  blk_ext [iblk3, index3_13 t]
theorem read3_14 (c : Dev nD) (t : Fin cfg3.N) : iblk3 V c 14 t = V c main_v24 := by
  funext i
  blk_ext [iblk3, index3_14 t]
theorem read3_15 (c : Dev nD) (t : Fin cfg3.N) : iblk3 V c 15 t = V c main_v218 := by
  funext i
  blk_ext [iblk3, index3_15 t]

/-- The hidden layer of image `b` from the buffers that the call reads. -/
def hiddenV (c : Dev nD) (b : Fin 8) (n j : Fin 256) : EReal :=
  hiddenX (V c main_v201) (V c main_v211_0) (V c main_v211_1) (V c main_v6) (V c main_v212) (V c main_v8) (V c main_v213)
    (V c main_v214) (V c main_v18) (V c main_v215) (V c main_v20) (V c main_v216) b n j

/-- The class logits of image `b`, from the buffers that the call reads. -/
def clsV (c : Dev nD) (b : Fin 8) (n : Fin 256) (k : Fin 80) : EReal :=
  Spec.outLayer (hiddenV V c b n) (fun k c' => V c main_v22 (ix2 k c')) (fun c' => V c main_v217 (ix2 0 c')) k

/-- What the body leaves of them in the staging buffer. -/
theorem cls_blk (c : Dev nD) (t : Fin cfg3.N) (b : Fin 8) (n : Fin 256) (k : Fin 80) :
    (dat3 V c).after 16 t (ix3 b n k) = clsV V c b n k := by
  rw [after3_16, read3_0, read3_1, read3_2, read3_3, read3_4, read3_5, read3_6, read3_7, read3_8, read3_9, read3_10, read3_11, read3_12, read3_13, read3_14, read3_15]
  exact cls_out _ _ _ _ _ _ _ _ _ _ _ _ _ _ _ _ b n k

/-- The result array. -/
theorem region3_cls (c : Dev nD) :
    (dat3 V c).arrAt 16 cfg3.N = fun i : S8x256x80.Idx => clsV V c (i 0) (i 1) (i 2) := by
  refine (dat3 V c).arrAt_eq_of_covers 16 _ (by decide +kernel) fun t hf y => ?_
  blk_simp
  have e : ((View.whole main_v219_0).slice (win3_16.rect t)).emb y = ix3 (y 0) (y 1) (y 2) := by
    blk_ext [index3_16 t]
  rw [e]
  have hy : y = ix3 (y 0) (y 1) (y 2) := funext fun a => by fin_cases a <;> rfl
  exact (congrArg ((dat3 V c).after 16 t) hy).trans (cls_blk V c t (y 0) (y 1) (y 2))

end Cert.KernelCIdeal
-- ==== Proof.WholeHost.lean ====
/-
  What the host operations between the calls leave in the buffers that the calls read, from the arguments: the packed
  weights of the second convolution, the features with a patch per row, the weights and the biases.
-/
module

public import proofs.«01_k».proof.Proof.Gen.KernelCIdeal.Launch
public import Idealize.ShloMosaic.Lib.Pipeline.ValueKit
public import Idealize.ShloMosaic.Lib.Pointwise

@[expose] public section

set_option maxRecDepth 16384

noncomputable section

namespace Cert.KernelCIdeal

open Cert.KernelCIdeal.Gen
open Idealize.ShloMosaic Idealize.ShloMosaic.TcCoe

variable (X : Valuation τ sig (Elt Ideal)) (W : Vec Ideal S64x64x3x3 .f32)

/-- The first stretch of host operations, up to the blocks of the packed weights' first array. -/
abbrev opsA : List (HloOp τ sig (Elt Ideal)) := (hostOps1 (F := Ideal)).take 15
/-- The next ones, up to the blocks of the second array. -/
abbrev opsB : List (HloOp τ sig (Elt Ideal)) := ((hostOps1 (F := Ideal)).drop 15).take 19
/-- The rest: both arrays put together, and the bias. -/
abbrev opsC : List (HloOp τ sig (Elt Ideal)) := (hostOps1 (F := Ideal)).drop 34

theorem host1_split : StableHlo.after hostOps1 X = StableHlo.after opsC (StableHlo.after opsB (StableHlo.after opsA X)) := by
  rw [← StableHlo.after_append, ← StableHlo.after_append]
  rfl

/-- The block of zeros over the left taps of row `ky`. -/
def blockL (W : Vec Ideal S64x64x3x3 .f32) (ky : Fin 3) (r : Fin 128) (d : Fin 64) : EReal :=
  if h : r.val < 64 then 0 else W (ix4 d ⟨r.val - 64, by omega⟩ ky 0)

/-- The middle taps of row `ky` over its right taps. -/
def blockR (W : Vec Ideal S64x64x3x3 .f32) (ky : Fin 3) (r : Fin 128) (d : Fin 64) : EReal :=
  if h : r.val < 64 then W (ix4 d ⟨r.val, h⟩ ky 1) else W (ix4 d ⟨r.val - 64, by omega⟩ ky 2)

theorem opsA_v0 : StableHlo.after opsA X (Proc.devRef .tc main_v161)
    = transpose S3x3x64x64 [2, 3, 1, 0] (X (Proc.devRef .tc main_v4)) transposes_S64x64x3x3_S3x3x64x64_2_3_1_0 := by
  simp only [opsA, hostOps1, List.take_succ_cons, List.take_zero]
  after_results

theorem opsA_v11 (z : Fin 1) (r : Fin 128) (d : Fin 64) :
    StableHlo.after opsA X (Proc.devRef .tc main_v172) (ix3 z r d) = blockL (X (Proc.devRef .tc main_v4)) 0 r d := by
  simp only [opsA, hostOps1, List.take_succ_cons, List.take_zero]
  after_results
  pointwise
  rfl

theorem opsA_v12 (z : Fin 1) (r : Fin 128) (d : Fin 64) :
    StableHlo.after opsA X (Proc.devRef .tc main_v173) (ix3 z r d) = blockL (X (Proc.devRef .tc main_v4)) 1 r d := by
  simp only [opsA, hostOps1, List.take_succ_cons, List.take_zero]
  after_results
  pointwise
  rfl

theorem opsA_v13 (z : Fin 1) (r : Fin 128) (d : Fin 64) :
    StableHlo.after opsA X (Proc.devRef .tc main_v174) (ix3 z r d) = blockL (X (Proc.devRef .tc main_v4)) 2 r d := by
  simp only [opsA, hostOps1, List.take_succ_cons, List.take_zero]
  after_results
  pointwise
  rfl

theorem opsB_v30 (h : X (Proc.devRef .tc main_v161) = transpose S3x3x64x64 [2, 3, 1, 0] W transposes_S64x64x3x3_S3x3x64x64_2_3_1_0)
    (z : Fin 1) (r : Fin 128) (d : Fin 64) :
    StableHlo.after opsB X (Proc.devRef .tc main_v191) (ix3 z r d) = blockR W 0 r d := by
  simp only [opsB, hostOps1, List.take_succ_cons, List.take_zero, List.drop_succ_cons, List.drop_zero]
  after_results
  rw [h]
  pointwise
  rfl

theorem opsB_v31 (h : X (Proc.devRef .tc main_v161) = transpose S3x3x64x64 [2, 3, 1, 0] W transposes_S64x64x3x3_S3x3x64x64_2_3_1_0)
    (z : Fin 1) (r : Fin 128) (d : Fin 64) :
    StableHlo.after opsB X (Proc.devRef .tc main_v192) (ix3 z r d) = blockR W 1 r d := by
  simp only [opsB, hostOps1, List.take_succ_cons, List.take_zero, List.drop_succ_cons, List.drop_zero]
  after_results
  rw [h]
  pointwise
  rfl

theorem opsB_v32 (h : X (Proc.devRef .tc main_v161) = transpose S3x3x64x64 [2, 3, 1, 0] W transposes_S64x64x3x3_S3x3x64x64_2_3_1_0)
    (z : Fin 1) (r : Fin 128) (d : Fin 64) :
    StableHlo.after opsB X (Proc.devRef .tc main_v193) (ix3 z r d) = blockR W 2 r d := by
  simp only [opsB, hostOps1, List.take_succ_cons, List.take_zero, List.drop_succ_cons, List.drop_zero]
  after_results
  rw [h]
  pointwise
  rfl

theorem opsC_v35 (ky : Fin 3) (r : Fin 128) (d : Fin 64) :
    StableHlo.after opsC (StableHlo.after opsB X) (Proc.devRef .tc main_v196) (ix2 ⟨128 * ky.val + r.val, by omega⟩ d)
      = ![(X (Proc.devRef .tc main_v172) (ix3 0 r d) : EReal), X (Proc.devRef .tc main_v173) (ix3 0 r d),
          X (Proc.devRef .tc main_v174) (ix3 0 r d)] ky := by
  simp only [opsB, opsC, hostOps1, List.take_succ_cons, List.take_zero, List.drop_succ_cons, List.drop_zero]
  after_results
  pointwise
  fin_cases ky <;> rfl

theorem opsC_v37 (ky : Fin 3) (r : Fin 128) (d : Fin 64) :
    StableHlo.after opsC X (Proc.devRef .tc main_v198) (ix2 ⟨128 * ky.val + r.val, by omega⟩ d)
      = ![(X (Proc.devRef .tc main_v191) (ix3 0 r d) : EReal), X (Proc.devRef .tc main_v192) (ix3 0 r d),
          X (Proc.devRef .tc main_v193) (ix3 0 r d)] ky := by
  simp only [opsC, hostOps1, List.drop_succ_cons, List.drop_zero]
  after_results
  pointwise
  fin_cases ky <;> rfl

/-- The first packed array: zeros over the left taps, per row of the window. -/
theorem host1_wd1 (ky : Fin 3) (r : Fin 128) (d : Fin 64) :
    StableHlo.after hostOps1 X (Proc.devRef .tc main_v196) (ix2 ⟨128 * ky.val + r.val, by omega⟩ d)
      = blockL (X (Proc.devRef .tc main_v4)) ky r d := by
  rw [host1_split]
  refine (opsC_v35 _ ky r d).trans ?_
  fin_cases ky
  · exact opsA_v11 X 0 r d
  · exact opsA_v12 X 0 r d
  · exact opsA_v13 X 0 r d

/-- The second packed array: the middle taps over the right taps, per row of the window. -/
theorem host1_wd2 (ky : Fin 3) (r : Fin 128) (d : Fin 64) :
    StableHlo.after hostOps1 X (Proc.devRef .tc main_v198) (ix2 ⟨128 * ky.val + r.val, by omega⟩ d)
      = blockR (X (Proc.devRef .tc main_v4)) ky r d := by
  rw [host1_split]
  refine (opsC_v37 _ ky r d).trans ?_
  fin_cases ky
  · exact opsB_v30 _ _ (opsA_v0 X) 0 r d
  · exact opsB_v31 _ _ (opsA_v0 X) 0 r d
  · exact opsB_v32 _ _ (opsA_v0 X) 0 r d

theorem host1_bias (d : Fin 64) :
    StableHlo.after hostOps1 X (Proc.devRef .tc main_v199) (ix2 0 d) = X (Proc.devRef .tc main_v5) (ix1 d) := by
  after_results
  pointwise

/-- The features, with image and patch as the rows. -/
theorem host2_feat (b : Fin 8) (n : Fin 256) (k : Fin 64) :
    StableHlo.after hostOps2 X (Proc.devRef .tc main_v201) (ix3 b n k)
      = X (Proc.devRef .tc main_v200) (ix4 b ⟨n.val / 16, by omega⟩ ⟨n.val % 16, by omega⟩ k) := by
  after_results
  pointwise

theorem host2_v41 (i : Fin 3072) (j : Fin 512) :
    StableHlo.after hostOps2 X (Proc.devRef .tc main_v203) (ix2 i j) = (X (Proc.devRef .tc main_v10) (ix2 i j) : EReal) := by
  after_results
  pointwise

theorem host2_v43 (i : Fin 512) (j : Fin 512) :
    StableHlo.after hostOps2 X (Proc.devRef .tc main_v205) (ix2 i j) = (X (Proc.devRef .tc main_v12) (ix2 i j) : EReal) := by
  after_results
  pointwise

theorem host2_v45 (i : Fin 512) (j : Fin 128) :
    StableHlo.after hostOps2 X (Proc.devRef .tc main_v207) (ix2 i j) = (X (Proc.devRef .tc main_v14) (ix2 i j) : EReal) := by
  after_results
  pointwise

theorem host2_v47 (i : Fin 3072) (j : Fin 128) :
    StableHlo.after hostOps2 X (Proc.devRef .tc main_v209) (ix2 i j) = (X (Proc.devRef .tc main_v16) (ix2 i j) : EReal) := by
  after_results
  pointwise

theorem host2_v42 (j : Fin 512) :
    StableHlo.after hostOps2 X (Proc.devRef .tc main_v204) (ix2 0 j) = X (Proc.devRef .tc main_v11) (ix1 j) := by
  after_results
  pointwise

theorem host2_v44 (j : Fin 512) :
    StableHlo.after hostOps2 X (Proc.devRef .tc main_v206) (ix2 0 j) = X (Proc.devRef .tc main_v13) (ix1 j) := by
  after_results
  pointwise

theorem host2_v46 (j : Fin 128) :
    StableHlo.after hostOps2 X (Proc.devRef .tc main_v208) (ix2 0 j) = X (Proc.devRef .tc main_v15) (ix1 j) := by
  after_results
  pointwise

theorem host2_v48 (j : Fin 128) :
    StableHlo.after hostOps2 X (Proc.devRef .tc main_v210) (ix2 0 j) = X (Proc.devRef .tc main_v17) (ix1 j) := by
  after_results
  pointwise

theorem host3_v50 (j : Fin 32) :
    StableHlo.after hostOps3 X (Proc.devRef .tc main_v212) (ix2 0 j) = X (Proc.devRef .tc main_v7) (ix1 j) := by
  after_results
  pointwise

theorem host3_v53 (j : Fin 256) :
    StableHlo.after hostOps3 X (Proc.devRef .tc main_v215) (ix2 0 j) = X (Proc.devRef .tc main_v19) (ix1 j) := by
  after_results
  pointwise

theorem host3_v54 (j : Fin 256) :
    StableHlo.after hostOps3 X (Proc.devRef .tc main_v216) (ix2 0 j) = X (Proc.devRef .tc main_v21) (ix1 j) := by
  after_results
  pointwise

theorem host3_v55 (j : Fin 80) :
    StableHlo.after hostOps3 X (Proc.devRef .tc main_v217) (ix2 0 j) = X (Proc.devRef .tc main_v23) (ix1 j) := by
  after_results
  pointwise

theorem host3_v56 (j : Fin 4) :
    StableHlo.after hostOps3 X (Proc.devRef .tc main_v218) (ix2 0 j) = X (Proc.devRef .tc main_v25) (ix1 j) := by
  after_results
  pointwise

theorem host3_v51 :
    StableHlo.after hostOps3 X (Proc.devRef .tc main_v213) (ix2 0 0) = X (Proc.devRef .tc main_v9) (ix1 0) := by
  after_results
  pointwise

theorem host3_v52 :
    StableHlo.after hostOps3 X (Proc.devRef .tc main_v214) (ix2 0 0) = X (Proc.devRef .tc main_arg10) ix0 := by
  after_results
  pointwise

/-- The patches, each as one row, of a constant array of patches. -/
theorem host2_patches (y : EReal) (h : ∀ i, X (Proc.devRef .tc main_v1) i = y) (b : Fin 8) (n : Fin 256) (k : Fin 3072) :
    StableHlo.after hostOps2 X (Proc.devRef .tc main_v202) (ix3 b n k) = y := by
  after_results
  exact h _

/-- A number spread over an array stands in every place. -/
theorem spread_at {T : Shape} (h : S_.BroadcastsInDim T ![]) (f : Vec Ideal S_ .f32) (i : T.Idx) : broadcastInDim T ![] h f i = f ix0 :=
  congrArg f (funext fun a => a.elim0)

/-- The arrays of `Y` hold the numbers of `X`, each in every place. -/
structure Spread (Y : Valuation τ sig (Elt Ideal)) : Prop where
  v1 : ∀ i, Y (Proc.devRef .tc main_v1) i = X (Proc.devRef .tc main_arg1) ix0
  v4 : ∀ i, Y (Proc.devRef .tc main_v4) i = X (Proc.devRef .tc main_arg4) ix0
  v5 : ∀ i, Y (Proc.devRef .tc main_v5) i = X (Proc.devRef .tc main_arg5) ix0
  v6 : ∀ i, Y (Proc.devRef .tc main_v6) i = X (Proc.devRef .tc main_arg6) ix0
  v7 : ∀ i, Y (Proc.devRef .tc main_v7) i = X (Proc.devRef .tc main_arg7) ix0
  v8 : ∀ i, Y (Proc.devRef .tc main_v8) i = X (Proc.devRef .tc main_arg8) ix0
  v9 : ∀ i, Y (Proc.devRef .tc main_v9) i = X (Proc.devRef .tc main_arg9) ix0
  v10 : ∀ i, Y (Proc.devRef .tc main_v10) i = X (Proc.devRef .tc main_arg11) ix0
  v11 : ∀ i, Y (Proc.devRef .tc main_v11) i = X (Proc.devRef .tc main_arg12) ix0
  v12 : ∀ i, Y (Proc.devRef .tc main_v12) i = X (Proc.devRef .tc main_arg13) ix0
  v13 : ∀ i, Y (Proc.devRef .tc main_v13) i = X (Proc.devRef .tc main_arg14) ix0
  v14 : ∀ i, Y (Proc.devRef .tc main_v14) i = X (Proc.devRef .tc main_arg15) ix0
  v15 : ∀ i, Y (Proc.devRef .tc main_v15) i = X (Proc.devRef .tc main_arg16) ix0
  v16 : ∀ i, Y (Proc.devRef .tc main_v16) i = X (Proc.devRef .tc main_arg17) ix0
  v17 : ∀ i, Y (Proc.devRef .tc main_v17) i = X (Proc.devRef .tc main_arg18) ix0
  v18 : ∀ i, Y (Proc.devRef .tc main_v18) i = X (Proc.devRef .tc main_arg19) ix0
  v19 : ∀ i, Y (Proc.devRef .tc main_v19) i = X (Proc.devRef .tc main_arg20) ix0
  v20 : ∀ i, Y (Proc.devRef .tc main_v20) i = X (Proc.devRef .tc main_arg21) ix0
  v21 : ∀ i, Y (Proc.devRef .tc main_v21) i = X (Proc.devRef .tc main_arg22) ix0
  v22 : ∀ i, Y (Proc.devRef .tc main_v22) i = X (Proc.devRef .tc main_arg23) ix0
  v23 : ∀ i, Y (Proc.devRef .tc main_v23) i = X (Proc.devRef .tc main_arg24) ix0
  v24 : ∀ i, Y (Proc.devRef .tc main_v24) i = X (Proc.devRef .tc main_arg25) ix0
  v25 : ∀ i, Y (Proc.devRef .tc main_v25) i = X (Proc.devRef .tc main_arg26) ix0

/-- The first host operations spread the arguments' numbers. -/
theorem host0_spread : Spread X (StableHlo.after hostOps0 X) := by
  constructor <;> intro i <;> after_results <;> exact spread_at _ _ _

end Cert.KernelCIdeal
-- ==== Proof.WholeValue.lean ====
/-
  The kernel's class logits at the end of a run where every argument is one number, in the plain sums of `Spec`.
-/
module

public import proofs.«01_k».proof.Proof.Conv1Host
public import proofs.«01_k».proof.Proof.WholeRegion0
public import proofs.«01_k».proof.Proof.WholeRegion1
public import proofs.«01_k».proof.Proof.WholeRegion2
public import proofs.«01_k».proof.Proof.WholeRegion3
public import proofs.«01_k».proof.Proof.WholeHost

@[expose] public section

set_option maxRecDepth 16384

noncomputable section

namespace Cert.KernelCIdeal

open Cert.KernelCIdeal.Gen
open Idealize.ShloMosaic Idealize.ShloMosaic.TcCoe

/-- The lanes that hold the first filter's number, per row of the packed weights. -/
def packedVal (w : EReal) (r : Fin 72) (l : Fin 128) : EReal := if windows.any (fun p => inWin p r l) then w else 0

/-- The arguments of the network after the first convolution, where every argument is one number. -/
def netK (m : (ℓ : Loc nD τ sig) → Buf (Elt Ideal) ℓ) (c : Dev nD) : Spec.Net where
  x := fun _ i j l => rowVal (m ((c : Thread nD τ).loc main_arg0) ix0) (packedVal (m ((c : Thread nD τ).loc main_arg2) ix0)) (fun _ => m ((c : Thread nD τ).loc main_arg3) ix0) i j l
  pf := fun _ _ _ => m ((c : Thread nD τ).loc main_arg1) ix0
  w := fun _ _ _ _ => m ((c : Thread nD τ).loc main_arg4) ix0
  wb := fun _ => m ((c : Thread nD τ).loc main_arg5) ix0
  aw1 := fun _ _ => m ((c : Thread nD τ).loc main_arg6) ix0
  ab1 := fun _ => m ((c : Thread nD τ).loc main_arg7) ix0
  aw2 := fun _ => m ((c : Thread nD τ).loc main_arg8) ix0
  ab2 := m ((c : Thread nD τ).loc main_arg9) ix0
  thr := m ((c : Thread nD τ).loc main_arg10) ix0
  bw1 := fun _ _ => m ((c : Thread nD τ).loc main_arg11) ix0
  bb1 := fun _ => m ((c : Thread nD τ).loc main_arg12) ix0
  bw2 := fun _ _ => m ((c : Thread nD τ).loc main_arg13) ix0
  bb2 := fun _ => m ((c : Thread nD τ).loc main_arg14) ix0
  bw3 := fun _ _ => m ((c : Thread nD τ).loc main_arg15) ix0
  bb3 := fun _ => m ((c : Thread nD τ).loc main_arg16) ix0
  sw := fun _ _ => m ((c : Thread nD τ).loc main_arg17) ix0
  sb := fun _ => m ((c : Thread nD τ).loc main_arg18) ix0
  gw := fun _ _ => m ((c : Thread nD τ).loc main_arg19) ix0
  gb := fun _ => m ((c : Thread nD τ).loc main_arg20) ix0
  dw := fun _ _ => m ((c : Thread nD τ).loc main_arg21) ix0
  db := fun _ => m ((c : Thread nD τ).loc main_arg22) ix0
  cw := fun _ _ => m ((c : Thread nD τ).loc main_arg23) ix0
  cb := fun _ => m ((c : Thread nD τ).loc main_arg24) ix0
  rw := fun _ _ => m ((c : Thread nD τ).loc main_arg25) ix0
  rb := fun _ => m ((c : Thread nD τ).loc main_arg26) ix0

section Calls

variable (V : (c : Dev nD) → (b : Ref sig .tc) → Buf (Elt Ideal) ((c : Thread nD τ).loc b)) (N : Spec.Net) (c : Dev nD)

/-- The buffers that the first call reads hold the arguments `N`. -/
structure Holds1 : Prop where
  x : ∀ b r j k, V c main_v160 (ix4 b r j k) = N.x b r j k
  l : ∀ (ky : Fin 3) (r : Fin 128) (d : Fin 64), V c main_v196 (ix2 ⟨128 * ky.val + r.val, by omega⟩ d)
        = if h : r.val < 64 then (0 : EReal) else N.w d ⟨r.val - 64, by omega⟩ ky 0
  r : ∀ (ky : Fin 3) (r : Fin 128) (d : Fin 64), V c main_v198 (ix2 ⟨128 * ky.val + r.val, by omega⟩ d)
        = if h : r.val < 64 then N.w d ⟨r.val, h⟩ ky 1 else N.w d ⟨r.val - 64, by omega⟩ ky 2
  b : ∀ d, V c main_v199 (ix2 0 d) = N.wb d

theorem Holds1.packed {V N c} (h : Holds1 V N c) : Packed V N.w c where
  mid ky k d := (h.r ky ⟨k.val, by omega⟩ d).trans (dif_pos k.isLt)
  right ky k d := by
    have e : (⟨128 * ky.val + 64 + k.val, by omega⟩ : Fin 384) = ⟨128 * ky.val + (⟨64 + k.val, by omega⟩ : Fin 128).val, by simp only []; omega⟩ :=
      Fin.ext (by simp only []; omega)
    rw [e]
    refine (h.r ky ⟨64 + k.val, by omega⟩ d).trans ((dif_neg (by simp only []; omega)).trans ?_)
    exact congrArg (fun i => N.w d i ky 2) (Fin.ext (by simp only []; omega))
  zero ky k d := (h.l ky ⟨k.val, by omega⟩ d).trans (dif_pos k.isLt)
  left ky k d := by
    have e : (⟨128 * ky.val + 64 + k.val, by omega⟩ : Fin 384) = ⟨128 * ky.val + (⟨64 + k.val, by omega⟩ : Fin 128).val, by simp only []; omega⟩ :=
      Fin.ext (by simp only []; omega)
    rw [e]
    refine (h.l ky ⟨64 + k.val, by omega⟩ d).trans ((dif_neg (by simp only []; omega)).trans ?_)
    exact congrArg (fun i => N.w d i ky 0) (Fin.ext (by simp only []; omega))

theorem feat_of {V N c} (h : Holds1 V N c) (b : Fin 8) (p q : Fin 16) (d : Fin 64) :
    featV V N.w c b p q d = Spec.feat (N.x b) N.w N.wb p q d := by
  simp only [featV, h.x, h.b]

/-- The buffers that the second call reads hold the arguments `N`. -/
structure Holds2 : Prop where
  pf : ∀ b n i, V c main_v202 (ix3 b n i) = N.pf b n i
  w1 : ∀ i j, V c main_v203 (ix2 i j) = N.bw1 i j
  b1 : ∀ j, V c main_v204 (ix2 0 j) = N.bb1 j
  w2 : ∀ i j, V c main_v205 (ix2 i j) = N.bw2 i j
  b2 : ∀ j, V c main_v206 (ix2 0 j) = N.bb2 j
  w3 : ∀ i j, V c main_v207 (ix2 i j) = N.bw3 i j
  b3 : ∀ j, V c main_v208 (ix2 0 j) = N.bb3 j
  sw : ∀ i j, V c main_v209 (ix2 i j) = N.sw i j
  sb : ∀ j, V c main_v210 (ix2 0 j) = N.sb j

theorem big_of {V N c} (h : Holds2 V N c) (b : Fin 8) (n : Fin 256) (k : Fin 128) : bigV V c b n k = N.bigs b n k := by
  simp only [bigV, h.pf, h.w1, h.b1, h.w2, h.b2, h.w3, h.b3]
  rfl

theorem small_of {V N c} (h : Holds2 V N c) (b : Fin 8) (n : Fin 256) (k : Fin 128) : smallV V c b n k = N.smalls b n k := by
  simp only [smallV, h.pf, h.sw, h.sb]
  rfl

/-- The buffers that the third call reads hold the features, the experts' outputs and the arguments `N`. -/
structure Holds3 : Prop where
  f : ∀ b n k, V c main_v201 (ix3 b n k) = N.feats b n k
  bg : ∀ b n k, V c main_v211_0 (ix3 b n k) = N.bigs b n k
  sm : ∀ b n k, V c main_v211_1 (ix3 b n k) = N.smalls b n k
  aw1 : ∀ i j, V c main_v6 (ix2 i j) = N.aw1 i j
  ab1 : ∀ j, V c main_v212 (ix2 0 j) = N.ab1 j
  aw2 : ∀ j, V c main_v8 (ix2 j 0) = N.aw2 j
  ab2 : V c main_v213 (ix2 0 0) = N.ab2
  thr : V c main_v214 (ix2 0 0) = N.thr
  gw : ∀ i j, V c main_v18 (ix2 i j) = N.gw i j
  gb : ∀ j, V c main_v215 (ix2 0 j) = N.gb j
  dw : ∀ i j, V c main_v20 (ix2 i j) = N.dw i j
  db : ∀ j, V c main_v216 (ix2 0 j) = N.db j
  cw : ∀ i j, V c main_v22 (ix2 i j) = N.cw i j
  cb : ∀ j, V c main_v217 (ix2 0 j) = N.cb j
  rw : ∀ i j, V c main_v24 (ix2 i j) = N.rw i j
  rb : ∀ j, V c main_v218 (ix2 0 j) = N.rb j

theorem hidden_of {V N c} (h : Holds3 V N c) (b : Fin 8) : hiddenV V c b = N.hid b := by
  funext n j
  simp only [hiddenV, hiddenX, h.f, h.bg, h.sm, h.aw1, h.ab1, h.aw2, h.ab2, h.thr, h.gw, h.gb, h.dw, h.db]
  rfl

theorem cls_of {V N c} (h : Holds3 V N c) (b : Fin 8) (n : Fin 256) (k : Fin 80) : clsV V c b n k = N.cls b n k := by
  simp only [clsV, hidden_of h, h.cw, h.cb]
  rfl

end Calls

section Run

variable (m : (ℓ : Loc nD τ sig) → Buf (Elt Ideal) ℓ) (ρ : Dev nD → PrngReg) (c : Dev nD)

theorem spread1 : Spread (W0 m ρ c) (W1 m ρ c) := host0_spread _

/-- A buffer that the first call does not write, as its result is read. -/
theorem kept4 (b : Ref sig .tc) (h2 : ∀ w : Fin cfg0.W, Pipeline.arrRef spec0 w = b → (cfg0.win w).isOut = false)
    (h3 : b ∉ hostOps1_W) (h4 : ∀ w : Fin cfg1.W, Pipeline.arrRef spec1 w = b → (cfg1.win w).isOut = false) :
    W4 m ρ c (Proc.devRef .tc b) = W1 m ρ c (Proc.devRef .tc b) :=
  (W4_of m ρ c b h4).trans ((W3_of m ρ c b h3).trans (W2_of m ρ c b h2))

/-- A buffer that no call before the last one writes. -/
theorem kept6 (b : Ref sig .tc) (h2 : ∀ w : Fin cfg0.W, Pipeline.arrRef spec0 w = b → (cfg0.win w).isOut = false)
    (h3 : b ∉ hostOps1_W) (h4 : ∀ w : Fin cfg1.W, Pipeline.arrRef spec1 w = b → (cfg1.win w).isOut = false)
    (h5 : b ∉ hostOps2_W) (h6 : ∀ w : Fin cfg2.W, Pipeline.arrRef spec2 w = b → (cfg2.win w).isOut = false) :
    W6 m ρ c (Proc.devRef .tc b) = W1 m ρ c (Proc.devRef .tc b) :=
  (W6_of m ρ c b h6).trans ((W5_of m ρ c b h5).trans (kept4 m ρ c b h2 h3 h4))

theorem filter2 : W2 m ρ c (Proc.devRef .tc main_v4) = fun _ => m ((c : Thread nD τ).loc main_arg4) ix0 :=
  (W2_of m ρ c main_v4 (by decide)).trans (funext (spread1 m ρ c).v4)

theorem holds1 : Holds1 (V3 m ρ) (netK m c) c where
  x b r j k := by
    refine (congrFun (W3_of m ρ c main_v160 (by decide)) (ix4 b r j k)).trans ?_
    exact congrFun ((W2_arr m ρ c 4).trans (region0 (V1 m ρ) c _ _ _ (fun i => by rw [eq_ix4 i]; exact host0_pixels (W0 m ρ c) _ _ _ _)
      (fun k l => host0_weights (W0 m ρ c) k l) (fun l => host0_bias (W0 m ρ c) l))) (ix4 b r j k)
  l ky r d := by
    refine (host1_wd1 (W2 m ρ c) ky r d).trans ?_
    rw [filter2 m ρ c]
    rfl
  r ky r d := by
    refine (host1_wd2 (W2 m ρ c) ky r d).trans ?_
    rw [filter2 m ρ c]
    rfl
  b d := (host1_bias (W2 m ρ c) d).trans ((congrFun (W2_of m ρ c main_v5 (by decide)) (ix1 d)).trans ((spread1 m ρ c).v5 _))

theorem holds2 : Holds2 (V5 m ρ) (netK m c) c where
  pf b n i := host2_patches (W4 m ρ c) _ (fun j => (congrFun (kept4 m ρ c main_v1 (by decide) (by decide) (by decide)) j).trans ((spread1 m ρ c).v1 j)) b n i
  w1 i j := (host2_v41 (W4 m ρ c) i j).trans ((congrFun (kept4 m ρ c main_v10 (by decide) (by decide) (by decide)) (ix2 i j)).trans ((spread1 m ρ c).v10 _))
  b1 j := (host2_v42 (W4 m ρ c) j).trans ((congrFun (kept4 m ρ c main_v11 (by decide) (by decide) (by decide)) (ix1 j)).trans ((spread1 m ρ c).v11 _))
  w2 i j := (host2_v43 (W4 m ρ c) i j).trans ((congrFun (kept4 m ρ c main_v12 (by decide) (by decide) (by decide)) (ix2 i j)).trans ((spread1 m ρ c).v12 _))
  b2 j := (host2_v44 (W4 m ρ c) j).trans ((congrFun (kept4 m ρ c main_v13 (by decide) (by decide) (by decide)) (ix1 j)).trans ((spread1 m ρ c).v13 _))
  w3 i j := (host2_v45 (W4 m ρ c) i j).trans ((congrFun (kept4 m ρ c main_v14 (by decide) (by decide) (by decide)) (ix2 i j)).trans ((spread1 m ρ c).v14 _))
  b3 j := (host2_v46 (W4 m ρ c) j).trans ((congrFun (kept4 m ρ c main_v15 (by decide) (by decide) (by decide)) (ix1 j)).trans ((spread1 m ρ c).v15 _))
  sw i j := (host2_v47 (W4 m ρ c) i j).trans ((congrFun (kept4 m ρ c main_v16 (by decide) (by decide) (by decide)) (ix2 i j)).trans ((spread1 m ρ c).v16 _))
  sb j := (host2_v48 (W4 m ρ c) j).trans ((congrFun (kept4 m ρ c main_v17 (by decide) (by decide) (by decide)) (ix1 j)).trans ((spread1 m ρ c).v17 _))

theorem holds3 : Holds3 (V7 m ρ) (netK m c) c where
  f b n k := by
    refine (congrFun (W7_of m ρ c main_v201 (by decide)) (ix3 b n k)).trans ?_
    refine (congrFun (W6_of m ρ c main_v201 (by decide)) (ix3 b n k)).trans ?_
    refine (host2_feat (W4 m ρ c) b n k).trans ?_
    refine (congrFun ((W4_arr m ρ c 4).trans (region1 (V3 m ρ) (netK m c).w c (holds1 m ρ c).packed)) (ix4 b _ _ k)).trans ?_
    exact feat_of (holds1 m ρ c) b _ _ k
  bg b n k := by
    refine (congrFun (W7_of m ρ c main_v211_0 (by decide)) (ix3 b n k)).trans ?_
    refine (congrFun ((W6_arr m ρ c 9).trans (region2_big (V5 m ρ) c)) (ix3 b n k)).trans ?_
    exact big_of (holds2 m ρ c) b n k
  sm b n k := by
    refine (congrFun (W7_of m ρ c main_v211_1 (by decide)) (ix3 b n k)).trans ?_
    refine (congrFun ((W6_arr m ρ c 10).trans (region2_small (V5 m ρ) c)) (ix3 b n k)).trans ?_
    exact small_of (holds2 m ρ c) b n k
  aw1 i j := (congrFun ((W7_of m ρ c main_v6 (by decide)).trans (kept6 m ρ c main_v6 (by decide) (by decide) (by decide) (by decide) (by decide))) (ix2 i j)).trans ((spread1 m ρ c).v6 _)
  ab1 j := (host3_v50 (W6 m ρ c) j).trans ((congrFun (kept6 m ρ c main_v7 (by decide) (by decide) (by decide) (by decide) (by decide)) (ix1 j)).trans ((spread1 m ρ c).v7 _))
  aw2 j := (congrFun ((W7_of m ρ c main_v8 (by decide)).trans (kept6 m ρ c main_v8 (by decide) (by decide) (by decide) (by decide) (by decide))) (ix2 j 0)).trans ((spread1 m ρ c).v8 _)
  ab2 := (host3_v51 (W6 m ρ c)).trans ((congrFun (kept6 m ρ c main_v9 (by decide) (by decide) (by decide) (by decide) (by decide)) (ix1 0)).trans ((spread1 m ρ c).v9 _))
  thr := (host3_v52 (W6 m ρ c)).trans (congrFun (W6_args m ρ c main_arg10 (by decide)) ix0)
  gw i j := (congrFun ((W7_of m ρ c main_v18 (by decide)).trans (kept6 m ρ c main_v18 (by decide) (by decide) (by decide) (by decide) (by decide))) (ix2 i j)).trans ((spread1 m ρ c).v18 _)
  gb j := (host3_v53 (W6 m ρ c) j).trans ((congrFun (kept6 m ρ c main_v19 (by decide) (by decide) (by decide) (by decide) (by decide)) (ix1 j)).trans ((spread1 m ρ c).v19 _))
  dw i j := (congrFun ((W7_of m ρ c main_v20 (by decide)).trans (kept6 m ρ c main_v20 (by decide) (by decide) (by decide) (by decide) (by decide))) (ix2 i j)).trans ((spread1 m ρ c).v20 _)
  db j := (host3_v54 (W6 m ρ c) j).trans ((congrFun (kept6 m ρ c main_v21 (by decide) (by decide) (by decide) (by decide) (by decide)) (ix1 j)).trans ((spread1 m ρ c).v21 _))
  cw i j := (congrFun ((W7_of m ρ c main_v22 (by decide)).trans (kept6 m ρ c main_v22 (by decide) (by decide) (by decide) (by decide) (by decide))) (ix2 i j)).trans ((spread1 m ρ c).v22 _)
  cb j := (host3_v55 (W6 m ρ c) j).trans ((congrFun (kept6 m ρ c main_v23 (by decide) (by decide) (by decide) (by decide) (by decide)) (ix1 j)).trans ((spread1 m ρ c).v23 _))
  rw i j := (congrFun ((W7_of m ρ c main_v24 (by decide)).trans (kept6 m ρ c main_v24 (by decide) (by decide) (by decide) (by decide) (by decide))) (ix2 i j)).trans ((spread1 m ρ c).v24 _)
  rb j := (host3_v56 (W6 m ρ c) j).trans ((congrFun (kept6 m ρ c main_v25 (by decide) (by decide) (by decide) (by decide) (by decide)) (ix1 j)).trans ((spread1 m ρ c).v25 _))

/-- The class logits at the end of a run. -/
theorem W8_cls : W8 m ρ c (Proc.devRef .tc main_v219_0) = fun i : S8x256x80.Idx => (netK m c).cls (i 0) (i 1) (i 2) :=
  (W8_arr m ρ c 16).trans ((region3_cls (V7 m ρ) c).trans (funext fun i => cls_of (holds3 m ρ c) (i 0) (i 1) (i 2)))

end Run

end Cert.KernelCIdeal
-- ==== Proof.WholeRun.lean ====
/-
  The run of the kernel on arguments that are one number each: its class logits.
-/
module

public import proofs.«01_k».proof.Proof.WholeValue

@[expose] public section

set_option maxRecDepth 16384

noncomputable section

namespace Cert.KernelCIdeal

open Cert.KernelCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Every run on arguments that are one number each ends with the class logits of `netK`. -/
theorem run : θ_run defs (onTc (τ := τ) (main (F := Ideal))) ⟨m, fun _ => 0, ρ⟩ (fun r => ∀ c : Dev nD,
      r.2.mem ((c.tc : Thread nD τ).loc main_v219_0) = (fun i : S8x256x80.Idx => (netK m c).cls (i 0) (i 1) (i 2))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      (h c _ (mem_uc main_v219_0 (by decide))).trans (W8_cls m ρ c))

end Cert.KernelCIdeal
-- ==== Proof.Const.lean ====
/-
  The network after the first convolution on arguments that are one number each: the first class logit of the first
  patch, as a strictly increasing function of the patch's feature, and that feature from the activations.
-/
module

public import proofs.«01_k».proof.Proof.Spec
public import Mathlib.Analysis.SpecialFunctions.Exp

@[expose] public section

noncomputable section

namespace Cert.Spec

open Idealize.ShloMosaic

/-- A sum of equal real numbers. -/
theorem sum_same (n : ℕ) (x : ℝ) : (∑ _c : Fin n, (x : EReal)) = ((n * x : ℝ) : EReal) := by
  rw [Finset.sum_const, Finset.card_univ, Fintype.card_fin, ← EReal.coe_nsmul, nsmul_eq_mul]

/-- A sum of one real number over the places where `p` holds. -/
theorem sum_count {n : ℕ} (p : Fin n → Bool) (x : ℝ) :
    (∑ c : Fin n, if p c then (x : EReal) else 0) = (((Finset.univ.filter fun c => p c = true).card * x : ℝ) : EReal) := by
  rw [← Finset.sum_filter, Finset.sum_const, ← EReal.coe_nsmul, nsmul_eq_mul]

theorem relu_coe {x : ℝ} (h : 0 ≤ x) : relu (x : EReal) = x := max_eq_left (by exact_mod_cast h)

/-- The logistic function of a real number. -/
def logistic (x : ℝ) : ℝ := 1 / (1 + Real.exp (-x))

theorem logistic_nonneg (x : ℝ) : 0 ≤ logistic x := by unfold logistic; positivity

theorem logistic_inj {x y : ℝ} (h : logistic x = logistic y) : x = y := by
  unfold logistic at h
  have h1 := (one_div_inj_pos (by positivity) (by positivity) h)
  linarith [Real.exp_injective (add_left_cancel h1)]
where
  one_div_inj_pos {a b : ℝ} (ha : 0 < a) (hb : 0 < b) (h : 1 / a = 1 / b) : a = b := by
    have := congrArg (fun t => 1 / t) h
    simpa using this

theorem sigm_coe (x : ℝ) : sigm (x : EReal) = (logistic x : EReal) := by
  have hp : (1 + Real.exp (-x)) ≠ 0 := by positivity
  unfold sigm logistic
  rw [← EReal.coe_neg, Ideal.exp_coe, ← EReal.coe_one, ← EReal.coe_add, Ideal.div_coe hp, ← EReal.coe_mul, one_mul]

/-! ### The feature of the first patch -/

/-- The activations' factor in column pair `J` and lane `k`. -/
def lane (J k : ℕ) : ℝ := if J = 0 ∧ k < 64 then 9 / 16 else 27 / 32

/-- The activations' factor in the row that row `ky` of the window at `I` reads, `a` being the first row's. -/
def rowC (a : ℝ) (I ky : ℕ) : ℝ := if 2 * I + ky = 0 then 0 else if 2 * I + ky = 1 then a else 1

/-- The first 16 rows of the activations: constant but for the first row and the first column. -/
def Banded (a : ℝ) (X : Fin 256 → Fin 128 → Fin 128 → EReal) : Prop :=
  ∀ i j l, i.val < 16 → X i j l = (((if i.val = 0 then a else 1) * lane j.val l.val : ℝ) : EReal)

variable {a : ℝ} {X : Fin 256 → Fin 128 → Fin 128 → EReal}

theorem row_band (h : Banded a X) (I : Fin 128) (hI : I.val < 8) (ky : Fin 3) (J k : Fin 128) :
    rowAt X I ky J k = ((rowC a I.val ky.val * lane J.val k.val : ℝ) : EReal) := by
  unfold rowAt rowC
  by_cases h0 : 2 * I.val + ky.val = 0
  · simp [h0]
  rw [dif_neg h0, h _ _ _ (by simp only []; omega), if_neg h0]
  by_cases h1 : 2 * I.val + ky.val = 1
  · rw [if_pos h1, if_pos (by simp only []; omega)]
  · rw [if_neg h1, if_neg (by simp only []; omega)]

/-- The sum of the three taps of one row. -/
def colC (J : ℕ) : ℝ := if J = 0 then 45 else 81

theorem taps_band (h : Banded a X) (W : Fin 64 → Fin 64 → Fin 3 → Fin 3 → EReal) (hW : ∀ d c p q, W d c p q = ((1 / 512 : ℝ) : EReal))
    (I J : Fin 128) (hI : I.val < 8) (d : Fin 64) (ky : Fin 3) :
    tapL X W I J d ky + tapM X W I J d ky + tapR X W I J d ky = ((rowC a I.val ky.val * colC J.val / 256 : ℝ) : EReal) := by
  have hM : tapM X W I J d ky = ((64 * (rowC a I.val ky.val * (if J.val = 0 then 9 / 16 else 27 / 32) * (1 / 512)) : ℝ) : EReal) := by
    unfold tapM
    have e : ∀ c : Fin 64, rowAt X I ky J ⟨c.val, by omega⟩ * W d c ky 1
        = ((rowC a I.val ky.val * (if J.val = 0 then 9 / 16 else 27 / 32) * (1 / 512) : ℝ) : EReal) := fun c => by
      rw [row_band h I hI, hW, ← EReal.coe_mul]
      unfold lane
      have hc : c.val < 64 := c.isLt
      by_cases hJ : J.val = 0 <;> simp [hJ, hc]
    rw [Finset.sum_congr rfl fun c _ => e c, sum_same]
    norm_num
  have hR : tapR X W I J d ky = ((64 * (rowC a I.val ky.val * (27 / 32) * (1 / 512)) : ℝ) : EReal) := by
    unfold tapR
    have e : ∀ c : Fin 64, rowAt X I ky J ⟨64 + c.val, by omega⟩ * W d c ky 2
        = ((rowC a I.val ky.val * (27 / 32) * (1 / 512) : ℝ) : EReal) := fun c => by
      rw [row_band h I hI, hW, ← EReal.coe_mul]
      unfold lane
      rw [if_neg (by simp only []; omega)]
    rw [Finset.sum_congr rfl fun c _ => e c, sum_same]
    norm_num
  have hL : tapL X W I J d ky = ((if J.val = 0 then 0 else 64 * (rowC a I.val ky.val * (27 / 32) * (1 / 512)) : ℝ) : EReal) := by
    unfold tapL
    by_cases hJ : J.val = 0
    · rw [dif_pos hJ, if_pos hJ, EReal.coe_zero]
    rw [dif_neg hJ, if_neg hJ]
    have e : ∀ c : Fin 64, rowAt X I ky ⟨J.val - 1, by omega⟩ ⟨64 + c.val, by omega⟩ * W d c ky 0
        = ((rowC a I.val ky.val * (27 / 32) * (1 / 512) : ℝ) : EReal) := fun c => by
      rw [row_band h I hI, hW, ← EReal.coe_mul]
      unfold lane
      rw [if_neg (by simp only []; omega)]
    rw [Finset.sum_congr rfl fun c _ => e c, sum_same]
    norm_num
  rw [hL, hM, hR, ← EReal.coe_add, ← EReal.coe_add]
  refine congrArg _ ?_
  unfold colC
  by_cases hJ : J.val = 0
  · simp only [if_pos hJ]; ring
  · simp only [if_neg hJ]; ring

/-- The second convolution where the first patch reads it. -/
theorem conv2_band (ha : 0 ≤ a) (h : Banded a X) (W : Fin 64 → Fin 64 → Fin 3 → Fin 3 → EReal) (hW : ∀ d c p q, W d c p q = ((1 / 512 : ℝ) : EReal))
    (b : Fin 64 → EReal) (hb : ∀ d, b d = 0) (I J : Fin 128) (hI : I.val < 8) (d : Fin 64) :
    conv2 X W b I J d = (((if I.val = 0 then a + 1 else 3) * colC J.val / 256 : ℝ) : EReal) := by
  have hc : 0 ≤ colC J.val := by unfold colC; split_ifs <;> norm_num
  unfold conv2
  rw [Finset.sum_congr rfl fun ky _ => taps_band h W hW I J hI d ky, hb, add_zero, Fin.sum_univ_three, ← EReal.coe_add, ← EReal.coe_add]
  have e : rowC a I.val (0 : Fin 3).val * colC J.val / 256 + rowC a I.val (1 : Fin 3).val * colC J.val / 256
      + rowC a I.val (2 : Fin 3).val * colC J.val / 256 = (if I.val = 0 then a + 1 else 3) * colC J.val / 256 := by
    unfold rowC
    simp only [Fin.val_zero, Fin.val_one, Fin.val_two]
    by_cases h0 : I.val = 0
    · simp [h0]; ring
    · rw [if_neg (by omega), if_neg (by omega), if_neg (by omega), if_neg (by omega), if_neg (by omega), if_neg (by omega), if_neg h0]; ring
  rw [e]
  refine relu_coe ?_
  split_ifs <;> positivity

/-- The first patch's features. -/
theorem feat_band (ha : 0 ≤ a) (h : Banded a X) (W : Fin 64 → Fin 64 → Fin 3 → Fin 3 → EReal) (hW : ∀ d c p q, W d c p q = ((1 / 512 : ℝ) : EReal))
    (b : Fin 64 → EReal) (hb : ∀ d, b d = 0) (p q : Fin 16) (hp : p.val = 0) (hq : q.val = 0) (d : Fin 64) :
    feat X W b p q d = (((a + 22) * 612 / 16384 : ℝ) : EReal) := by
  unfold feat
  have e : ∀ r s : Fin 8, conv2 X W b ⟨8 * p.val + r.val, by omega⟩ ⟨8 * q.val + s.val, by omega⟩ d
      = (((if r.val = 0 then a + 1 else 3) * colC s.val / 256 : ℝ) : EReal) := fun r s => by
    rw [conv2_band ha h W hW b hb _ _ (by simp only []; omega)]
    simp only [hp, hq, Nat.mul_zero, Nat.zero_add]
  simp only [e, Fin.sum_univ_eight, ← EReal.coe_add]
  rw [Ideal.div_coe (by norm_num), ← EReal.coe_mul]
  refine congrArg _ ?_
  simp [colC]
  ring

/-! ### The class logit -/

/-- The arguments of the network after the first convolution are one number each. -/
structure Plain (N : Net) : Prop where
  w : ∀ d c p q, N.w d c p q = ((1 / 512 : ℝ) : EReal)
  wb : ∀ d, N.wb d = 0
  aw1 : ∀ i k, N.aw1 i k = ((1 / 64 : ℝ) : EReal)
  ab1 : ∀ k, N.ab1 k = 0
  aw2 : ∀ k, N.aw2 k = ((1 / 32 : ℝ) : EReal)
  ab2 : N.ab2 = 0
  thr : N.thr = ((1 / 2 : ℝ) : EReal)
  bw3 : ∀ i j, N.bw3 i j = 0
  bb3 : ∀ j, N.bb3 j = ((1 : ℝ) : EReal)
  sw : ∀ i j, N.sw i j = 0
  sb : ∀ j, N.sb j = 0
  gw : ∀ i j, N.gw i j = 0
  gb : ∀ j, N.gb j = 0
  dw : ∀ i j, N.dw i j = ((1 / 128 : ℝ) : EReal)
  db : ∀ j, N.db j = 0
  cw : ∀ i j, N.cw i j = ((1 / 256 : ℝ) : EReal)
  cb : ∀ j, N.cb j = 0

/-- The logit, from the feature. -/
def logit (f : ℝ) : ℝ := logistic (logistic f - 1 / 2)

theorem logit_inj {x y : ℝ} (h : logit x = logit y) : x = y :=
  logistic_inj (by linarith [logistic_inj h])

/-- The first class logit of the first patch of the first image. -/
theorem cls_plain {N : Net} (hN : Plain N) (ha : 0 ≤ a) (hx : Banded a (N.x 0)) :
    N.cls 0 0 0 = (logit ((a + 22) * 612 / 16384) : EReal) := by
  have hf : ∀ k, N.feats 0 0 k = (((a + 22) * 612 / 16384 : ℝ) : EReal) := fun k =>
    feat_band ha hx N.w hN.w N.wb hN.wb _ _ rfl rfl k
  have hbig : ∀ k, N.bigs 0 0 k = ((1 : ℝ) : EReal) := fun k => by
    unfold Net.bigs big
    simp only [hN.bw3, hN.bb3, mul_zero, Finset.sum_const_zero, zero_add]
  have hsmall : ∀ k, N.smalls 0 0 k = 0 := fun k => by
    unfold Net.smalls small
    simp only [hN.sw, hN.sb, mul_zero, Finset.sum_const_zero, zero_add]
  have hpos : 0 ≤ (a + 22) * 612 / 16384 := by positivity
  have hs : score (N.feats 0 0) N.aw1 N.ab1 N.aw2 N.ab2 = (logistic ((a + 22) * 612 / 16384) : EReal) := by
    unfold score
    simp only [hf, hN.aw1, hN.ab1, hN.aw2, hN.ab2, add_zero, ← EReal.coe_mul, sum_same]
    rw [relu_coe (by positivity), ← EReal.coe_mul, sum_same, sigm_coe]
    refine congrArg (fun t : ℝ => ((logistic t : ℝ) : EReal)) ?_
    push_cast
    ring
  have hmix : ∀ k, mix (score (N.feats 0 0) N.aw1 N.ab1 N.aw2 N.ab2) N.thr (N.bigs 0 0 k) (N.smalls 0 0 k)
      = (logit ((a + 22) * 612 / 16384) : EReal) := fun k => by
    unfold mix logit
    rw [hs, hN.thr, hbig, hsmall, ← EReal.coe_sub, sigm_coe, mul_zero, add_zero, ← EReal.coe_mul, mul_one]
  have hh : ∀ j, N.hid 0 0 j = (logit ((a + 22) * 612 / 16384) : EReal) := fun j => by
    unfold Net.hid headRow hidden
    have hg : ∀ s mx k, glob s mx N.gw N.gb k = 0 := fun s mx k => by
      unfold glob
      simp only [hN.gw, hN.gb, mul_zero, Finset.sum_const_zero, zero_add]
    simp only [hg, hmix, hN.dw, hN.db, zero_mul, Finset.sum_const_zero, add_zero, ← EReal.coe_mul, sum_same]
    have e : ((128 : ℕ) : ℝ) * (logit ((a + 22) * 612 / 16384) * (1 / 128)) = logit ((a + 22) * 612 / 16384) := by
      push_cast
      ring
    rw [e]
    exact relu_coe (logistic_nonneg _)
  unfold Net.cls outLayer
  simp only [hh, hN.cw, hN.cb, add_zero, ← EReal.coe_mul, sum_same]
  refine congrArg _ ?_
  push_cast
  ring

/-- The numbers of the arguments that the first class logit depends on. -/
structure Given (y0 y2 y3 y4 y5 y6 y7 y8 y9 y10 y15 y16 y17 y18 y19 y20 y21 y22 y23 y24 : EReal) : Prop where
  e0 : y0 = ((1 : ℝ) : EReal)
  e2 : y2 = ((1 / 32 : ℝ) : EReal)
  e3 : y3 = 0
  e4 : y4 = ((1 / 512 : ℝ) : EReal)
  e5 : y5 = 0
  e6 : y6 = ((1 / 64 : ℝ) : EReal)
  e7 : y7 = 0
  e8 : y8 = ((1 / 32 : ℝ) : EReal)
  e9 : y9 = 0
  e10 : y10 = ((1 / 2 : ℝ) : EReal)
  e15 : y15 = 0
  e16 : y16 = ((1 : ℝ) : EReal)
  e17 : y17 = 0
  e18 : y18 = 0
  e19 : y19 = 0
  e20 : y20 = 0
  e21 : y21 = ((1 / 128 : ℝ) : EReal)
  e22 : y22 = 0
  e23 : y23 = ((1 / 256 : ℝ) : EReal)
  e24 : y24 = 0

/-! ### The words of the numbers -/

theorem word_one : Ideal.ofBits .f32 0x3F800000#32 = ((1 : ℝ) : EReal) := by
  simp [Ideal.ofBits, Ideal.ieee, -EReal.coe_mul]; try norm_num

theorem word_half : Ideal.ofBits .f32 0x3F000000#32 = ((1 / 2 : ℝ) : EReal) := by
  simp [Ideal.ofBits, Ideal.ieee, -EReal.coe_mul]; try norm_num

theorem word_32nd : Ideal.ofBits .f32 0x3D000000#32 = ((1 / 32 : ℝ) : EReal) := by
  simp [Ideal.ofBits, Ideal.ieee, -EReal.coe_mul]; try norm_num

theorem word_64th : Ideal.ofBits .f32 0x3C800000#32 = ((1 / 64 : ℝ) : EReal) := by
  simp [Ideal.ofBits, Ideal.ieee, -EReal.coe_mul]; try norm_num

theorem word_128th : Ideal.ofBits .f32 0x3C000000#32 = ((1 / 128 : ℝ) : EReal) := by
  simp [Ideal.ofBits, Ideal.ieee, -EReal.coe_mul]; try norm_num

theorem word_256th : Ideal.ofBits .f32 0x3B800000#32 = ((1 / 256 : ℝ) : EReal) := by
  simp [Ideal.ofBits, Ideal.ieee, -EReal.coe_mul]; try norm_num

theorem word_512th : Ideal.ofBits .f32 0x3B000000#32 = ((1 / 512 : ℝ) : EReal) := by
  simp [Ideal.ofBits, Ideal.ieee, -EReal.coe_mul]; try norm_num

end Cert.Spec
-- ==== Proof.ConstK.lean ====
/-
  The kernel's first class logit on the numbers given.
-/
module

public import proofs.«01_k».proof.Proof.WholeRun
public import proofs.«01_k».proof.Proof.Const

@[expose] public section

set_option maxRecDepth 16384

noncomputable section

namespace Cert.KernelCIdeal

open Cert.KernelCIdeal.Gen
open Idealize.ShloMosaic Idealize.ShloMosaic.TcCoe

/-- How many of `n` rows from `o` on hold the filter's number in lane `l`. -/
def held (n o : ℕ) (h : o + n ≤ 72) (l : Fin 128) : ℕ :=
  (Finset.univ.filter fun x : Fin n => (windows.any fun p => inWin p ⟨o + x.val, by omega⟩ l) = true).card

theorem held_all : ∀ l : Fin 128, held 12 0 (by decide) l + held 24 12 (by decide) l + held 12 36 (by decide) l + held 24 48 (by decide) l = 27 := by
  decide +kernel

theorem held_inner : ∀ l : Fin 128, held 24 12 (by decide) l + held 24 48 (by decide) l = if l.val < 64 then 18 else 27 := by
  decide +kernel

/-- The sum of the packed weights over `n` rows from `o` on. -/
theorem sum_held (n o : ℕ) (h : o + n ≤ 72) (w : ℝ) (l : Fin 128) :
    (∑ x : Fin n, packedVal (w : EReal) ⟨o + x.val, by omega⟩ l) = ((held n o h l * w : ℝ) : EReal) :=
  Spec.sum_count (fun x : Fin n => windows.any fun p => inWin p ⟨o + x.val, by omega⟩ l) w

/-- The first convolution of the kernel has no smaller first row. -/
theorem band_k (y0 y2 y3 : EReal) (h0 : y0 = ((1 : ℝ) : EReal)) (h2 : y2 = ((1 / 32 : ℝ) : EReal)) (h3 : y3 = 0) :
    Spec.Banded 1 fun i j l => rowVal y0 (packedVal y2) (fun _ => y3) i j l := by
  intro i j l hi
  subst h0 h2 h3
  have hl : decide (i.val = 255) = false := by simp; omega
  have hz : ∀ x : Fin 12, (⟨x.val, by omega⟩ : Fin 72) = ⟨0 + x.val, by omega⟩ := fun x => Fin.ext (Nat.zero_add _).symm
  have hq : ∀ x : Fin 24, (⟨36 + (12 + x.val), by omega⟩ : Fin 72) = ⟨48 + x.val, by omega⟩ := fun x => Fin.ext (by simp only []; omega)
  unfold rowVal constVal
  simp only [hl, hz, hq, EReal.coe_one, one_mul, Bool.false_eq_true, if_false, ite_self]
  have hs : ∀ n o h, (∑ x : Fin n, packedVal ((1 / 32 : ℝ) : EReal) ⟨o + x.val, by omega⟩ l) = ((held n o h l * (1 / 32) : ℝ) : EReal) :=
    fun n o h => sum_held n o h _ l
  have ha := held_all l
  have hn := held_inner l
  by_cases hj : j.val < 1
  · have hj' : j.val = 0 := by omega
    simp only [hj, if_true, zero_mul, Finset.sum_const_zero, zero_add, add_zero, hs 24 12 (by decide), hs 24 48 (by decide), ← EReal.coe_add]
    rw [Spec.relu_coe (by positivity)]
    refine congrArg _ ?_
    have hc : ((held 24 12 (by decide) l : ℝ) + held 24 48 (by decide) l) = ((if l.val < 64 then 18 else 27 : ℕ) : ℝ) := by
      rw [← hn]; push_cast; rfl
    unfold Spec.lane
    rw [← add_mul, hc, hj']
    by_cases hl : l.val < 64
    · simp [hl]; norm_num
    · simp [hl]; norm_num
  · simp only [hj, if_false, one_mul, add_zero, hs 12 0 (by decide), hs 24 12 (by decide), hs 12 36 (by decide), hs 24 48 (by decide), ← EReal.coe_add]
    rw [Spec.relu_coe (by positivity)]
    refine congrArg _ ?_
    have hc : ((held 12 0 (by decide) l : ℝ) + held 24 12 (by decide) l) + (held 12 36 (by decide) l + held 24 48 (by decide) l) = 27 := by
      have : ((held 12 0 (by decide) l + held 24 12 (by decide) l + held 12 36 (by decide) l + held 24 48 (by decide) l : ℕ) : ℝ) = 27 := by rw [ha]; norm_num
      push_cast at this
      linarith
    unfold Spec.lane
    rw [← add_mul, ← add_mul, ← add_mul, hc, if_neg (by omega)]
    norm_num

variable (m : (ℓ : Loc nD τ sig) → Buf (Elt Ideal) ℓ) (c : Dev nD)

/-- The numbers of a launch. -/
abbrev Numbers : Prop := Spec.Given (m ((c : Thread nD τ).loc main_arg0) ix0) (m ((c : Thread nD τ).loc main_arg2) ix0) (m ((c : Thread nD τ).loc main_arg3) ix0) (m ((c : Thread nD τ).loc main_arg4) ix0) (m ((c : Thread nD τ).loc main_arg5) ix0) (m ((c : Thread nD τ).loc main_arg6) ix0) (m ((c : Thread nD τ).loc main_arg7) ix0) (m ((c : Thread nD τ).loc main_arg8) ix0) (m ((c : Thread nD τ).loc main_arg9) ix0) (m ((c : Thread nD τ).loc main_arg10) ix0) (m ((c : Thread nD τ).loc main_arg15) ix0) (m ((c : Thread nD τ).loc main_arg16) ix0) (m ((c : Thread nD τ).loc main_arg17) ix0) (m ((c : Thread nD τ).loc main_arg18) ix0) (m ((c : Thread nD τ).loc main_arg19) ix0) (m ((c : Thread nD τ).loc main_arg20) ix0) (m ((c : Thread nD τ).loc main_arg21) ix0) (m ((c : Thread nD τ).loc main_arg22) ix0) (m ((c : Thread nD τ).loc main_arg23) ix0) (m ((c : Thread nD τ).loc main_arg24) ix0)

theorem plain_k (h : Numbers m c) : Spec.Plain (netK m c) where
  w _ _ _ _ := h.e4
  wb _ := h.e5
  aw1 _ _ := h.e6
  ab1 _ := h.e7
  aw2 _ := h.e8
  ab2 := h.e9
  thr := h.e10
  bw3 _ _ := h.e15
  bb3 _ := h.e16
  sw _ _ := h.e17
  sb _ := h.e18
  gw _ _ := h.e19
  gb _ := h.e20
  dw _ _ := h.e21
  db _ := h.e22
  cw _ _ := h.e23
  cb _ := h.e24

/-- The kernel's first class logit. -/
theorem cls_k (h : Numbers m c) : (netK m c).cls 0 0 0 = (Spec.logit ((1 + 22) * 612 / 16384) : EReal) :=
  Spec.cls_plain (plain_k m c h) (by norm_num) (band_k _ _ _ h.e0 h.e2 h.e3)

end Cert.KernelCIdeal
-- ==== Proof.RefFirst.lean ====
/-
  The first convolution as the reference computes it, of an image, a filter and a bias that are one number each.
-/
module

public import proofs.«01_k».proof.Proof.Gen.ReferenceCIdeal.Read
public import proofs.«01_k».proof.Proof.Spec
public import Idealize.ShloMosaic.Lib.Pointwise

@[expose] public section

set_option maxRecDepth 16384

noncomputable section

namespace Cert.ReferenceCIdeal

open Cert.ReferenceCIdeal.Gen Cert.ReferenceCIdeal.Read
open Idealize.ShloMosaic

/-- The padded image of the number `y`: zero in the first and the last row and column. -/
def edge (y : EReal) (r s : ℕ) : EReal := if (1 ≤ r ∧ r - 1 < 512) ∧ 1 ≤ s ∧ s - 1 < 512 then y else 0

/-- Tap `(p, q)` of the filter with the number `w` at output row `i` and column `j`. -/
def tapVal (y w : EReal) (i j p q : ℕ) : EReal := ∑ _k : Fin 3, edge y (2 * i + p) (2 * j + q) * w

/-- The first convolution at output row `i` and column `j`. -/
def convVal (y w b : EReal) (i j : ℕ) : EReal :=
  Spec.relu (0 + tapVal y w i j 0 0 + tapVal y w i j 0 1 + tapVal y w i j 0 2 + tapVal y w i j 1 0 + tapVal y w i j 1 1
    + tapVal y w i j 1 2 + tapVal y w i j 2 0 + tapVal y w i j 2 1 + tapVal y w i j 2 2 + b)

variable (x0 x2 x3 : (⟨S_, .f32⟩ : BufTy).Contents (Elt Ideal))

/-- The image with a zero row and a zero column around it. -/
theorem pad_first (b : Fin 8) (r s : Fin 514) (k : Fin 3) :
    val_main_v27 (F := Ideal) x0 (ix4 b r s k) = edge (x0 ix0) r.val s.val := by
  pointwise [val_main_v27, val_main_v26, val_main_v0, val_main_call0_v0, val_main_c]
  unfold edge
  have h0 : ((BitVec.toInt 0#32 : ℝ) : EReal) = 0 := by simp
  split_ifs <;> first | exact congrArg x0 (funext fun a => a.elim0) | exact h0

theorem one_number (f : S_.Idx → EReal) (i j : S_.Idx) : f i = f j := congrArg f (funext fun a => a.elim0)

/-- The first convolution of the reference, element by element. -/
theorem first_sum (b : Fin 8) (i j : Fin 256) (d : Fin 64) :
    val_main_v86 (F := Ideal) x0 x2 x3 (ix4 b i j d) = convVal (x0 ix0) (x2 ix0) (x3 ix0) i.val j.val := by
  have hp := pad_first x0 b
  unfold val_main_v86 val_main_v85 val_main_v82 val_main_v76 val_main_v70 val_main_v64 val_main_v58 val_main_v52 val_main_v46 val_main_v40 val_main_v34 val_main_v33 val_main_v39 val_main_v45 val_main_v51 val_main_v57 val_main_v63 val_main_v69 val_main_v75 val_main_v81 val_main_v29 val_main_v35 val_main_v41 val_main_v47 val_main_v53 val_main_v59 val_main_v65 val_main_v71 val_main_v77
  generalize val_main_v27 (F := Ideal) x0 = P at hp
  pointwise [val_main_v84, val_main_v83, val_main_v3, val_main_v2, val_main_v28, val_main_cst, val_main_call1_v0, val_main_call1_cst, val_main_v82, val_main_v80, val_main_v79, val_main_v78, val_main_v76, val_main_v74, val_main_v73, val_main_v72, val_main_v70, val_main_v68, val_main_v67, val_main_v66, val_main_v64, val_main_v62, val_main_v61, val_main_v60, val_main_v58, val_main_v56, val_main_v55, val_main_v54, val_main_v52, val_main_v50, val_main_v49, val_main_v48, val_main_v46, val_main_v44, val_main_v43, val_main_v42, val_main_v40, val_main_v38, val_main_v37, val_main_v36, val_main_v34, val_main_v32, val_main_v31, val_main_v30]
  simp only [hp]
  unfold convVal tapVal Spec.relu
  simp only [zero_add, add_zero, Nat.add_comm 1, Nat.add_comm 2]

end Cert.ReferenceCIdeal
-- ==== Proof.RefWhole.lean ====
/-
  The reference's class logits of arguments that are one number each: the network after the first convolution, on the
  first convolution's result.
-/
module

public import proofs.«01_k».proof.Proof.Gen.ReferenceCIdeal.Read
public import proofs.«01_k».proof.Proof.RefHead
public import Idealize.ShloMosaic.Lib.Pointwise

@[expose] public section

set_option maxRecDepth 16384

noncomputable section

namespace Cert.ReferenceCIdeal

open Cert.ReferenceCIdeal.Gen Cert.ReferenceCIdeal.Read
open Idealize.ShloMosaic

variable (y0 y1 y2 y3 y4 y5 y6 y7 y8 y9 y10 y11 y12 y13 y14 y15 y16 y17 y18 y19 y20 y21 y22 y23 y24 y25 : (⟨S_, .f32⟩ : BufTy).Contents (Elt Ideal))

/-- The first convolution's result, two columns in one row of 128 lanes. -/
def acts : (⟨Cert.ReferenceTailIdeal.S8x256x128x128, .bf16⟩ : BufTy).Contents (Elt Ideal) := fun i =>
  have h2 : (i 2).val < 128 := (i 2).isLt
  have h3 : (i 3).val < 128 := (i 3).isLt
  val_main_v86 (F := Ideal) y0 y2 y3 (ix4 (i 0) (i 1) (⟨2 * (i 2).val + (i 3).val / 64, by omega⟩ : Fin 256) (⟨(i 3).val % 64, by omega⟩ : Fin 64))

theorem acts_flat : Cert.ReferenceTailIdeal.Read.val_main_v1 (F := Ideal) (acts y0 y2 y3) = val_main_v86 (F := Ideal) y0 y2 y3 := by
  funext i
  obtain ⟨b, r, c, k, rfl⟩ : ∃ (b : Fin 8) (r c : Fin 256) (k : Fin 64), i = ix4 b r c k := ⟨i 0, i 1, i 2, i 3, eq_ix4 i⟩
  refine (?_ : _ = acts y0 y2 y3 (ix4 b r (⟨c.val / 2, by omega⟩ : Fin 128) (⟨c.val % 2 * 64 + k.val, by omega⟩ : Fin 128))).trans ?_
  · pointwise [Cert.ReferenceTailIdeal.Read.val_main_v1, Cert.ReferenceTailIdeal.Read.val_main_v0]
  · unfold acts
    refine congrArg (val_main_v86 (F := Ideal) y0 y2 y3) ?_
    congr 1 <;> apply Fin.ext <;> simp only [ix4] <;> omega

theorem tail_2 : val_main_v87 (F := Ideal) y0 y2 y3
    = Cert.ReferenceTailIdeal.Read.val_main_v2 (F := Ideal) (acts y0 y2 y3) := by
  unfold val_main_v87 val_main_call2_v0 val_main_c_0
  unfold Cert.ReferenceTailIdeal.Read.val_main_v2 Cert.ReferenceTailIdeal.Read.val_main_call0_v0 Cert.ReferenceTailIdeal.Read.val_main_c
  rw [acts_flat]

theorem tail_61 : val_main_v146 (F := Ideal) y0 y2 y3 y4 y5
    = Cert.ReferenceTailIdeal.Read.val_main_v61 (F := Ideal) (acts y0 y2 y3) (val_main_v4 (F := Ideal) y4) (val_main_v5 (F := Ideal) y5) := by
  unfold val_main_v146 val_main_call3_v0 val_main_call3_cst val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_cst_1
  unfold Cert.ReferenceTailIdeal.Read.val_main_v61 Cert.ReferenceTailIdeal.Read.val_main_call1_v0 Cert.ReferenceTailIdeal.Read.val_main_call1_cst Cert.ReferenceTailIdeal.Read.val_main_v60 Cert.ReferenceTailIdeal.Read.val_main_v59 Cert.ReferenceTailIdeal.Read.val_main_v58 Cert.ReferenceTailIdeal.Read.val_main_v57 Cert.ReferenceTailIdeal.Read.val_main_v56 Cert.ReferenceTailIdeal.Read.val_main_v55 Cert.ReferenceTailIdeal.Read.val_main_v54 Cert.ReferenceTailIdeal.Read.val_main_v53 Cert.ReferenceTailIdeal.Read.val_main_v52 Cert.ReferenceTailIdeal.Read.val_main_v51 Cert.ReferenceTailIdeal.Read.val_main_v50 Cert.ReferenceTailIdeal.Read.val_main_v49 Cert.ReferenceTailIdeal.Read.val_main_v48 Cert.ReferenceTailIdeal.Read.val_main_v47 Cert.ReferenceTailIdeal.Read.val_main_v46 Cert.ReferenceTailIdeal.Read.val_main_v45 Cert.ReferenceTailIdeal.Read.val_main_v44 Cert.ReferenceTailIdeal.Read.val_main_v43 Cert.ReferenceTailIdeal.Read.val_main_v42 Cert.ReferenceTailIdeal.Read.val_main_v41 Cert.ReferenceTailIdeal.Read.val_main_v40 Cert.ReferenceTailIdeal.Read.val_main_v39 Cert.ReferenceTailIdeal.Read.val_main_v38 Cert.ReferenceTailIdeal.Read.val_main_v37 Cert.ReferenceTailIdeal.Read.val_main_v36 Cert.ReferenceTailIdeal.Read.val_main_v35 Cert.ReferenceTailIdeal.Read.val_main_v34 Cert.ReferenceTailIdeal.Read.val_main_v33 Cert.ReferenceTailIdeal.Read.val_main_v32 Cert.ReferenceTailIdeal.Read.val_main_v31 Cert.ReferenceTailIdeal.Read.val_main_v30 Cert.ReferenceTailIdeal.Read.val_main_v29 Cert.ReferenceTailIdeal.Read.val_main_v28 Cert.ReferenceTailIdeal.Read.val_main_v27 Cert.ReferenceTailIdeal.Read.val_main_v26 Cert.ReferenceTailIdeal.Read.val_main_v25 Cert.ReferenceTailIdeal.Read.val_main_v24 Cert.ReferenceTailIdeal.Read.val_main_v23 Cert.ReferenceTailIdeal.Read.val_main_v22 Cert.ReferenceTailIdeal.Read.val_main_v21 Cert.ReferenceTailIdeal.Read.val_main_v20 Cert.ReferenceTailIdeal.Read.val_main_v19 Cert.ReferenceTailIdeal.Read.val_main_v18 Cert.ReferenceTailIdeal.Read.val_main_v17 Cert.ReferenceTailIdeal.Read.val_main_v16 Cert.ReferenceTailIdeal.Read.val_main_v15 Cert.ReferenceTailIdeal.Read.val_main_v14 Cert.ReferenceTailIdeal.Read.val_main_v13 Cert.ReferenceTailIdeal.Read.val_main_v12 Cert.ReferenceTailIdeal.Read.val_main_v11 Cert.ReferenceTailIdeal.Read.val_main_v10 Cert.ReferenceTailIdeal.Read.val_main_v9 Cert.ReferenceTailIdeal.Read.val_main_v8 Cert.ReferenceTailIdeal.Read.val_main_v7 Cert.ReferenceTailIdeal.Read.val_main_v6 Cert.ReferenceTailIdeal.Read.val_main_v5 Cert.ReferenceTailIdeal.Read.val_main_v4 Cert.ReferenceTailIdeal.Read.val_main_v3 Cert.ReferenceTailIdeal.Read.val_main_cst
  simp only [tail_2]
  rfl

theorem tail_66 : val_main_v151 (F := Ideal) y0 y2 y3 y4 y5
    = Cert.ReferenceTailIdeal.Read.val_main_v66 (F := Ideal) (acts y0 y2 y3) (val_main_v4 (F := Ideal) y4) (val_main_v5 (F := Ideal) y5) := by
  unfold val_main_v151 val_main_v150 val_main_v149 val_main_cst_3 val_main_v148 val_main_cst_2 val_main_v147
  unfold Cert.ReferenceTailIdeal.Read.val_main_v66 Cert.ReferenceTailIdeal.Read.val_main_v65 Cert.ReferenceTailIdeal.Read.val_main_v64 Cert.ReferenceTailIdeal.Read.val_main_cst_1 Cert.ReferenceTailIdeal.Read.val_main_v63 Cert.ReferenceTailIdeal.Read.val_main_cst_0 Cert.ReferenceTailIdeal.Read.val_main_v62
  rw [tail_61]

theorem tail_82 : val_main_v167 (F := Ideal) y0 y2 y3 y4 y5 y6 y7 y8 y9
    = Cert.ReferenceTailIdeal.Read.val_main_v82 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v167 val_main_v166 val_main_v165 val_main_cst_5 val_main_v164 val_main_v163 val_main_cst_4 val_main_v162 val_main_v161 val_main_v160 val_main_v159 val_main_v158 val_main_v157 val_main_v156 val_main_call4_v0 val_main_call4_cst val_main_v155 val_main_v154 val_main_v153 val_main_v152
  unfold Cert.ReferenceTailIdeal.Read.val_main_v82 Cert.ReferenceTailIdeal.Read.val_main_v81 Cert.ReferenceTailIdeal.Read.val_main_v80 Cert.ReferenceTailIdeal.Read.val_main_cst_3 Cert.ReferenceTailIdeal.Read.val_main_v79 Cert.ReferenceTailIdeal.Read.val_main_v78 Cert.ReferenceTailIdeal.Read.val_main_cst_2 Cert.ReferenceTailIdeal.Read.val_main_v77 Cert.ReferenceTailIdeal.Read.val_main_v76 Cert.ReferenceTailIdeal.Read.val_main_v75 Cert.ReferenceTailIdeal.Read.val_main_v74 Cert.ReferenceTailIdeal.Read.val_main_v73 Cert.ReferenceTailIdeal.Read.val_main_v72 Cert.ReferenceTailIdeal.Read.val_main_v71 Cert.ReferenceTailIdeal.Read.val_main_call2_v0 Cert.ReferenceTailIdeal.Read.val_main_call2_cst Cert.ReferenceTailIdeal.Read.val_main_v70 Cert.ReferenceTailIdeal.Read.val_main_v69 Cert.ReferenceTailIdeal.Read.val_main_v68 Cert.ReferenceTailIdeal.Read.val_main_v67
  rw [tail_66]
  rfl

theorem tail_92 : val_main_v177 (F := Ideal) y0 y2 y3 y4 y5 y6 y7 y8 y9 y10
    = Cert.ReferenceTailIdeal.Read.val_main_v92 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) y10 := by
  unfold val_main_v177 val_main_v176 val_main_cst_8 val_main_v175 val_main_v174 val_main_cst_7 val_main_v173 val_main_v172 val_main_v171 val_main_v170 val_main_cst_6 val_main_v169 val_main_v168
  unfold Cert.ReferenceTailIdeal.Read.val_main_v92 Cert.ReferenceTailIdeal.Read.val_main_v91 Cert.ReferenceTailIdeal.Read.val_main_cst_6 Cert.ReferenceTailIdeal.Read.val_main_v90 Cert.ReferenceTailIdeal.Read.val_main_v89 Cert.ReferenceTailIdeal.Read.val_main_cst_5 Cert.ReferenceTailIdeal.Read.val_main_v88 Cert.ReferenceTailIdeal.Read.val_main_v87 Cert.ReferenceTailIdeal.Read.val_main_v86 Cert.ReferenceTailIdeal.Read.val_main_v85 Cert.ReferenceTailIdeal.Read.val_main_cst_4 Cert.ReferenceTailIdeal.Read.val_main_v84 Cert.ReferenceTailIdeal.Read.val_main_v83
  rw [tail_82]

theorem tail_106 : val_main_v192 (F := Ideal) y1 y11 y12 y13 y14 y15 y16
    = Cert.ReferenceTailIdeal.Read.val_main_v106 (F := Ideal) (val_main_v178 (F := Ideal) y1) (val_main_v10 (F := Ideal) y11) (val_main_v11 (F := Ideal) y12) (val_main_v12 (F := Ideal) y13) (val_main_v13 (F := Ideal) y14) (val_main_v14 (F := Ideal) y15) (val_main_v15 (F := Ideal) y16) := by
  unfold val_main_v192 val_main_v191 val_main_v190 val_main_v189 val_main_v188 val_main_call6_v0 val_main_call6_cst val_main_v187 val_main_v186 val_main_v185 val_main_v184 val_main_v183 val_main_call5_v0 val_main_call5_cst val_main_v182 val_main_v181 val_main_v180 val_main_v179
  unfold Cert.ReferenceTailIdeal.Read.val_main_v106 Cert.ReferenceTailIdeal.Read.val_main_v105 Cert.ReferenceTailIdeal.Read.val_main_v104 Cert.ReferenceTailIdeal.Read.val_main_v103 Cert.ReferenceTailIdeal.Read.val_main_v102 Cert.ReferenceTailIdeal.Read.val_main_call4_v0 Cert.ReferenceTailIdeal.Read.val_main_call4_cst Cert.ReferenceTailIdeal.Read.val_main_v101 Cert.ReferenceTailIdeal.Read.val_main_v100 Cert.ReferenceTailIdeal.Read.val_main_v99 Cert.ReferenceTailIdeal.Read.val_main_v98 Cert.ReferenceTailIdeal.Read.val_main_v97 Cert.ReferenceTailIdeal.Read.val_main_call3_v0 Cert.ReferenceTailIdeal.Read.val_main_call3_cst Cert.ReferenceTailIdeal.Read.val_main_v96 Cert.ReferenceTailIdeal.Read.val_main_v95 Cert.ReferenceTailIdeal.Read.val_main_v94 Cert.ReferenceTailIdeal.Read.val_main_v93
  rfl

theorem tail_113 : val_main_v199 (F := Ideal) y1 y17 y18
    = Cert.ReferenceTailIdeal.Read.val_main_v113 (F := Ideal) (val_main_v178 (F := Ideal) y1) (val_main_v16 (F := Ideal) y17) (val_main_v17 (F := Ideal) y18) := by
  unfold val_main_v199 val_main_v198 val_main_v197 val_main_v196
  unfold Cert.ReferenceTailIdeal.Read.val_main_v113 Cert.ReferenceTailIdeal.Read.val_main_v112 Cert.ReferenceTailIdeal.Read.val_main_v111 Cert.ReferenceTailIdeal.Read.val_main_v110
  rfl

theorem tail_114 : val_main_v200 (F := Ideal)
    = Cert.ReferenceTailIdeal.Read.val_main_v114 (F := Ideal)  := by
  unfold val_main_v200 val_main_cst_9
  unfold Cert.ReferenceTailIdeal.Read.val_main_v114 Cert.ReferenceTailIdeal.Read.val_main_cst_7
  rfl

theorem tail_115 : val_main_v201 (F := Ideal) y0 y2 y3 y4 y5 y6 y7 y8 y9 y10
    = Cert.ReferenceTailIdeal.Read.val_main_v115 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) y10 := by
  unfold val_main_v201
  unfold Cert.ReferenceTailIdeal.Read.val_main_v115
  rw [tail_92, tail_114]

theorem tail_116 : val_main_v202 (F := Ideal) y0 y2 y3 y4 y5 y6 y7 y8 y9 y10
    = Cert.ReferenceTailIdeal.Read.val_main_v116 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) y10 := by
  unfold val_main_v202
  unfold Cert.ReferenceTailIdeal.Read.val_main_v116
  rw [tail_115]

theorem tail_117 : val_main_v203 (F := Ideal) y0 y2 y3 y4 y5 y6 y7 y8 y9 y10
    = Cert.ReferenceTailIdeal.Read.val_main_v117 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) y10 := by
  unfold val_main_v203
  unfold Cert.ReferenceTailIdeal.Read.val_main_v117
  rw [tail_116]

theorem tail_118 : val_main_v204 (F := Ideal) y0 y1 y2 y3 y4 y5 y6 y7 y8 y9 y10 y17 y18
    = Cert.ReferenceTailIdeal.Read.val_main_v118 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v16 (F := Ideal) y17) (val_main_v17 (F := Ideal) y18) := by
  unfold val_main_v204
  unfold Cert.ReferenceTailIdeal.Read.val_main_v118
  rw [tail_113, tail_117]

theorem tail_119 : val_main_v205 (F := Ideal) y0 y1 y2 y3 y4 y5 y6 y7 y8 y9 y10 y11 y12 y13 y14 y15 y16 y17 y18
    = Cert.ReferenceTailIdeal.Read.val_main_v119 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) := by
  unfold val_main_v205 val_main_v195 val_main_v194 val_main_v193
  unfold Cert.ReferenceTailIdeal.Read.val_main_v119 Cert.ReferenceTailIdeal.Read.val_main_v109 Cert.ReferenceTailIdeal.Read.val_main_v108 Cert.ReferenceTailIdeal.Read.val_main_v107
  rw [tail_92, tail_106, tail_118]

theorem tail_120 : val_main_v206 (F := Ideal) y0 y2 y3 y4 y5 y6 y7 y8 y9
    = Cert.ReferenceTailIdeal.Read.val_main_v120 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v206 val_main_cst_10
  unfold Cert.ReferenceTailIdeal.Read.val_main_v120 Cert.ReferenceTailIdeal.Read.val_main_cst_8
  rw [tail_82]

theorem tail_121 : val_main_v207 (F := Ideal)
    = Cert.ReferenceTailIdeal.Read.val_main_v121 (F := Ideal)  := by
  unfold val_main_v207 val_main_cst_11
  unfold Cert.ReferenceTailIdeal.Read.val_main_v121 Cert.ReferenceTailIdeal.Read.val_main_cst_9
  rfl

theorem tail_122 : val_main_v208 (F := Ideal) y0 y2 y3 y4 y5 y6 y7 y8 y9
    = Cert.ReferenceTailIdeal.Read.val_main_v122 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v208
  unfold Cert.ReferenceTailIdeal.Read.val_main_v122
  rw [tail_120, tail_121]

theorem tail_123 : val_main_v209 (F := Ideal) y0 y2 y3 y4 y5 y6 y7 y8 y9
    = Cert.ReferenceTailIdeal.Read.val_main_v123 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v209
  unfold Cert.ReferenceTailIdeal.Read.val_main_v123
  rw [tail_122]

theorem tail_124 : val_main_v210 (F := Ideal) y0 y2 y3 y4 y5 y6 y7 y8 y9
    = Cert.ReferenceTailIdeal.Read.val_main_v124 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v210
  unfold Cert.ReferenceTailIdeal.Read.val_main_v124
  rw [tail_123]

theorem tail_125 : val_main_v211 (F := Ideal) y0 y2 y3 y4 y5 y6 y7 y8 y9
    = Cert.ReferenceTailIdeal.Read.val_main_v125 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v211
  unfold Cert.ReferenceTailIdeal.Read.val_main_v125
  rw [tail_82, tail_124]

theorem tail_126 : val_main_v212 (F := Ideal) y0 y2 y3 y4 y5 y6 y7 y8 y9
    = Cert.ReferenceTailIdeal.Read.val_main_v126 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v212
  unfold Cert.ReferenceTailIdeal.Read.val_main_v126
  rw [tail_125]

theorem tail_127 : val_main_v213 (F := Ideal) y0 y2 y3 y4 y5 y6 y7 y8 y9
    = Cert.ReferenceTailIdeal.Read.val_main_v127 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v213 val_main_cst_12
  unfold Cert.ReferenceTailIdeal.Read.val_main_v127 Cert.ReferenceTailIdeal.Read.val_main_cst_10
  rw [tail_126]

theorem tail_128 : val_main_v214 (F := Ideal) y0 y2 y3 y4 y5 y6 y7 y8 y9
    = Cert.ReferenceTailIdeal.Read.val_main_v128 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v214
  unfold Cert.ReferenceTailIdeal.Read.val_main_v128
  rw [tail_127]

theorem tail_129 : val_main_v215 (F := Ideal) y0 y2 y3 y4 y5 y6 y7 y8 y9
    = Cert.ReferenceTailIdeal.Read.val_main_v129 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v215
  unfold Cert.ReferenceTailIdeal.Read.val_main_v129
  rw [tail_128]

theorem tail_130 : val_main_v216 (F := Ideal) y0 y2 y3 y4 y5 y6 y7 y8 y9
    = Cert.ReferenceTailIdeal.Read.val_main_v130 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v216
  unfold Cert.ReferenceTailIdeal.Read.val_main_v130
  rw [tail_126, tail_129]

theorem tail_131 : val_main_v217 (F := Ideal) y0 y2 y3 y4 y5 y6 y7 y8 y9
    = Cert.ReferenceTailIdeal.Read.val_main_v131 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v217
  unfold Cert.ReferenceTailIdeal.Read.val_main_v131
  rw [tail_130]

theorem tail_132 : val_main_v218 (F := Ideal) y0 y2 y3 y4 y5 y6 y7 y8 y9
    = Cert.ReferenceTailIdeal.Read.val_main_v132 (F := Ideal) (acts y0 y2 y3) (val_main_v4 (F := Ideal) y4) (val_main_v5 (F := Ideal) y5) (val_main_v6 (F := Ideal) y6) (val_main_v7 (F := Ideal) y7) (val_main_v8 (F := Ideal) y8) (val_main_v9 (F := Ideal) y9) := by
  unfold val_main_v218
  unfold Cert.ReferenceTailIdeal.Read.val_main_v132
  rw [tail_131]

theorem tail_133 : val_main_v219 (F := Ideal) y0 y1 y2 y3 y4 y5 y6 y7 y8 y9 y10 y11 y12 y13 y14 y15 y16 y17 y18
    = Cert.ReferenceTailIdeal.Read.val_main_v133 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) := by
  unfold val_main_v219
  unfold Cert.ReferenceTailIdeal.Read.val_main_v133
  rw [tail_119, tail_132]

theorem tail_134 : val_main_v220 (F := Ideal) y0 y1 y2 y3 y4 y5 y6 y7 y8 y9 y10 y11 y12 y13 y14 y15 y16 y17 y18
    = Cert.ReferenceTailIdeal.Read.val_main_v134 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) := by
  unfold val_main_v220 val_main_cst_13
  unfold Cert.ReferenceTailIdeal.Read.val_main_v134 Cert.ReferenceTailIdeal.Read.val_main_cst_11
  rw [tail_133]

theorem tail_135 : val_main_v221 (F := Ideal) y0 y1 y2 y3 y4 y5 y6 y7 y8 y9 y10 y11 y12 y13 y14 y15 y16 y17 y18
    = Cert.ReferenceTailIdeal.Read.val_main_v135 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) := by
  unfold val_main_v221 val_main_cst_14
  unfold Cert.ReferenceTailIdeal.Read.val_main_v135 Cert.ReferenceTailIdeal.Read.val_main_cst_12
  rw [tail_119]

theorem tail_136 : val_main_v222 (F := Ideal)
    = Cert.ReferenceTailIdeal.Read.val_main_v136 (F := Ideal)  := by
  unfold val_main_v222 val_main_cst_15
  unfold Cert.ReferenceTailIdeal.Read.val_main_v136 Cert.ReferenceTailIdeal.Read.val_main_cst_13
  rfl

theorem tail_137 : val_main_v223 (F := Ideal) y0 y1 y2 y3 y4 y5 y6 y7 y8 y9 y10 y11 y12 y13 y14 y15 y16 y17 y18
    = Cert.ReferenceTailIdeal.Read.val_main_v137 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) := by
  unfold val_main_v223
  unfold Cert.ReferenceTailIdeal.Read.val_main_v137
  rw [tail_135, tail_136]

theorem tail_138 : val_main_v224 (F := Ideal) y0 y1 y2 y3 y4 y5 y6 y7 y8 y9 y10 y11 y12 y13 y14 y15 y16 y17 y18
    = Cert.ReferenceTailIdeal.Read.val_main_v138 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) := by
  unfold val_main_v224
  unfold Cert.ReferenceTailIdeal.Read.val_main_v138
  rw [tail_134, tail_137]

theorem tail_139 : val_main_v225 (F := Ideal) y0 y1 y2 y3 y4 y5 y6 y7 y8 y9 y10 y11 y12 y13 y14 y15 y16 y17 y18 y19
    = Cert.ReferenceTailIdeal.Read.val_main_v139 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) := by
  unfold val_main_v225
  unfold Cert.ReferenceTailIdeal.Read.val_main_v139
  rw [tail_138]
  rfl

theorem tail_140 : val_main_v226 (F := Ideal) y20
    = Cert.ReferenceTailIdeal.Read.val_main_v140 (F := Ideal) (val_main_v19 (F := Ideal) y20) := by
  unfold val_main_v226
  unfold Cert.ReferenceTailIdeal.Read.val_main_v140
  rfl

theorem tail_141 : val_main_v227 (F := Ideal) y20
    = Cert.ReferenceTailIdeal.Read.val_main_v141 (F := Ideal) (val_main_v19 (F := Ideal) y20) := by
  unfold val_main_v227
  unfold Cert.ReferenceTailIdeal.Read.val_main_v141
  rw [tail_140]

theorem tail_142 : val_main_v228 (F := Ideal) y0 y1 y2 y3 y4 y5 y6 y7 y8 y9 y10 y11 y12 y13 y14 y15 y16 y17 y18 y19 y20
    = Cert.ReferenceTailIdeal.Read.val_main_v142 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) := by
  unfold val_main_v228
  unfold Cert.ReferenceTailIdeal.Read.val_main_v142
  rw [tail_139, tail_141]

theorem tail_143 : val_main_v229 (F := Ideal) y0 y1 y2 y3 y4 y5 y6 y7 y8 y9 y10 y11 y12 y13 y14 y15 y16 y17 y18 y19 y20
    = Cert.ReferenceTailIdeal.Read.val_main_v143 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) := by
  unfold val_main_v229
  unfold Cert.ReferenceTailIdeal.Read.val_main_v143
  rw [tail_142]

theorem tail_144 : val_main_v230 (F := Ideal) y0 y1 y2 y3 y4 y5 y6 y7 y8 y9 y10 y11 y12 y13 y14 y15 y16 y17 y18 y19 y20
    = Cert.ReferenceTailIdeal.Read.val_main_v144 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) := by
  unfold val_main_v230
  unfold Cert.ReferenceTailIdeal.Read.val_main_v144
  rw [tail_143]

theorem tail_145 : val_main_v231 (F := Ideal) y0 y1 y2 y3 y4 y5 y6 y7 y8 y9 y10 y11 y12 y13 y14 y15 y16 y17 y18 y19 y20
    = Cert.ReferenceTailIdeal.Read.val_main_v145 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) := by
  unfold val_main_v231
  unfold Cert.ReferenceTailIdeal.Read.val_main_v145
  rw [tail_119, tail_144]

theorem tail_146 : val_main_v232 (F := Ideal) y0 y1 y2 y3 y4 y5 y6 y7 y8 y9 y10 y11 y12 y13 y14 y15 y16 y17 y18 y19 y20 y21
    = Cert.ReferenceTailIdeal.Read.val_main_v146 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) (val_main_v20 (F := Ideal) y21) := by
  unfold val_main_v232
  unfold Cert.ReferenceTailIdeal.Read.val_main_v146
  rw [tail_145]
  rfl

theorem tail_147 : val_main_v233 (F := Ideal) y22
    = Cert.ReferenceTailIdeal.Read.val_main_v147 (F := Ideal) (val_main_v21 (F := Ideal) y22) := by
  unfold val_main_v233
  unfold Cert.ReferenceTailIdeal.Read.val_main_v147
  rfl

theorem tail_148 : val_main_v234 (F := Ideal) y22
    = Cert.ReferenceTailIdeal.Read.val_main_v148 (F := Ideal) (val_main_v21 (F := Ideal) y22) := by
  unfold val_main_v234
  unfold Cert.ReferenceTailIdeal.Read.val_main_v148
  rw [tail_147]

theorem tail_149 : val_main_v235 (F := Ideal) y0 y1 y2 y3 y4 y5 y6 y7 y8 y9 y10 y11 y12 y13 y14 y15 y16 y17 y18 y19 y20 y21 y22
    = Cert.ReferenceTailIdeal.Read.val_main_v149 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) (val_main_v20 (F := Ideal) y21) (val_main_v21 (F := Ideal) y22) := by
  unfold val_main_v235
  unfold Cert.ReferenceTailIdeal.Read.val_main_v149
  rw [tail_146, tail_148]

theorem tail_150 : val_main_v236 (F := Ideal) y0 y1 y2 y3 y4 y5 y6 y7 y8 y9 y10 y11 y12 y13 y14 y15 y16 y17 y18 y19 y20 y21 y22
    = Cert.ReferenceTailIdeal.Read.val_main_v150 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) (val_main_v20 (F := Ideal) y21) (val_main_v21 (F := Ideal) y22) := by
  unfold val_main_v236 val_main_call7_v0 val_main_call7_cst
  unfold Cert.ReferenceTailIdeal.Read.val_main_v150 Cert.ReferenceTailIdeal.Read.val_main_call5_v0 Cert.ReferenceTailIdeal.Read.val_main_call5_cst
  rw [tail_149]

theorem tail_151 : val_main_v237 (F := Ideal) y0 y1 y2 y3 y4 y5 y6 y7 y8 y9 y10 y11 y12 y13 y14 y15 y16 y17 y18 y19 y20 y21 y22 y23
    = Cert.ReferenceTailIdeal.Read.val_main_v151 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) (val_main_v20 (F := Ideal) y21) (val_main_v21 (F := Ideal) y22) (val_main_v22 (F := Ideal) y23) := by
  unfold val_main_v237
  unfold Cert.ReferenceTailIdeal.Read.val_main_v151
  rw [tail_150]
  rfl

theorem tail_152 : val_main_v238 (F := Ideal) y24
    = Cert.ReferenceTailIdeal.Read.val_main_v152 (F := Ideal) (val_main_v23 (F := Ideal) y24) := by
  unfold val_main_v238
  unfold Cert.ReferenceTailIdeal.Read.val_main_v152
  rfl

theorem tail_153 : val_main_v239 (F := Ideal) y24
    = Cert.ReferenceTailIdeal.Read.val_main_v153 (F := Ideal) (val_main_v23 (F := Ideal) y24) := by
  unfold val_main_v239
  unfold Cert.ReferenceTailIdeal.Read.val_main_v153
  rw [tail_152]

theorem tail_154 : val_main_v240 (F := Ideal) y0 y1 y2 y3 y4 y5 y6 y7 y8 y9 y10 y11 y12 y13 y14 y15 y16 y17 y18 y19 y20 y21 y22 y23 y24
    = Cert.ReferenceTailIdeal.Read.val_main_v154 (F := Ideal) (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) (val_main_v20 (F := Ideal) y21) (val_main_v21 (F := Ideal) y22) (val_main_v22 (F := Ideal) y23) (val_main_v23 (F := Ideal) y24) := by
  unfold val_main_v240
  unfold Cert.ReferenceTailIdeal.Read.val_main_v154
  rw [tail_151, tail_153]

end Cert.ReferenceCIdeal
-- ==== Proof.ConstR.lean ====
/-
  The reference's first class logit on the numbers given.
-/
module

public import proofs.«01_k».proof.Proof.RefFirst
public import proofs.«01_k».proof.Proof.RefWhole
public import proofs.«01_k».proof.Proof.Const

@[expose] public section

set_option maxRecDepth 16384

noncomputable section

namespace Cert.ReferenceCIdeal

open Cert.ReferenceCIdeal.Gen Cert.ReferenceCIdeal.Read
open Idealize.ShloMosaic

theorem edge_one (r s : ℕ) : edge ((1 : ℝ) : EReal) r s = ((if (1 ≤ r ∧ r - 1 < 512) ∧ 1 ≤ s ∧ s - 1 < 512 then 1 else 0 : ℝ) : EReal) := by
  unfold edge
  split_ifs <;> simp

theorem tap_one (i j p q : ℕ) : tapVal ((1 : ℝ) : EReal) ((1 / 32 : ℝ) : EReal) i j p q
    = ((3 * ((if (1 ≤ 2 * i + p ∧ 2 * i + p - 1 < 512) ∧ 1 ≤ 2 * j + q ∧ 2 * j + q - 1 < 512 then 1 else 0) * (1 / 32)) : ℝ) : EReal) := by
  unfold tapVal
  simp only [edge_one, ← EReal.coe_mul, Spec.sum_same]
  norm_num

/-- The convolution in the first rows. -/
theorem conv_one (i j : ℕ) (hi : i < 16) (hj : j < 256) : convVal ((1 : ℝ) : EReal) ((1 / 32 : ℝ) : EReal) 0 i j
    = (((if i = 0 then 2 / 3 else 1) * (if j = 0 then 9 / 16 else 27 / 32) : ℝ) : EReal) := by
  unfold convVal
  simp only [tap_one, zero_add, add_zero, ← EReal.coe_add]
  have e : ∀ p q : ℕ, p < 3 → q < 3 → ((1 ≤ 2 * i + p ∧ 2 * i + p - 1 < 512) ∧ 1 ≤ 2 * j + q ∧ 2 * j + q - 1 < 512 ↔ ¬ (i = 0 ∧ p = 0) ∧ ¬ (j = 0 ∧ q = 0)) :=
    fun p q hp hq => by omega
  rw [Spec.relu_coe (by positivity)]
  refine congrArg _ ?_
  have e00 := e 0 0 (by decide) (by decide)
  have e01 := e 0 1 (by decide) (by decide)
  have e02 := e 0 2 (by decide) (by decide)
  have e10 := e 1 0 (by decide) (by decide)
  have e11 := e 1 1 (by decide) (by decide)
  have e12 := e 1 2 (by decide) (by decide)
  have e20 := e 2 0 (by decide) (by decide)
  have e21 := e 2 1 (by decide) (by decide)
  have e22 := e 2 2 (by decide) (by decide)
  simp only [add_zero] at e00 e01 e02 e10 e20
  simp only [e00, e01, e02, e10, e11, e12, e20, e21, e22]
  by_cases h0 : i = 0 <;> by_cases h1 : j = 0 <;> simp [h0, h1] <;> norm_num

variable (y0 y1 y2 y3 y4 y5 y6 y7 y8 y9 y10 y11 y12 y13 y14 y15 y16 y17 y18 y19 y20 y21 y22 y23 y24 y25 y26 : (⟨S_, .f32⟩ : BufTy).Contents (Elt Ideal))

/-- The first convolution of the reference: its first row lacks the row above the image. -/
theorem band_r (h0 : y0 ix0 = ((1 : ℝ) : EReal)) (h2 : y2 ix0 = ((1 / 32 : ℝ) : EReal)) (h3 : y3 ix0 = 0) :
    Spec.Banded (2 / 3) fun i j l => acts y0 y2 y3 (ix4 (0 : Fin 8) i j l) := by
  intro i j l hi
  refine (first_sum y0 y2 y3 0 i (⟨2 * j.val + l.val / 64, by omega⟩ : Fin 256) (⟨l.val % 64, by omega⟩ : Fin 64)).trans ?_
  rw [h0, h2, h3, conv_one _ _ hi (by simp only []; omega)]
  unfold Spec.lane
  have e : 2 * j.val + l.val / 64 = 0 ↔ j.val = 0 ∧ l.val < 64 := by omega
  simp only [e]

/-- The numbers of the reference's arguments. -/
abbrev Numbers : Prop := Spec.Given (y0 ix0) (y2 ix0) (y3 ix0) (y4 ix0) (y5 ix0) (y6 ix0) (y7 ix0) (y8 ix0) (y9 ix0) (y10 ix0) (y15 ix0) (y16 ix0) (y17 ix0) (y18 ix0) (y19 ix0) (y20 ix0) (y21 ix0) (y22 ix0) (y23 ix0) (y24 ix0)

theorem plain_r (h : Numbers y0 y2 y3 y4 y5 y6 y7 y8 y9 y10 y15 y16 y17 y18 y19 y20 y21 y22 y23 y24) : Spec.Plain (Cert.ReferenceTailIdeal.net (acts y0 y2 y3) (val_main_v178 (F := Ideal) y1) (val_main_v4 (F := Ideal) y4) (val_main_v5 (F := Ideal) y5) (val_main_v6 (F := Ideal) y6) (val_main_v7 (F := Ideal) y7) (val_main_v8 (F := Ideal) y8) (val_main_v9 (F := Ideal) y9) y10 (val_main_v10 (F := Ideal) y11) (val_main_v11 (F := Ideal) y12) (val_main_v12 (F := Ideal) y13) (val_main_v13 (F := Ideal) y14) (val_main_v14 (F := Ideal) y15) (val_main_v15 (F := Ideal) y16) (val_main_v16 (F := Ideal) y17) (val_main_v17 (F := Ideal) y18) (val_main_v18 (F := Ideal) y19) (val_main_v19 (F := Ideal) y20) (val_main_v20 (F := Ideal) y21) (val_main_v21 (F := Ideal) y22) (val_main_v22 (F := Ideal) y23) (val_main_v23 (F := Ideal) y24) (val_main_v24 (F := Ideal) y25) (val_main_v25 (F := Ideal) y26)) where
  w _ _ _ _ := (val_main_v4_apply _ _).trans ((one_number y4 _ _).trans h.e4)
  wb _ := (val_main_v5_apply _ _).trans ((one_number y5 _ _).trans h.e5)
  aw1 _ _ := (val_main_v6_apply _ _).trans ((one_number y6 _ _).trans h.e6)
  ab1 _ := (val_main_v7_apply _ _).trans ((one_number y7 _ _).trans h.e7)
  aw2 _ := (val_main_v8_apply _ _).trans ((one_number y8 _ _).trans h.e8)
  ab2 := (val_main_v9_apply _ _).trans ((one_number y9 _ _).trans h.e9)
  thr := h.e10
  bw3 _ _ := (val_main_v14_apply _ _).trans ((one_number y15 _ _).trans h.e15)
  bb3 _ := (val_main_v15_apply _ _).trans ((one_number y16 _ _).trans h.e16)
  sw _ _ := (val_main_v16_apply _ _).trans ((one_number y17 _ _).trans h.e17)
  sb _ := (val_main_v17_apply _ _).trans ((one_number y18 _ _).trans h.e18)
  gw _ _ := (val_main_v18_apply _ _).trans ((one_number y19 _ _).trans h.e19)
  gb _ := (val_main_v19_apply _ _).trans ((one_number y20 _ _).trans h.e20)
  dw _ _ := (val_main_v20_apply _ _).trans ((one_number y21 _ _).trans h.e21)
  db _ := (val_main_v21_apply _ _).trans ((one_number y22 _ _).trans h.e22)
  cw _ _ := (val_main_v22_apply _ _).trans ((one_number y23 _ _).trans h.e23)
  cb _ := (val_main_v23_apply _ _).trans ((one_number y24 _ _).trans h.e24)

/-- The reference's first class logit. -/
theorem cls_r (h : Numbers y0 y2 y3 y4 y5 y6 y7 y8 y9 y10 y15 y16 y17 y18 y19 y20 y21 y22 y23 y24) : val_main_v240 (F := Ideal) y0 y1 y2 y3 y4 y5 y6 y7 y8 y9 y10 y11 y12 y13 y14 y15 y16 y17 y18 y19 y20 y21 y22 y23 y24 (ix3 (0 : Fin 8) (0 : Fin 256) (0 : Fin 80))
    = (Spec.logit ((2 / 3 + 22) * 612 / 16384) : EReal) := by
  rw [tail_154, Cert.ReferenceTailIdeal.cls_eq _ _ _ _ _ _ _ _ _ _ _ _ _ _ _ _ _ _ _ _ _ _ _ (val_main_v24 (F := Ideal) y0) (val_main_v25 (F := Ideal) y0)]
  exact Spec.cls_plain (plain_r y0 y1 y2 y3 y4 y5 y6 y7 y8 y9 y10 y11 y12 y13 y14 y15 y16 y17 y18 y19 y20 y21 y22 y23 y24 y0 y0 h) (by norm_num) (band_r y0 y2 y3 h.e0 h.e2 h.e3)

end Cert.ReferenceCIdeal
-- ==== Proof.Counter.lean ====
/-
  The kernel as a whole is not the reference: on the numbers given the first class logits differ.
-/
module

public import proofs.«01_k».proof.Defs
public import proofs.«01_k».proof.Proof.Gen.KernelCIdeal
public import proofs.«01_k».proof.Proof.Gen.ReferenceCIdeal
public import proofs.«01_k».proof.Proof.Gen.ReferenceCIdeal.Run
public import proofs.«01_k».proof.Proof.Gen.ReferenceCIdeal.Read
public import proofs.«01_k».proof.Proof.WholeRun
public import proofs.«01_k».proof.Proof.ConstK
public import proofs.«01_k».proof.Proof.ConstR

@[expose] public section

set_option maxRecDepth 16384

noncomputable section

namespace Cert.Proof

open Idealize.ShloMosaic Idealize.SL.Sem
open Idealize.ShloMosaic.StableHlo (launchContents)

/-- The two first logits, of an image whose first convolution is one row off and of one where it is not, differ. -/
theorem logits_differ : ((Spec.logit ((1 + 22) * 612 / 16384) : ℝ) : EReal) ≠ ((Spec.logit ((2 / 3 + 22) * 612 / 16384) : ℝ) : EReal) := by
  intro h
  have h' := Spec.logit_inj (EReal.coe_injective h)
  norm_num at h'

/-- The reference's first result from the contents `m'`. -/
def refCls (m' : (ℓ : Loc Cert.ReferenceCIdeal.nD Cert.ReferenceCIdeal.τ Cert.ReferenceCIdeal.sig) → Buf (Elt Ideal) ℓ) (c : Dev Cert.ReferenceCIdeal.nD) :
    Buf (Elt Ideal) ((c.tc : Thread Cert.ReferenceCIdeal.nD Cert.ReferenceCIdeal.τ).loc Cert.ReferenceCIdeal.main_v240) :=
  Cert.ReferenceCIdeal.Read.val_main_v240 (F := Ideal) (launchContents m' c (Proc.devRef .tc Cert.ReferenceCIdeal.main_arg0)) (launchContents m' c (Proc.devRef .tc Cert.ReferenceCIdeal.main_arg1)) (launchContents m' c (Proc.devRef .tc Cert.ReferenceCIdeal.main_arg2)) (launchContents m' c (Proc.devRef .tc Cert.ReferenceCIdeal.main_arg3)) (launchContents m' c (Proc.devRef .tc Cert.ReferenceCIdeal.main_arg4)) (launchContents m' c (Proc.devRef .tc Cert.ReferenceCIdeal.main_arg5)) (launchContents m' c (Proc.devRef .tc Cert.ReferenceCIdeal.main_arg6)) (launchContents m' c (Proc.devRef .tc Cert.ReferenceCIdeal.main_arg7)) (launchContents m' c (Proc.devRef .tc Cert.ReferenceCIdeal.main_arg8)) (launchContents m' c (Proc.devRef .tc Cert.ReferenceCIdeal.main_arg9)) (launchContents m' c (Proc.devRef .tc Cert.ReferenceCIdeal.main_arg10)) (launchContents m' c (Proc.devRef .tc Cert.ReferenceCIdeal.main_arg11)) (launchContents m' c (Proc.devRef .tc Cert.ReferenceCIdeal.main_arg12)) (launchContents m' c (Proc.devRef .tc Cert.ReferenceCIdeal.main_arg13)) (launchContents m' c (Proc.devRef .tc Cert.ReferenceCIdeal.main_arg14)) (launchContents m' c (Proc.devRef .tc Cert.ReferenceCIdeal.main_arg15)) (launchContents m' c (Proc.devRef .tc Cert.ReferenceCIdeal.main_arg16)) (launchContents m' c (Proc.devRef .tc Cert.ReferenceCIdeal.main_arg17)) (launchContents m' c (Proc.devRef .tc Cert.ReferenceCIdeal.main_arg18)) (launchContents m' c (Proc.devRef .tc Cert.ReferenceCIdeal.main_arg19)) (launchContents m' c (Proc.devRef .tc Cert.ReferenceCIdeal.main_arg20)) (launchContents m' c (Proc.devRef .tc Cert.ReferenceCIdeal.main_arg21)) (launchContents m' c (Proc.devRef .tc Cert.ReferenceCIdeal.main_arg22)) (launchContents m' c (Proc.devRef .tc Cert.ReferenceCIdeal.main_arg23)) (launchContents m' c (Proc.devRef .tc Cert.ReferenceCIdeal.main_arg24))

/-- The reference's second result from the contents `m'`. -/
def refReg (m' : (ℓ : Loc Cert.ReferenceCIdeal.nD Cert.ReferenceCIdeal.τ Cert.ReferenceCIdeal.sig) → Buf (Elt Ideal) ℓ) (c : Dev Cert.ReferenceCIdeal.nD) :
    Buf (Elt Ideal) ((c.tc : Thread Cert.ReferenceCIdeal.nD Cert.ReferenceCIdeal.τ).loc Cert.ReferenceCIdeal.main_v244) :=
  Cert.ReferenceCIdeal.Read.val_main_v244 (F := Ideal) (launchContents m' c (Proc.devRef .tc Cert.ReferenceCIdeal.main_arg0)) (launchContents m' c (Proc.devRef .tc Cert.ReferenceCIdeal.main_arg1)) (launchContents m' c (Proc.devRef .tc Cert.ReferenceCIdeal.main_arg2)) (launchContents m' c (Proc.devRef .tc Cert.ReferenceCIdeal.main_arg3)) (launchContents m' c (Proc.devRef .tc Cert.ReferenceCIdeal.main_arg4)) (launchContents m' c (Proc.devRef .tc Cert.ReferenceCIdeal.main_arg5)) (launchContents m' c (Proc.devRef .tc Cert.ReferenceCIdeal.main_arg6)) (launchContents m' c (Proc.devRef .tc Cert.ReferenceCIdeal.main_arg7)) (launchContents m' c (Proc.devRef .tc Cert.ReferenceCIdeal.main_arg8)) (launchContents m' c (Proc.devRef .tc Cert.ReferenceCIdeal.main_arg9)) (launchContents m' c (Proc.devRef .tc Cert.ReferenceCIdeal.main_arg10)) (launchContents m' c (Proc.devRef .tc Cert.ReferenceCIdeal.main_arg11)) (launchContents m' c (Proc.devRef .tc Cert.ReferenceCIdeal.main_arg12)) (launchContents m' c (Proc.devRef .tc Cert.ReferenceCIdeal.main_arg13)) (launchContents m' c (Proc.devRef .tc Cert.ReferenceCIdeal.main_arg14)) (launchContents m' c (Proc.devRef .tc Cert.ReferenceCIdeal.main_arg15)) (launchContents m' c (Proc.devRef .tc Cert.ReferenceCIdeal.main_arg16)) (launchContents m' c (Proc.devRef .tc Cert.ReferenceCIdeal.main_arg17)) (launchContents m' c (Proc.devRef .tc Cert.ReferenceCIdeal.main_arg18)) (launchContents m' c (Proc.devRef .tc Cert.ReferenceCIdeal.main_arg19)) (launchContents m' c (Proc.devRef .tc Cert.ReferenceCIdeal.main_arg20)) (launchContents m' c (Proc.devRef .tc Cert.ReferenceCIdeal.main_arg21)) (launchContents m' c (Proc.devRef .tc Cert.ReferenceCIdeal.main_arg22)) (launchContents m' c (Proc.devRef .tc Cert.ReferenceCIdeal.main_arg25)) (launchContents m' c (Proc.devRef .tc Cert.ReferenceCIdeal.main_arg26))

/-- The reference runs and leaves its two results. -/
theorem ref_run (m' : (ℓ : Loc Cert.ReferenceCIdeal.nD Cert.ReferenceCIdeal.τ Cert.ReferenceCIdeal.sig) → Buf (Elt Ideal) ℓ) (g' : Dev Cert.ReferenceCIdeal.nD → PrngReg) :
    θ_run (Cert.ReferenceCIdeal.defs (F := Ideal)) (onTc (τ := Cert.ReferenceCIdeal.τ) (Cert.ReferenceCIdeal.main (F := Ideal)))
      ⟨m', fun _ => 0, g'⟩ fun r => ∀ c : Dev Cert.ReferenceCIdeal.nD,
        r.2.mem ((c.tc : Thread Cert.ReferenceCIdeal.nD Cert.ReferenceCIdeal.τ).loc Cert.ReferenceCIdeal.main_v240) = refCls m' c
        ∧ r.2.mem ((c.tc : Thread Cert.ReferenceCIdeal.nD Cert.ReferenceCIdeal.τ).loc Cert.ReferenceCIdeal.main_v244) = refReg m' c :=
  (θ_run Cert.ReferenceCIdeal.defs _ _).mono
    (fun r h c => ⟨(h c).1.trans (Cert.ReferenceCIdeal.Read.val_main_v240_eq (launchContents m' c)),
      (h c).2.1.trans (Cert.ReferenceCIdeal.Read.val_main_v244_eq (launchContents m' c))⟩) (Cert.ReferenceCIdeal.Value.run m' g')

/-- The kernel's first result on the numbers given is not the reference's. -/
theorem disproof : disproves_algebraic_KernelCIdeal_ReferenceCIdeal (hKernelCIdeal := Cert.KernelCIdeal.Gen.facts)
    (hReferenceCIdeal := Cert.ReferenceCIdeal.Gen.facts) := by
  intro m g m' g' hcx hagree
  have given : ∀ c : Dev Cert.KernelCIdeal.nD, Cert.KernelCIdeal.Numbers m c := fun c => by
    obtain ⟨h0, h1, h2, h3, h4, h5, h6, h7, h8, h9, h10, h11, h12, h13, h14, h15, h16, h17, h18, h19, h20, h21, h22, h23, h24, h25, h26⟩ := hcx c
    exact {
      e0 := (congrFun h0 ix0).trans Spec.word_one
      e2 := (congrFun h2 ix0).trans Spec.word_32nd
      e3 := (congrFun h3 ix0).trans (Ideal.ofBits_zero .f32)
      e4 := (congrFun h4 ix0).trans Spec.word_512th
      e5 := (congrFun h5 ix0).trans (Ideal.ofBits_zero .f32)
      e6 := (congrFun h6 ix0).trans Spec.word_64th
      e7 := (congrFun h7 ix0).trans (Ideal.ofBits_zero .f32)
      e8 := (congrFun h8 ix0).trans Spec.word_32nd
      e9 := (congrFun h9 ix0).trans (Ideal.ofBits_zero .f32)
      e10 := (congrFun h10 ix0).trans Spec.word_half
      e15 := (congrFun h15 ix0).trans (Ideal.ofBits_zero .f32)
      e16 := (congrFun h16 ix0).trans Spec.word_one
      e17 := (congrFun h17 ix0).trans (Ideal.ofBits_zero .f32)
      e18 := (congrFun h18 ix0).trans (Ideal.ofBits_zero .f32)
      e19 := (congrFun h19 ix0).trans (Ideal.ofBits_zero .f32)
      e20 := (congrFun h20 ix0).trans (Ideal.ofBits_zero .f32)
      e21 := (congrFun h21 ix0).trans Spec.word_128th
      e22 := (congrFun h22 ix0).trans (Ideal.ofBits_zero .f32)
      e23 := (congrFun h23 ix0).trans Spec.word_256th
      e24 := (congrFun h24 ix0).trans (Ideal.ofBits_zero .f32) }
  refine ⟨trivial, ?_⟩
  refine ⟨fun c => refCls m' c, fun c => refReg m' c, ?_, ref_run m' g'⟩
  clear hcx
  refine (θ_run Cert.KernelCIdeal.defs _ _).mono (fun r h hall => ?_) (Cert.KernelCIdeal.run m g)
  obtain ⟨c⟩ : Nonempty (Dev Cert.KernelCIdeal.nD) := ⟨(0 : Fin 1)⟩
  have hg := hagree c
  clear hagree
  obtain ⟨a0, a1, a2, a3, a4, a5, a6, a7, a8, a9, a10, a11, a12, a13, a14, a15, a16, a17, a18, a19, a20, a21, a22, a23, a24, a25, a26⟩ := hg
  have k := given c
  have hk := congrFun (h c) (ix3 (0 : Fin 8) (0 : Fin 256) (0 : Fin 80))
  have hr := congrFun (hall c).1 (ix3 (0 : Fin 8) (0 : Fin 256) (0 : Fin 80))
  refine logits_differ (((Cert.KernelCIdeal.cls_k m c k).symm.trans hk.symm).trans (hr.trans ?_))
  refine Cert.ReferenceCIdeal.cls_r (launchContents m' c (Proc.devRef .tc Cert.ReferenceCIdeal.main_arg0)) (launchContents m' c (Proc.devRef .tc Cert.ReferenceCIdeal.main_arg1)) (launchContents m' c (Proc.devRef .tc Cert.ReferenceCIdeal.main_arg2)) (launchContents m' c (Proc.devRef .tc Cert.ReferenceCIdeal.main_arg3)) (launchContents m' c (Proc.devRef .tc Cert.ReferenceCIdeal.main_arg4)) (launchContents m' c (Proc.devRef .tc Cert.ReferenceCIdeal.main_arg5)) (launchContents m' c (Proc.devRef .tc Cert.ReferenceCIdeal.main_arg6)) (launchContents m' c (Proc.devRef .tc Cert.ReferenceCIdeal.main_arg7)) (launchContents m' c (Proc.devRef .tc Cert.ReferenceCIdeal.main_arg8)) (launchContents m' c (Proc.devRef .tc Cert.ReferenceCIdeal.main_arg9)) (launchContents m' c (Proc.devRef .tc Cert.ReferenceCIdeal.main_arg10)) (launchContents m' c (Proc.devRef .tc Cert.ReferenceCIdeal.main_arg11)) (launchContents m' c (Proc.devRef .tc Cert.ReferenceCIdeal.main_arg12)) (launchContents m' c (Proc.devRef .tc Cert.ReferenceCIdeal.main_arg13)) (launchContents m' c (Proc.devRef .tc Cert.ReferenceCIdeal.main_arg14)) (launchContents m' c (Proc.devRef .tc Cert.ReferenceCIdeal.main_arg15)) (launchContents m' c (Proc.devRef .tc Cert.ReferenceCIdeal.main_arg16)) (launchContents m' c (Proc.devRef .tc Cert.ReferenceCIdeal.main_arg17)) (launchContents m' c (Proc.devRef .tc Cert.ReferenceCIdeal.main_arg18)) (launchContents m' c (Proc.devRef .tc Cert.ReferenceCIdeal.main_arg19)) (launchContents m' c (Proc.devRef .tc Cert.ReferenceCIdeal.main_arg20)) (launchContents m' c (Proc.devRef .tc Cert.ReferenceCIdeal.main_arg21)) (launchContents m' c (Proc.devRef .tc Cert.ReferenceCIdeal.main_arg22)) (launchContents m' c (Proc.devRef .tc Cert.ReferenceCIdeal.main_arg23)) (launchContents m' c (Proc.devRef .tc Cert.ReferenceCIdeal.main_arg24)) ?_
  exact {
      e0 := (congrFun a0 ix0).trans k.e0
      e2 := (congrFun a2 ix0).trans k.e2
      e3 := (congrFun a3 ix0).trans k.e3
      e4 := (congrFun a4 ix0).trans k.e4
      e5 := (congrFun a5 ix0).trans k.e5
      e6 := (congrFun a6 ix0).trans k.e6
      e7 := (congrFun a7 ix0).trans k.e7
      e8 := (congrFun a8 ix0).trans k.e8
      e9 := (congrFun a9 ix0).trans k.e9
      e10 := (congrFun a10 ix0).trans k.e10
      e15 := (congrFun a15 ix0).trans k.e15
      e16 := (congrFun a16 ix0).trans k.e16
      e17 := (congrFun a17 ix0).trans k.e17
      e18 := (congrFun a18 ix0).trans k.e18
      e19 := (congrFun a19 ix0).trans k.e19
      e20 := (congrFun a20 ix0).trans k.e20
      e21 := (congrFun a21 ix0).trans k.e21
      e22 := (congrFun a22 ix0).trans k.e22
      e23 := (congrFun a23 ix0).trans k.e23
      e24 := (congrFun a24 ix0).trans k.e24 }

end Cert.Proof
-- ==== Proof.lean ====
/- The claims of this certificate, assembled from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.ReferenceIdeal
public import proofs.«01_k».proof.Proof.Gen.ReferenceIdeal.Run
public import proofs.«01_k».proof.Proof.Gen.ReferenceTailIdeal
public import proofs.«01_k».proof.Proof.Gen.ReferenceTailIdeal.Read
public import proofs.«01_k».proof.Proof.Gen.KernelC
public import proofs.«01_k».proof.Proof.Gen.KernelC.Skeleton
public import proofs.«01_k».proof.Proof.Gen.KernelC.Launch
public import proofs.«01_k».proof.Proof.Gen.KernelC.Points
public import proofs.«01_k».proof.Proof.Gen.KernelC.Frame
public import proofs.«01_k».proof.Proof.Gen.KernelCIdeal
public import proofs.«01_k».proof.Proof.Gen.KernelCIdeal.Skeleton
public import proofs.«01_k».proof.Proof.Gen.KernelCIdeal.Launch
public import proofs.«01_k».proof.Proof.Gen.KernelCIdeal.Points
public import proofs.«01_k».proof.Proof.Gen.KernelCIdeal.Frame
public import proofs.«01_k».proof.Proof.Gen.ReferenceCIdeal
public import proofs.«01_k».proof.Proof.Gen.ReferenceCIdeal.Run
public import proofs.«01_k».proof.Proof.Gen.ReferenceCIdeal.Read
public import proofs.«01_k».proof.Proof.TailRun
public import proofs.«01_k».proof.Proof.RefHead
public import proofs.«01_k».proof.Proof.Counter
public import Idealize.ShloMosaic.Adequacy
public import Idealize.ShloMosaic.Init

@[expose] public section

noncomputable section

namespace Cert.Proof

open Idealize.ShloMosaic Idealize.SL.Sem
open Idealize.ShloMosaic.StableHlo (launchContents)

/-- The reference's frame: its run, with the results forgotten. -/
theorem frame_reference : quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Cert.ReferenceIdeal.Value.run m ρ)

/-- The frame of the reference for the last three calls. -/
theorem frame_referenceTail : quiescent_ReferenceTailIdeal (hReferenceTailIdeal := Cert.ReferenceTailIdeal.Gen.facts) := fun m ρ _ =>
  (θ_run Cert.ReferenceTailIdeal.defs _ _).mono
    (fun r h => ⟨fun c => (h c).2.2, sem_eq_zero_of_no_sems (by decide) r.2⟩) (Cert.ReferenceTailIdeal.Value.run m ρ)

/-- The frame of the reference over the numbers. -/
theorem frame_referenceC : quiescent_ReferenceCIdeal (hReferenceCIdeal := Cert.ReferenceCIdeal.Gen.facts) := fun m ρ _ =>
  (θ_run Cert.ReferenceCIdeal.defs _ _).mono
    (fun r h => ⟨fun c => (h c).2.2, sem_eq_zero_of_no_sems (by decide) r.2⟩) (Cert.ReferenceCIdeal.Value.run m ρ)

/-- Over the extended reals the last three calls and the plain network compute the same two results. -/
theorem algebraic_tail : algebraic_TailIdeal_ReferenceTailIdeal (hTailIdeal := Cert.TailIdeal.Gen.facts)
    (hReferenceTailIdeal := Cert.ReferenceTailIdeal.Gen.facts) := fun m g m' g' _ hagree => by
  have hnet : ∀ c : Dev Cert.TailIdeal.nD, Cert.ReferenceTailIdeal.net (launchContents m' c (Proc.devRef .tc Cert.ReferenceTailIdeal.main_arg0))
      (launchContents m' c (Proc.devRef .tc Cert.ReferenceTailIdeal.main_arg1))
      (launchContents m' c (Proc.devRef .tc Cert.ReferenceTailIdeal.main_arg2))
      (launchContents m' c (Proc.devRef .tc Cert.ReferenceTailIdeal.main_arg3))
      (launchContents m' c (Proc.devRef .tc Cert.ReferenceTailIdeal.main_arg4))
      (launchContents m' c (Proc.devRef .tc Cert.ReferenceTailIdeal.main_arg5))
      (launchContents m' c (Proc.devRef .tc Cert.ReferenceTailIdeal.main_arg6))
      (launchContents m' c (Proc.devRef .tc Cert.ReferenceTailIdeal.main_arg7))
      (launchContents m' c (Proc.devRef .tc Cert.ReferenceTailIdeal.main_arg8))
      (launchContents m' c (Proc.devRef .tc Cert.ReferenceTailIdeal.main_arg9))
      (launchContents m' c (Proc.devRef .tc Cert.ReferenceTailIdeal.main_arg10))
      (launchContents m' c (Proc.devRef .tc Cert.ReferenceTailIdeal.main_arg11))
      (launchContents m' c (Proc.devRef .tc Cert.ReferenceTailIdeal.main_arg12))
      (launchContents m' c (Proc.devRef .tc Cert.ReferenceTailIdeal.main_arg13))
      (launchContents m' c (Proc.devRef .tc Cert.ReferenceTailIdeal.main_arg14))
      (launchContents m' c (Proc.devRef .tc Cert.ReferenceTailIdeal.main_arg15))
      (launchContents m' c (Proc.devRef .tc Cert.ReferenceTailIdeal.main_arg16))
      (launchContents m' c (Proc.devRef .tc Cert.ReferenceTailIdeal.main_arg17))
      (launchContents m' c (Proc.devRef .tc Cert.ReferenceTailIdeal.main_arg18))
      (launchContents m' c (Proc.devRef .tc Cert.ReferenceTailIdeal.main_arg19))
      (launchContents m' c (Proc.devRef .tc Cert.ReferenceTailIdeal.main_arg20))
      (launchContents m' c (Proc.devRef .tc Cert.ReferenceTailIdeal.main_arg21))
      (launchContents m' c (Proc.devRef .tc Cert.ReferenceTailIdeal.main_arg22))
      (launchContents m' c (Proc.devRef .tc Cert.ReferenceTailIdeal.main_arg23))
      (launchContents m' c (Proc.devRef .tc Cert.ReferenceTailIdeal.main_arg24))
      = Cert.TailIdeal.net m c := fun c => by
    obtain ⟨h0, h1, h2, h3, h4, h5, h6, h7, h8, h9, h10, h11, h12, h13, h14, h15, h16, h17, h18, h19, h20, h21, h22, h23, h24⟩ := hagree c
    show Cert.ReferenceTailIdeal.net (m' ((c.tc : Thread Cert.ReferenceTailIdeal.nD Cert.ReferenceTailIdeal.τ).loc Cert.ReferenceTailIdeal.main_arg0))
      (m' ((c.tc : Thread Cert.ReferenceTailIdeal.nD Cert.ReferenceTailIdeal.τ).loc Cert.ReferenceTailIdeal.main_arg1))
      (m' ((c.tc : Thread Cert.ReferenceTailIdeal.nD Cert.ReferenceTailIdeal.τ).loc Cert.ReferenceTailIdeal.main_arg2))
      (m' ((c.tc : Thread Cert.ReferenceTailIdeal.nD Cert.ReferenceTailIdeal.τ).loc Cert.ReferenceTailIdeal.main_arg3))
      (m' ((c.tc : Thread Cert.ReferenceTailIdeal.nD Cert.ReferenceTailIdeal.τ).loc Cert.ReferenceTailIdeal.main_arg4))
      (m' ((c.tc : Thread Cert.ReferenceTailIdeal.nD Cert.ReferenceTailIdeal.τ).loc Cert.ReferenceTailIdeal.main_arg5))
      (m' ((c.tc : Thread Cert.ReferenceTailIdeal.nD Cert.ReferenceTailIdeal.τ).loc Cert.ReferenceTailIdeal.main_arg6))
      (m' ((c.tc : Thread Cert.ReferenceTailIdeal.nD Cert.ReferenceTailIdeal.τ).loc Cert.ReferenceTailIdeal.main_arg7))
      (m' ((c.tc : Thread Cert.ReferenceTailIdeal.nD Cert.ReferenceTailIdeal.τ).loc Cert.ReferenceTailIdeal.main_arg8))
      (m' ((c.tc : Thread Cert.ReferenceTailIdeal.nD Cert.ReferenceTailIdeal.τ).loc Cert.ReferenceTailIdeal.main_arg9))
      (m' ((c.tc : Thread Cert.ReferenceTailIdeal.nD Cert.ReferenceTailIdeal.τ).loc Cert.ReferenceTailIdeal.main_arg10))
      (m' ((c.tc : Thread Cert.ReferenceTailIdeal.nD Cert.ReferenceTailIdeal.τ).loc Cert.ReferenceTailIdeal.main_arg11))
      (m' ((c.tc : Thread Cert.ReferenceTailIdeal.nD Cert.ReferenceTailIdeal.τ).loc Cert.ReferenceTailIdeal.main_arg12))
      (m' ((c.tc : Thread Cert.ReferenceTailIdeal.nD Cert.ReferenceTailIdeal.τ).loc Cert.ReferenceTailIdeal.main_arg13))
      (m' ((c.tc : Thread Cert.ReferenceTailIdeal.nD Cert.ReferenceTailIdeal.τ).loc Cert.ReferenceTailIdeal.main_arg14))
      (m' ((c.tc : Thread Cert.ReferenceTailIdeal.nD Cert.ReferenceTailIdeal.τ).loc Cert.ReferenceTailIdeal.main_arg15))
      (m' ((c.tc : Thread Cert.ReferenceTailIdeal.nD Cert.ReferenceTailIdeal.τ).loc Cert.ReferenceTailIdeal.main_arg16))
      (m' ((c.tc : Thread Cert.ReferenceTailIdeal.nD Cert.ReferenceTailIdeal.τ).loc Cert.ReferenceTailIdeal.main_arg17))
      (m' ((c.tc : Thread Cert.ReferenceTailIdeal.nD Cert.ReferenceTailIdeal.τ).loc Cert.ReferenceTailIdeal.main_arg18))
      (m' ((c.tc : Thread Cert.ReferenceTailIdeal.nD Cert.ReferenceTailIdeal.τ).loc Cert.ReferenceTailIdeal.main_arg19))
      (m' ((c.tc : Thread Cert.ReferenceTailIdeal.nD Cert.ReferenceTailIdeal.τ).loc Cert.ReferenceTailIdeal.main_arg20))
      (m' ((c.tc : Thread Cert.ReferenceTailIdeal.nD Cert.ReferenceTailIdeal.τ).loc Cert.ReferenceTailIdeal.main_arg21))
      (m' ((c.tc : Thread Cert.ReferenceTailIdeal.nD Cert.ReferenceTailIdeal.τ).loc Cert.ReferenceTailIdeal.main_arg22))
      (m' ((c.tc : Thread Cert.ReferenceTailIdeal.nD Cert.ReferenceTailIdeal.τ).loc Cert.ReferenceTailIdeal.main_arg23))
      (m' ((c.tc : Thread Cert.ReferenceTailIdeal.nD Cert.ReferenceTailIdeal.τ).loc Cert.ReferenceTailIdeal.main_arg24)) = _
    rw [h0, h1, h2, h3, h4, h5, h6, h7, h8, h9, h10, h11, h12, h13, h14, h15, h16, h17, h18, h19, h20, h21, h22, h23, h24]
    rfl
  refine ⟨fun c => (fun i : Cert.TailIdeal.S8x256x80.Idx => (Cert.TailIdeal.net m c).cls (i 0) (i 1) (i 2)),
    fun c => (fun i : Cert.TailIdeal.S8x256x4.Idx => (Cert.TailIdeal.net m c).reg (i 0) (i 1) (i 2)),
    Cert.TailIdeal.run m g, ?_⟩
  refine (θ_run Cert.ReferenceTailIdeal.defs _ _).mono (fun r h c => ?_) (Cert.ReferenceTailIdeal.Value.run m' g')
  obtain ⟨h0, h1, hr⟩ := h c
  refine ⟨h0.trans ?_, h1.trans ?_, hr⟩
  · refine (Cert.ReferenceTailIdeal.Read.val_main_v154_eq (launchContents m' c)).trans ?_
    refine (Cert.ReferenceTailIdeal.cls_eq _ _ _ _ _ _ _ _ _ _ _ _ _ _ _ _ _ _ _ _ _ _ _
      (launchContents m' c (Proc.devRef .tc Cert.ReferenceTailIdeal.main_arg23))
      (launchContents m' c (Proc.devRef .tc Cert.ReferenceTailIdeal.main_arg24))).trans ?_
    exact congrArg (fun N : Cert.Spec.Net => fun i : Cert.TailIdeal.S8x256x80.Idx => N.cls (i 0) (i 1) (i 2)) (hnet c)
  · refine (Cert.ReferenceTailIdeal.Read.val_main_v158_eq (launchContents m' c)).trans ?_
    refine (Cert.ReferenceTailIdeal.reg_eq _ _ _ _ _ _ _ _ _ _ _ _ _ _ _ _ _ _ _ _ _
      (launchContents m' c (Proc.devRef .tc Cert.ReferenceTailIdeal.main_arg21))
      (launchContents m' c (Proc.devRef .tc Cert.ReferenceTailIdeal.main_arg22)) _ _).trans ?_
    exact congrArg (fun N : Cert.Spec.Net => fun i : Cert.TailIdeal.S8x256x4.Idx => N.reg (i 0) (i 1) (i 2)) (hnet c)

/-- Every claim of the certificate. -/
theorem claim : Cert.Claim :=
  ⟨Cert.Kernel.Gen.facts, Cert.KernelIdeal.Gen.facts, Cert.ReferenceIdeal.Gen.facts, Cert.Tail.Gen.facts,
    Cert.TailIdeal.Gen.facts, Cert.ReferenceTailIdeal.Gen.facts, Cert.KernelC.Gen.facts, Cert.KernelCIdeal.Gen.facts,
    Cert.ReferenceCIdeal.Gen.facts,
    fun m ρ _ => Cert.Kernel.Gen.frame m ρ, fun m ρ _ => Cert.KernelIdeal.Gen.frame m ρ, frame_reference,
    fun m ρ _ => Cert.Tail.Gen.frame m ρ, fun m ρ _ => Cert.TailIdeal.Gen.frame m ρ, frame_referenceTail,
    fun m ρ _ => Cert.KernelC.Gen.frame m ρ, fun m ρ _ => Cert.KernelCIdeal.Gen.frame m ρ, frame_referenceC,
    trivial, trivial, algebraic_tail, trivial, disproof⟩

end Cert.Proof

end
